-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_MOut (m : (ℓ : Loc Cert.MOut.nD Cert.MOut.τ Cert.MOut.sig) → Buf (Elt Bits) ℓ) : Prop :=
  True

def Pre_MOutIdeal (m : (ℓ : Loc Cert.MOutIdeal.nD Cert.MOutIdeal.τ Cert.MOutIdeal.sig) → Buf (Elt Ideal) ℓ) : Prop :=
  True

def Pre_MOutRefIdeal (m : (ℓ : Loc Cert.MOutRefIdeal.nD Cert.MOutRefIdeal.τ Cert.MOutRefIdeal.sig) → Buf (Elt Ideal) ℓ) : Prop :=
  True

def Pre_SOut (m : (ℓ : Loc Cert.SOut.nD Cert.SOut.τ Cert.SOut.sig) → Buf (Elt Bits) ℓ) : Prop :=
  True

def Pre_SOutIdeal (m : (ℓ : Loc Cert.SOutIdeal.nD Cert.SOutIdeal.τ Cert.SOutIdeal.sig) → Buf (Elt Ideal) ℓ) : Prop :=
  True

def Pre_SOutRefIdeal (m : (ℓ : Loc Cert.SOutRefIdeal.nD Cert.SOutRefIdeal.τ Cert.SOutRefIdeal.sig) → Buf (Elt Ideal) ℓ) : Prop :=
  True

def Pre_MIn (m : (ℓ : Loc Cert.MIn.nD Cert.MIn.τ Cert.MIn.sig) → Buf (Elt Bits) ℓ) : Prop :=
  True

def Pre_MInIdeal (m : (ℓ : Loc Cert.MInIdeal.nD Cert.MInIdeal.τ Cert.MInIdeal.sig) → Buf (Elt Ideal) ℓ) : Prop :=
  True

def Pre_MInIdeal_rope_tables [hPre_rope_tables : Cert.Pre_rope_tables.Facts] (m : (ℓ : Loc Cert.MInIdeal.nD Cert.MInIdeal.τ Cert.MInIdeal.sig) → Buf (Elt Ideal) ℓ) : Prop :=
  ∀ c : Dev Cert.MInIdeal.nD,
    (Cert.Pre_rope_tables.fn (F := Ideal) (m ((c.tc : Thread Cert.MInIdeal.nD Cert.MInIdeal.τ).loc Cert.MInIdeal.main_arg0)) (m ((c.tc : Thread Cert.MInIdeal.nD Cert.MInIdeal.τ).loc Cert.MInIdeal.main_arg1)) (m ((c.tc : Thread Cert.MInIdeal.nD Cert.MInIdeal.τ).loc Cert.MInIdeal.main_arg2)) (m ((c.tc : Thread Cert.MInIdeal.nD Cert.MInIdeal.τ).loc Cert.MInIdeal.main_arg3)) (m ((c.tc : Thread Cert.MInIdeal.nD Cert.MInIdeal.τ).loc Cert.MInIdeal.main_arg4)) (m ((c.tc : Thread Cert.MInIdeal.nD Cert.MInIdeal.τ).loc Cert.MInIdeal.main_arg5)) (m ((c.tc : Thread Cert.MInIdeal.nD Cert.MInIdeal.τ).loc Cert.MInIdeal.main_arg6)) (m ((c.tc : Thread Cert.MInIdeal.nD Cert.MInIdeal.τ).loc Cert.MInIdeal.main_arg7))).1 = (fun _ => 1#1)
    ∧ (Cert.Pre_rope_tables.fn (F := Ideal) (m ((c.tc : Thread Cert.MInIdeal.nD Cert.MInIdeal.τ).loc Cert.MInIdeal.main_arg0)) (m ((c.tc : Thread Cert.MInIdeal.nD Cert.MInIdeal.τ).loc Cert.MInIdeal.main_arg1)) (m ((c.tc : Thread Cert.MInIdeal.nD Cert.MInIdeal.τ).loc Cert.MInIdeal.main_arg2)) (m ((c.tc : Thread Cert.MInIdeal.nD Cert.MInIdeal.τ).loc Cert.MInIdeal.main_arg3)) (m ((c.tc : Thread Cert.MInIdeal.nD Cert.MInIdeal.τ).loc Cert.MInIdeal.main_arg4)) (m ((c.tc : Thread Cert.MInIdeal.nD Cert.MInIdeal.τ).loc Cert.MInIdeal.main_arg5)) (m ((c.tc : Thread Cert.MInIdeal.nD Cert.MInIdeal.τ).loc Cert.MInIdeal.main_arg6)) (m ((c.tc : Thread Cert.MInIdeal.nD Cert.MInIdeal.τ).loc Cert.MInIdeal.main_arg7))).2.1 = (fun _ => 1#1)
    ∧ (Cert.Pre_rope_tables.fn (F := Ideal) (m ((c.tc : Thread Cert.MInIdeal.nD Cert.MInIdeal.τ).loc Cert.MInIdeal.main_arg0)) (m ((c.tc : Thread Cert.MInIdeal.nD Cert.MInIdeal.τ).loc Cert.MInIdeal.main_arg1)) (m ((c.tc : Thread Cert.MInIdeal.nD Cert.MInIdeal.τ).loc Cert.MInIdeal.main_arg2)) (m ((c.tc : Thread Cert.MInIdeal.nD Cert.MInIdeal.τ).loc Cert.MInIdeal.main_arg3)) (m ((c.tc : Thread Cert.MInIdeal.nD Cert.MInIdeal.τ).loc Cert.MInIdeal.main_arg4)) (m ((c.tc : Thread Cert.MInIdeal.nD Cert.MInIdeal.τ).loc Cert.MInIdeal.main_arg5)) (m ((c.tc : Thread Cert.MInIdeal.nD Cert.MInIdeal.τ).loc Cert.MInIdeal.main_arg6)) (m ((c.tc : Thread Cert.MInIdeal.nD Cert.MInIdeal.τ).loc Cert.MInIdeal.main_arg7))).2.2.1 = (fun _ => 1#1)
    ∧ (Cert.Pre_rope_tables.fn (F := Ideal) (m ((c.tc : Thread Cert.MInIdeal.nD Cert.MInIdeal.τ).loc Cert.MInIdeal.main_arg0)) (m ((c.tc : Thread Cert.MInIdeal.nD Cert.MInIdeal.τ).loc Cert.MInIdeal.main_arg1)) (m ((c.tc : Thread Cert.MInIdeal.nD Cert.MInIdeal.τ).loc Cert.MInIdeal.main_arg2)) (m ((c.tc : Thread Cert.MInIdeal.nD Cert.MInIdeal.τ).loc Cert.MInIdeal.main_arg3)) (m ((c.tc : Thread Cert.MInIdeal.nD Cert.MInIdeal.τ).loc Cert.MInIdeal.main_arg4)) (m ((c.tc : Thread Cert.MInIdeal.nD Cert.MInIdeal.τ).loc Cert.MInIdeal.main_arg5)) (m ((c.tc : Thread Cert.MInIdeal.nD Cert.MInIdeal.τ).loc Cert.MInIdeal.main_arg6)) (m ((c.tc : Thread Cert.MInIdeal.nD Cert.MInIdeal.τ).loc Cert.MInIdeal.main_arg7))).2.2.2.1 = (fun _ => 1#1)
    ∧ (Cert.Pre_rope_tables.fn (F := Ideal) (m ((c.tc : Thread Cert.MInIdeal.nD Cert.MInIdeal.τ).loc Cert.MInIdeal.main_arg0)) (m ((c.tc : Thread Cert.MInIdeal.nD Cert.MInIdeal.τ).loc Cert.MInIdeal.main_arg1)) (m ((c.tc : Thread Cert.MInIdeal.nD Cert.MInIdeal.τ).loc Cert.MInIdeal.main_arg2)) (m ((c.tc : Thread Cert.MInIdeal.nD Cert.MInIdeal.τ).loc Cert.MInIdeal.main_arg3)) (m ((c.tc : Thread Cert.MInIdeal.nD Cert.MInIdeal.τ).loc Cert.MInIdeal.main_arg4)) (m ((c.tc : Thread Cert.MInIdeal.nD Cert.MInIdeal.τ).loc Cert.MInIdeal.main_arg5)) (m ((c.tc : Thread Cert.MInIdeal.nD Cert.MInIdeal.τ).loc Cert.MInIdeal.main_arg6)) (m ((c.tc : Thread Cert.MInIdeal.nD Cert.MInIdeal.τ).loc Cert.MInIdeal.main_arg7))).2.2.2.2.1 = (fun _ => 1#1)
    ∧ (Cert.Pre_rope_tables.fn (F := Ideal) (m ((c.tc : Thread Cert.MInIdeal.nD Cert.MInIdeal.τ).loc Cert.MInIdeal.main_arg0)) (m ((c.tc : Thread Cert.MInIdeal.nD Cert.MInIdeal.τ).loc Cert.MInIdeal.main_arg1)) (m ((c.tc : Thread Cert.MInIdeal.nD Cert.MInIdeal.τ).loc Cert.MInIdeal.main_arg2)) (m ((c.tc : Thread Cert.MInIdeal.nD Cert.MInIdeal.τ).loc Cert.MInIdeal.main_arg3)) (m ((c.tc : Thread Cert.MInIdeal.nD Cert.MInIdeal.τ).loc Cert.MInIdeal.main_arg4)) (m ((c.tc : Thread Cert.MInIdeal.nD Cert.MInIdeal.τ).loc Cert.MInIdeal.main_arg5)) (m ((c.tc : Thread Cert.MInIdeal.nD Cert.MInIdeal.τ).loc Cert.MInIdeal.main_arg6)) (m ((c.tc : Thread Cert.MInIdeal.nD Cert.MInIdeal.τ).loc Cert.MInIdeal.main_arg7))).2.2.2.2.2 = (fun _ => 1#1)

def Pre_MInRefIdeal (m : (ℓ : Loc Cert.MInRefIdeal.nD Cert.MInRefIdeal.τ Cert.MInRefIdeal.sig) → Buf (Elt Ideal) ℓ) : Prop :=
  True

def Pre_MInRefIdeal_rope_tables [hPre_rope_tables : Cert.Pre_rope_tables.Facts] (m : (ℓ : Loc Cert.MInRefIdeal.nD Cert.MInRefIdeal.τ Cert.MInRefIdeal.sig) → Buf (Elt Ideal) ℓ) : Prop :=
  ∀ c : Dev Cert.MInRefIdeal.nD,
    (Cert.Pre_rope_tables.fn (F := Ideal) (m ((c.tc : Thread Cert.MInRefIdeal.nD Cert.MInRefIdeal.τ).loc Cert.MInRefIdeal.main_arg0)) (m ((c.tc : Thread Cert.MInRefIdeal.nD Cert.MInRefIdeal.τ).loc Cert.MInRefIdeal.main_arg1)) (m ((c.tc : Thread Cert.MInRefIdeal.nD Cert.MInRefIdeal.τ).loc Cert.MInRefIdeal.main_arg2)) (m ((c.tc : Thread Cert.MInRefIdeal.nD Cert.MInRefIdeal.τ).loc Cert.MInRefIdeal.main_arg3)) (m ((c.tc : Thread Cert.MInRefIdeal.nD Cert.MInRefIdeal.τ).loc Cert.MInRefIdeal.main_arg4)) (m ((c.tc : Thread Cert.MInRefIdeal.nD Cert.MInRefIdeal.τ).loc Cert.MInRefIdeal.main_arg5)) (m ((c.tc : Thread Cert.MInRefIdeal.nD Cert.MInRefIdeal.τ).loc Cert.MInRefIdeal.main_arg6)) (m ((c.tc : Thread Cert.MInRefIdeal.nD Cert.MInRefIdeal.τ).loc Cert.MInRefIdeal.main_arg7))).1 = (fun _ => 1#1)
    ∧ (Cert.Pre_rope_tables.fn (F := Ideal) (m ((c.tc : Thread Cert.MInRefIdeal.nD Cert.MInRefIdeal.τ).loc Cert.MInRefIdeal.main_arg0)) (m ((c.tc : Thread Cert.MInRefIdeal.nD Cert.MInRefIdeal.τ).loc Cert.MInRefIdeal.main_arg1)) (m ((c.tc : Thread Cert.MInRefIdeal.nD Cert.MInRefIdeal.τ).loc Cert.MInRefIdeal.main_arg2)) (m ((c.tc : Thread Cert.MInRefIdeal.nD Cert.MInRefIdeal.τ).loc Cert.MInRefIdeal.main_arg3)) (m ((c.tc : Thread Cert.MInRefIdeal.nD Cert.MInRefIdeal.τ).loc Cert.MInRefIdeal.main_arg4)) (m ((c.tc : Thread Cert.MInRefIdeal.nD Cert.MInRefIdeal.τ).loc Cert.MInRefIdeal.main_arg5)) (m ((c.tc : Thread Cert.MInRefIdeal.nD Cert.MInRefIdeal.τ).loc Cert.MInRefIdeal.main_arg6)) (m ((c.tc : Thread Cert.MInRefIdeal.nD Cert.MInRefIdeal.τ).loc Cert.MInRefIdeal.main_arg7))).2.1 = (fun _ => 1#1)
    ∧ (Cert.Pre_rope_tables.fn (F := Ideal) (m ((c.tc : Thread Cert.MInRefIdeal.nD Cert.MInRefIdeal.τ).loc Cert.MInRefIdeal.main_arg0)) (m ((c.tc : Thread Cert.MInRefIdeal.nD Cert.MInRefIdeal.τ).loc Cert.MInRefIdeal.main_arg1)) (m ((c.tc : Thread Cert.MInRefIdeal.nD Cert.MInRefIdeal.τ).loc Cert.MInRefIdeal.main_arg2)) (m ((c.tc : Thread Cert.MInRefIdeal.nD Cert.MInRefIdeal.τ).loc Cert.MInRefIdeal.main_arg3)) (m ((c.tc : Thread Cert.MInRefIdeal.nD Cert.MInRefIdeal.τ).loc Cert.MInRefIdeal.main_arg4)) (m ((c.tc : Thread Cert.MInRefIdeal.nD Cert.MInRefIdeal.τ).loc Cert.MInRefIdeal.main_arg5)) (m ((c.tc : Thread Cert.MInRefIdeal.nD Cert.MInRefIdeal.τ).loc Cert.MInRefIdeal.main_arg6)) (m ((c.tc : Thread Cert.MInRefIdeal.nD Cert.MInRefIdeal.τ).loc Cert.MInRefIdeal.main_arg7))).2.2.1 = (fun _ => 1#1)
    ∧ (Cert.Pre_rope_tables.fn (F := Ideal) (m ((c.tc : Thread Cert.MInRefIdeal.nD Cert.MInRefIdeal.τ).loc Cert.MInRefIdeal.main_arg0)) (m ((c.tc : Thread Cert.MInRefIdeal.nD Cert.MInRefIdeal.τ).loc Cert.MInRefIdeal.main_arg1)) (m ((c.tc : Thread Cert.MInRefIdeal.nD Cert.MInRefIdeal.τ).loc Cert.MInRefIdeal.main_arg2)) (m ((c.tc : Thread Cert.MInRefIdeal.nD Cert.MInRefIdeal.τ).loc Cert.MInRefIdeal.main_arg3)) (m ((c.tc : Thread Cert.MInRefIdeal.nD Cert.MInRefIdeal.τ).loc Cert.MInRefIdeal.main_arg4)) (m ((c.tc : Thread Cert.MInRefIdeal.nD Cert.MInRefIdeal.τ).loc Cert.MInRefIdeal.main_arg5)) (m ((c.tc : Thread Cert.MInRefIdeal.nD Cert.MInRefIdeal.τ).loc Cert.MInRefIdeal.main_arg6)) (m ((c.tc : Thread Cert.MInRefIdeal.nD Cert.MInRefIdeal.τ).loc Cert.MInRefIdeal.main_arg7))).2.2.2.1 = (fun _ => 1#1)
    ∧ (Cert.Pre_rope_tables.fn (F := Ideal) (m ((c.tc : Thread Cert.MInRefIdeal.nD Cert.MInRefIdeal.τ).loc Cert.MInRefIdeal.main_arg0)) (m ((c.tc : Thread Cert.MInRefIdeal.nD Cert.MInRefIdeal.τ).loc Cert.MInRefIdeal.main_arg1)) (m ((c.tc : Thread Cert.MInRefIdeal.nD Cert.MInRefIdeal.τ).loc Cert.MInRefIdeal.main_arg2)) (m ((c.tc : Thread Cert.MInRefIdeal.nD Cert.MInRefIdeal.τ).loc Cert.MInRefIdeal.main_arg3)) (m ((c.tc : Thread Cert.MInRefIdeal.nD Cert.MInRefIdeal.τ).loc Cert.MInRefIdeal.main_arg4)) (m ((c.tc : Thread Cert.MInRefIdeal.nD Cert.MInRefIdeal.τ).loc Cert.MInRefIdeal.main_arg5)) (m ((c.tc : Thread Cert.MInRefIdeal.nD Cert.MInRefIdeal.τ).loc Cert.MInRefIdeal.main_arg6)) (m ((c.tc : Thread Cert.MInRefIdeal.nD Cert.MInRefIdeal.τ).loc Cert.MInRefIdeal.main_arg7))).2.2.2.2.1 = (fun _ => 1#1)
    ∧ (Cert.Pre_rope_tables.fn (F := Ideal) (m ((c.tc : Thread Cert.MInRefIdeal.nD Cert.MInRefIdeal.τ).loc Cert.MInRefIdeal.main_arg0)) (m ((c.tc : Thread Cert.MInRefIdeal.nD Cert.MInRefIdeal.τ).loc Cert.MInRefIdeal.main_arg1)) (m ((c.tc : Thread Cert.MInRefIdeal.nD Cert.MInRefIdeal.τ).loc Cert.MInRefIdeal.main_arg2)) (m ((c.tc : Thread Cert.MInRefIdeal.nD Cert.MInRefIdeal.τ).loc Cert.MInRefIdeal.main_arg3)) (m ((c.tc : Thread Cert.MInRefIdeal.nD Cert.MInRefIdeal.τ).loc Cert.MInRefIdeal.main_arg4)) (m ((c.tc : Thread Cert.MInRefIdeal.nD Cert.MInRefIdeal.τ).loc Cert.MInRefIdeal.main_arg5)) (m ((c.tc : Thread Cert.MInRefIdeal.nD Cert.MInRefIdeal.τ).loc Cert.MInRefIdeal.main_arg6)) (m ((c.tc : Thread Cert.MInRefIdeal.nD Cert.MInRefIdeal.τ).loc Cert.MInRefIdeal.main_arg7))).2.2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Dt (m : (ℓ : Loc Cert.Dt.nD Cert.Dt.τ Cert.Dt.sig) → Buf (Elt Bits) ℓ) : Prop :=
  True

def Pre_DtIdeal (m : (ℓ : Loc Cert.DtIdeal.nD Cert.DtIdeal.τ Cert.DtIdeal.sig) → Buf (Elt Ideal) ℓ) : Prop :=
  True

def Pre_DtRefIdeal (m : (ℓ : Loc Cert.DtRefIdeal.nD Cert.DtRefIdeal.τ Cert.DtRefIdeal.sig) → Buf (Elt Ideal) ℓ) : Prop :=
  True

def Pre_Tab (m : (ℓ : Loc Cert.Tab.nD Cert.Tab.τ Cert.Tab.sig) → Buf (Elt Bits) ℓ) : Prop :=
  True

def Pre_TabIdeal (m : (ℓ : Loc Cert.TabIdeal.nD Cert.TabIdeal.τ Cert.TabIdeal.sig) → Buf (Elt Ideal) ℓ) : Prop :=
  True

def Pre_TabRefIdeal (m : (ℓ : Loc Cert.TabRefIdeal.nD Cert.TabRefIdeal.τ Cert.TabRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_MOut [hMOut : Cert.MOut.Facts] : Prop :=
  ∀ (m : (ℓ : Loc Cert.MOut.nD Cert.MOut.τ Cert.MOut.sig) → Buf (Elt Bits) ℓ) (g : Dev Cert.MOut.nD → PrngReg), Pre_MOut m →
    θ_run (Cert.MOut.defs (F := Bits)) (onTc (τ := Cert.MOut.τ) (Cert.MOut.main (F := Bits))) ⟨m, fun _ => 0, g⟩ (fun r => (∀ c : Dev Cert.MOut.nD,
      r.2.mem ((c.tc : Thread Cert.MOut.nD Cert.MOut.τ).loc Cert.MOut.main_arg0) = m ((c.tc : Thread Cert.MOut.nD Cert.MOut.τ).loc Cert.MOut.main_arg0)
      ∧ r.2.mem ((c.tc : Thread Cert.MOut.nD Cert.MOut.τ).loc Cert.MOut.main_arg1) = m ((c.tc : Thread Cert.MOut.nD Cert.MOut.τ).loc Cert.MOut.main_arg1)
      ∧ r.2.mem ((c.tc : Thread Cert.MOut.nD Cert.MOut.τ).loc Cert.MOut.main_arg2) = m ((c.tc : Thread Cert.MOut.nD Cert.MOut.τ).loc Cert.MOut.main_arg2)
      ∧ r.2.mem ((c.tc : Thread Cert.MOut.nD Cert.MOut.τ).loc Cert.MOut.main_arg3) = m ((c.tc : Thread Cert.MOut.nD Cert.MOut.τ).loc Cert.MOut.main_arg3)
      ∧ r.2.mem ((c.tc : Thread Cert.MOut.nD Cert.MOut.τ).loc Cert.MOut.main_arg4) = m ((c.tc : Thread Cert.MOut.nD Cert.MOut.τ).loc Cert.MOut.main_arg4)
      ∧ r.2.mem ((c.tc : Thread Cert.MOut.nD Cert.MOut.τ).loc Cert.MOut.main_arg5) = m ((c.tc : Thread Cert.MOut.nD Cert.MOut.τ).loc Cert.MOut.main_arg5)
      ∧ r.2.mem ((c.tc : Thread Cert.MOut.nD Cert.MOut.τ).loc Cert.MOut.main_arg6) = m ((c.tc : Thread Cert.MOut.nD Cert.MOut.τ).loc Cert.MOut.main_arg6)
      ∧ r.2.mem ((c.tc : Thread Cert.MOut.nD Cert.MOut.τ).loc Cert.MOut.main_arg7) = m ((c.tc : Thread Cert.MOut.nD Cert.MOut.τ).loc Cert.MOut.main_arg7)
      ∧ r.2.mem ((c.tc : Thread Cert.MOut.nD Cert.MOut.τ).loc Cert.MOut.main_arg8) = m ((c.tc : Thread Cert.MOut.nD Cert.MOut.τ).loc Cert.MOut.main_arg8))
      ∧ r.2.sem = fun _ => 0)

def quiescent_MOutIdeal [hMOutIdeal : Cert.MOutIdeal.Facts] : Prop :=
  ∀ (m : (ℓ : Loc Cert.MOutIdeal.nD Cert.MOutIdeal.τ Cert.MOutIdeal.sig) → Buf (Elt Ideal) ℓ) (g : Dev Cert.MOutIdeal.nD → PrngReg), Pre_MOutIdeal m →
    θ_run (Cert.MOutIdeal.defs (F := Ideal)) (onTc (τ := Cert.MOutIdeal.τ) (Cert.MOutIdeal.main (F := Ideal))) ⟨m, fun _ => 0, g⟩ (fun r => (∀ c : Dev Cert.MOutIdeal.nD,
      r.2.mem ((c.tc : Thread Cert.MOutIdeal.nD Cert.MOutIdeal.τ).loc Cert.MOutIdeal.main_arg0) = m ((c.tc : Thread Cert.MOutIdeal.nD Cert.MOutIdeal.τ).loc Cert.MOutIdeal.main_arg0)
      ∧ r.2.mem ((c.tc : Thread Cert.MOutIdeal.nD Cert.MOutIdeal.τ).loc Cert.MOutIdeal.main_arg1) = m ((c.tc : Thread Cert.MOutIdeal.nD Cert.MOutIdeal.τ).loc Cert.MOutIdeal.main_arg1)
      ∧ r.2.mem ((c.tc : Thread Cert.MOutIdeal.nD Cert.MOutIdeal.τ).loc Cert.MOutIdeal.main_arg2) = m ((c.tc : Thread Cert.MOutIdeal.nD Cert.MOutIdeal.τ).loc Cert.MOutIdeal.main_arg2)
      ∧ r.2.mem ((c.tc : Thread Cert.MOutIdeal.nD Cert.MOutIdeal.τ).loc Cert.MOutIdeal.main_arg3) = m ((c.tc : Thread Cert.MOutIdeal.nD Cert.MOutIdeal.τ).loc Cert.MOutIdeal.main_arg3)
      ∧ r.2.mem ((c.tc : Thread Cert.MOutIdeal.nD Cert.MOutIdeal.τ).loc Cert.MOutIdeal.main_arg4) = m ((c.tc : Thread Cert.MOutIdeal.nD Cert.MOutIdeal.τ).loc Cert.MOutIdeal.main_arg4)
      ∧ r.2.mem ((c.tc : Thread Cert.MOutIdeal.nD Cert.MOutIdeal.τ).loc Cert.MOutIdeal.main_arg5) = m ((c.tc : Thread Cert.MOutIdeal.nD Cert.MOutIdeal.τ).loc Cert.MOutIdeal.main_arg5)
      ∧ r.2.mem ((c.tc : Thread Cert.MOutIdeal.nD Cert.MOutIdeal.τ).loc Cert.MOutIdeal.main_arg6) = m ((c.tc : Thread Cert.MOutIdeal.nD Cert.MOutIdeal.τ).loc Cert.MOutIdeal.main_arg6)
      ∧ r.2.mem ((c.tc : Thread Cert.MOutIdeal.nD Cert.MOutIdeal.τ).loc Cert.MOutIdeal.main_arg7) = m ((c.tc : Thread Cert.MOutIdeal.nD Cert.MOutIdeal.τ).loc Cert.MOutIdeal.main_arg7)
      ∧ r.2.mem ((c.tc : Thread Cert.MOutIdeal.nD Cert.MOutIdeal.τ).loc Cert.MOutIdeal.main_arg8) = m ((c.tc : Thread Cert.MOutIdeal.nD Cert.MOutIdeal.τ).loc Cert.MOutIdeal.main_arg8))
      ∧ r.2.sem = fun _ => 0)

def quiescent_MOutRefIdeal [hMOutRefIdeal : Cert.MOutRefIdeal.Facts] : Prop :=
  ∀ (m : (ℓ : Loc Cert.MOutRefIdeal.nD Cert.MOutRefIdeal.τ Cert.MOutRefIdeal.sig) → Buf (Elt Ideal) ℓ) (g : Dev Cert.MOutRefIdeal.nD → PrngReg), Pre_MOutRefIdeal m →
    θ_run (Cert.MOutRefIdeal.defs (F := Ideal)) (onTc (τ := Cert.MOutRefIdeal.τ) (Cert.MOutRefIdeal.main (F := Ideal))) ⟨m, fun _ => 0, g⟩ (fun r => (∀ c : Dev Cert.MOutRefIdeal.nD,
      r.2.mem ((c.tc : Thread Cert.MOutRefIdeal.nD Cert.MOutRefIdeal.τ).loc Cert.MOutRefIdeal.main_arg0) = m ((c.tc : Thread Cert.MOutRefIdeal.nD Cert.MOutRefIdeal.τ).loc Cert.MOutRefIdeal.main_arg0)
      ∧ r.2.mem ((c.tc : Thread Cert.MOutRefIdeal.nD Cert.MOutRefIdeal.τ).loc Cert.MOutRefIdeal.main_arg1) = m ((c.tc : Thread Cert.MOutRefIdeal.nD Cert.MOutRefIdeal.τ).loc Cert.MOutRefIdeal.main_arg1)
      ∧ r.2.mem ((c.tc : Thread Cert.MOutRefIdeal.nD Cert.MOutRefIdeal.τ).loc Cert.MOutRefIdeal.main_arg2) = m ((c.tc : Thread Cert.MOutRefIdeal.nD Cert.MOutRefIdeal.τ).loc Cert.MOutRefIdeal.main_arg2)
      ∧ r.2.mem ((c.tc : Thread Cert.MOutRefIdeal.nD Cert.MOutRefIdeal.τ).loc Cert.MOutRefIdeal.main_arg3) = m ((c.tc : Thread Cert.MOutRefIdeal.nD Cert.MOutRefIdeal.τ).loc Cert.MOutRefIdeal.main_arg3)
      ∧ r.2.mem ((c.tc : Thread Cert.MOutRefIdeal.nD Cert.MOutRefIdeal.τ).loc Cert.MOutRefIdeal.main_arg4) = m ((c.tc : Thread Cert.MOutRefIdeal.nD Cert.MOutRefIdeal.τ).loc Cert.MOutRefIdeal.main_arg4)
      ∧ r.2.mem ((c.tc : Thread Cert.MOutRefIdeal.nD Cert.MOutRefIdeal.τ).loc Cert.MOutRefIdeal.main_arg5) = m ((c.tc : Thread Cert.MOutRefIdeal.nD Cert.MOutRefIdeal.τ).loc Cert.MOutRefIdeal.main_arg5)
      ∧ r.2.mem ((c.tc : Thread Cert.MOutRefIdeal.nD Cert.MOutRefIdeal.τ).loc Cert.MOutRefIdeal.main_arg6) = m ((c.tc : Thread Cert.MOutRefIdeal.nD Cert.MOutRefIdeal.τ).loc Cert.MOutRefIdeal.main_arg6)
      ∧ r.2.mem ((c.tc : Thread Cert.MOutRefIdeal.nD Cert.MOutRefIdeal.τ).loc Cert.MOutRefIdeal.main_arg7) = m ((c.tc : Thread Cert.MOutRefIdeal.nD Cert.MOutRefIdeal.τ).loc Cert.MOutRefIdeal.main_arg7)
      ∧ r.2.mem ((c.tc : Thread Cert.MOutRefIdeal.nD Cert.MOutRefIdeal.τ).loc Cert.MOutRefIdeal.main_arg8) = m ((c.tc : Thread Cert.MOutRefIdeal.nD Cert.MOutRefIdeal.τ).loc Cert.MOutRefIdeal.main_arg8))
      ∧ r.2.sem = fun _ => 0)

def quiescent_SOut [hSOut : Cert.SOut.Facts] : Prop :=
  ∀ (m : (ℓ : Loc Cert.SOut.nD Cert.SOut.τ Cert.SOut.sig) → Buf (Elt Bits) ℓ) (g : Dev Cert.SOut.nD → PrngReg), Pre_SOut m →
    θ_run (Cert.SOut.defs (F := Bits)) (onTc (τ := Cert.SOut.τ) (Cert.SOut.main (F := Bits))) ⟨m, fun _ => 0, g⟩ (fun r => (∀ c : Dev Cert.SOut.nD,
      r.2.mem ((c.tc : Thread Cert.SOut.nD Cert.SOut.τ).loc Cert.SOut.main_arg0) = m ((c.tc : Thread Cert.SOut.nD Cert.SOut.τ).loc Cert.SOut.main_arg0)
      ∧ r.2.mem ((c.tc : Thread Cert.SOut.nD Cert.SOut.τ).loc Cert.SOut.main_arg1) = m ((c.tc : Thread Cert.SOut.nD Cert.SOut.τ).loc Cert.SOut.main_arg1)
      ∧ r.2.mem ((c.tc : Thread Cert.SOut.nD Cert.SOut.τ).loc Cert.SOut.main_arg2) = m ((c.tc : Thread Cert.SOut.nD Cert.SOut.τ).loc Cert.SOut.main_arg2)
      ∧ r.2.mem ((c.tc : Thread Cert.SOut.nD Cert.SOut.τ).loc Cert.SOut.main_arg3) = m ((c.tc : Thread Cert.SOut.nD Cert.SOut.τ).loc Cert.SOut.main_arg3)
      ∧ r.2.mem ((c.tc : Thread Cert.SOut.nD Cert.SOut.τ).loc Cert.SOut.main_arg4) = m ((c.tc : Thread Cert.SOut.nD Cert.SOut.τ).loc Cert.SOut.main_arg4)
      ∧ r.2.mem ((c.tc : Thread Cert.SOut.nD Cert.SOut.τ).loc Cert.SOut.main_arg5) = m ((c.tc : Thread Cert.SOut.nD Cert.SOut.τ).loc Cert.SOut.main_arg5)
      ∧ r.2.mem ((c.tc : Thread Cert.SOut.nD Cert.SOut.τ).loc Cert.SOut.main_arg6) = m ((c.tc : Thread Cert.SOut.nD Cert.SOut.τ).loc Cert.SOut.main_arg6)
      ∧ r.2.mem ((c.tc : Thread Cert.SOut.nD Cert.SOut.τ).loc Cert.SOut.main_arg7) = m ((c.tc : Thread Cert.SOut.nD Cert.SOut.τ).loc Cert.SOut.main_arg7)
      ∧ r.2.mem ((c.tc : Thread Cert.SOut.nD Cert.SOut.τ).loc Cert.SOut.main_arg8) = m ((c.tc : Thread Cert.SOut.nD Cert.SOut.τ).loc Cert.SOut.main_arg8)
      ∧ r.2.mem ((c.tc : Thread Cert.SOut.nD Cert.SOut.τ).loc Cert.SOut.main_arg9) = m ((c.tc : Thread Cert.SOut.nD Cert.SOut.τ).loc Cert.SOut.main_arg9)
      ∧ r.2.mem ((c.tc : Thread Cert.SOut.nD Cert.SOut.τ).loc Cert.SOut.main_arg10) = m ((c.tc : Thread Cert.SOut.nD Cert.SOut.τ).loc Cert.SOut.main_arg10)
      ∧ r.2.mem ((c.tc : Thread Cert.SOut.nD Cert.SOut.τ).loc Cert.SOut.main_arg11) = m ((c.tc : Thread Cert.SOut.nD Cert.SOut.τ).loc Cert.SOut.main_arg11)
      ∧ r.2.mem ((c.tc : Thread Cert.SOut.nD Cert.SOut.τ).loc Cert.SOut.main_arg12) = m ((c.tc : Thread Cert.SOut.nD Cert.SOut.τ).loc Cert.SOut.main_arg12))
      ∧ r.2.sem = fun _ => 0)

def quiescent_SOutIdeal [hSOutIdeal : Cert.SOutIdeal.Facts] : Prop :=
  ∀ (m : (ℓ : Loc Cert.SOutIdeal.nD Cert.SOutIdeal.τ Cert.SOutIdeal.sig) → Buf (Elt Ideal) ℓ) (g : Dev Cert.SOutIdeal.nD → PrngReg), Pre_SOutIdeal m →
    θ_run (Cert.SOutIdeal.defs (F := Ideal)) (onTc (τ := Cert.SOutIdeal.τ) (Cert.SOutIdeal.main (F := Ideal))) ⟨m, fun _ => 0, g⟩ (fun r => (∀ c : Dev Cert.SOutIdeal.nD,
      r.2.mem ((c.tc : Thread Cert.SOutIdeal.nD Cert.SOutIdeal.τ).loc Cert.SOutIdeal.main_arg0) = m ((c.tc : Thread Cert.SOutIdeal.nD Cert.SOutIdeal.τ).loc Cert.SOutIdeal.main_arg0)
      ∧ r.2.mem ((c.tc : Thread Cert.SOutIdeal.nD Cert.SOutIdeal.τ).loc Cert.SOutIdeal.main_arg1) = m ((c.tc : Thread Cert.SOutIdeal.nD Cert.SOutIdeal.τ).loc Cert.SOutIdeal.main_arg1)
      ∧ r.2.mem ((c.tc : Thread Cert.SOutIdeal.nD Cert.SOutIdeal.τ).loc Cert.SOutIdeal.main_arg2) = m ((c.tc : Thread Cert.SOutIdeal.nD Cert.SOutIdeal.τ).loc Cert.SOutIdeal.main_arg2)
      ∧ r.2.mem ((c.tc : Thread Cert.SOutIdeal.nD Cert.SOutIdeal.τ).loc Cert.SOutIdeal.main_arg3) = m ((c.tc : Thread Cert.SOutIdeal.nD Cert.SOutIdeal.τ).loc Cert.SOutIdeal.main_arg3)
      ∧ r.2.mem ((c.tc : Thread Cert.SOutIdeal.nD Cert.SOutIdeal.τ).loc Cert.SOutIdeal.main_arg4) = m ((c.tc : Thread Cert.SOutIdeal.nD Cert.SOutIdeal.τ).loc Cert.SOutIdeal.main_arg4)
      ∧ r.2.mem ((c.tc : Thread Cert.SOutIdeal.nD Cert.SOutIdeal.τ).loc Cert.SOutIdeal.main_arg5) = m ((c.tc : Thread Cert.SOutIdeal.nD Cert.SOutIdeal.τ).loc Cert.SOutIdeal.main_arg5)
      ∧ r.2.mem ((c.tc : Thread Cert.SOutIdeal.nD Cert.SOutIdeal.τ).loc Cert.SOutIdeal.main_arg6) = m ((c.tc : Thread Cert.SOutIdeal.nD Cert.SOutIdeal.τ).loc Cert.SOutIdeal.main_arg6)
      ∧ r.2.mem ((c.tc : Thread Cert.SOutIdeal.nD Cert.SOutIdeal.τ).loc Cert.SOutIdeal.main_arg7) = m ((c.tc : Thread Cert.SOutIdeal.nD Cert.SOutIdeal.τ).loc Cert.SOutIdeal.main_arg7)
      ∧ r.2.mem ((c.tc : Thread Cert.SOutIdeal.nD Cert.SOutIdeal.τ).loc Cert.SOutIdeal.main_arg8) = m ((c.tc : Thread Cert.SOutIdeal.nD Cert.SOutIdeal.τ).loc Cert.SOutIdeal.main_arg8)
      ∧ r.2.mem ((c.tc : Thread Cert.SOutIdeal.nD Cert.SOutIdeal.τ).loc Cert.SOutIdeal.main_arg9) = m ((c.tc : Thread Cert.SOutIdeal.nD Cert.SOutIdeal.τ).loc Cert.SOutIdeal.main_arg9)
      ∧ r.2.mem ((c.tc : Thread Cert.SOutIdeal.nD Cert.SOutIdeal.τ).loc Cert.SOutIdeal.main_arg10) = m ((c.tc : Thread Cert.SOutIdeal.nD Cert.SOutIdeal.τ).loc Cert.SOutIdeal.main_arg10)
      ∧ r.2.mem ((c.tc : Thread Cert.SOutIdeal.nD Cert.SOutIdeal.τ).loc Cert.SOutIdeal.main_arg11) = m ((c.tc : Thread Cert.SOutIdeal.nD Cert.SOutIdeal.τ).loc Cert.SOutIdeal.main_arg11)
      ∧ r.2.mem ((c.tc : Thread Cert.SOutIdeal.nD Cert.SOutIdeal.τ).loc Cert.SOutIdeal.main_arg12) = m ((c.tc : Thread Cert.SOutIdeal.nD Cert.SOutIdeal.τ).loc Cert.SOutIdeal.main_arg12))
      ∧ r.2.sem = fun _ => 0)

def quiescent_SOutRefIdeal [hSOutRefIdeal : Cert.SOutRefIdeal.Facts] : Prop :=
  ∀ (m : (ℓ : Loc Cert.SOutRefIdeal.nD Cert.SOutRefIdeal.τ Cert.SOutRefIdeal.sig) → Buf (Elt Ideal) ℓ) (g : Dev Cert.SOutRefIdeal.nD → PrngReg), Pre_SOutRefIdeal m →
    θ_run (Cert.SOutRefIdeal.defs (F := Ideal)) (onTc (τ := Cert.SOutRefIdeal.τ) (Cert.SOutRefIdeal.main (F := Ideal))) ⟨m, fun _ => 0, g⟩ (fun r => (∀ c : Dev Cert.SOutRefIdeal.nD,
      r.2.mem ((c.tc : Thread Cert.SOutRefIdeal.nD Cert.SOutRefIdeal.τ).loc Cert.SOutRefIdeal.main_arg0) = m ((c.tc : Thread Cert.SOutRefIdeal.nD Cert.SOutRefIdeal.τ).loc Cert.SOutRefIdeal.main_arg0)
      ∧ r.2.mem ((c.tc : Thread Cert.SOutRefIdeal.nD Cert.SOutRefIdeal.τ).loc Cert.SOutRefIdeal.main_arg1) = m ((c.tc : Thread Cert.SOutRefIdeal.nD Cert.SOutRefIdeal.τ).loc Cert.SOutRefIdeal.main_arg1)
      ∧ r.2.mem ((c.tc : Thread Cert.SOutRefIdeal.nD Cert.SOutRefIdeal.τ).loc Cert.SOutRefIdeal.main_arg2) = m ((c.tc : Thread Cert.SOutRefIdeal.nD Cert.SOutRefIdeal.τ).loc Cert.SOutRefIdeal.main_arg2)
      ∧ r.2.mem ((c.tc : Thread Cert.SOutRefIdeal.nD Cert.SOutRefIdeal.τ).loc Cert.SOutRefIdeal.main_arg3) = m ((c.tc : Thread Cert.SOutRefIdeal.nD Cert.SOutRefIdeal.τ).loc Cert.SOutRefIdeal.main_arg3)
      ∧ r.2.mem ((c.tc : Thread Cert.SOutRefIdeal.nD Cert.SOutRefIdeal.τ).loc Cert.SOutRefIdeal.main_arg4) = m ((c.tc : Thread Cert.SOutRefIdeal.nD Cert.SOutRefIdeal.τ).loc Cert.SOutRefIdeal.main_arg4)
      ∧ r.2.mem ((c.tc : Thread Cert.SOutRefIdeal.nD Cert.SOutRefIdeal.τ).loc Cert.SOutRefIdeal.main_arg5) = m ((c.tc : Thread Cert.SOutRefIdeal.nD Cert.SOutRefIdeal.τ).loc Cert.SOutRefIdeal.main_arg5)
      ∧ r.2.mem ((c.tc : Thread Cert.SOutRefIdeal.nD Cert.SOutRefIdeal.τ).loc Cert.SOutRefIdeal.main_arg6) = m ((c.tc : Thread Cert.SOutRefIdeal.nD Cert.SOutRefIdeal.τ).loc Cert.SOutRefIdeal.main_arg6)
      ∧ r.2.mem ((c.tc : Thread Cert.SOutRefIdeal.nD Cert.SOutRefIdeal.τ).loc Cert.SOutRefIdeal.main_arg7) = m ((c.tc : Thread Cert.SOutRefIdeal.nD Cert.SOutRefIdeal.τ).loc Cert.SOutRefIdeal.main_arg7)
      ∧ r.2.mem ((c.tc : Thread Cert.SOutRefIdeal.nD Cert.SOutRefIdeal.τ).loc Cert.SOutRefIdeal.main_arg8) = m ((c.tc : Thread Cert.SOutRefIdeal.nD Cert.SOutRefIdeal.τ).loc Cert.SOutRefIdeal.main_arg8)
      ∧ r.2.mem ((c.tc : Thread Cert.SOutRefIdeal.nD Cert.SOutRefIdeal.τ).loc Cert.SOutRefIdeal.main_arg9) = m ((c.tc : Thread Cert.SOutRefIdeal.nD Cert.SOutRefIdeal.τ).loc Cert.SOutRefIdeal.main_arg9)
      ∧ r.2.mem ((c.tc : Thread Cert.SOutRefIdeal.nD Cert.SOutRefIdeal.τ).loc Cert.SOutRefIdeal.main_arg10) = m ((c.tc : Thread Cert.SOutRefIdeal.nD Cert.SOutRefIdeal.τ).loc Cert.SOutRefIdeal.main_arg10)
      ∧ r.2.mem ((c.tc : Thread Cert.SOutRefIdeal.nD Cert.SOutRefIdeal.τ).loc Cert.SOutRefIdeal.main_arg11) = m ((c.tc : Thread Cert.SOutRefIdeal.nD Cert.SOutRefIdeal.τ).loc Cert.SOutRefIdeal.main_arg11)
      ∧ r.2.mem ((c.tc : Thread Cert.SOutRefIdeal.nD Cert.SOutRefIdeal.τ).loc Cert.SOutRefIdeal.main_arg12) = m ((c.tc : Thread Cert.SOutRefIdeal.nD Cert.SOutRefIdeal.τ).loc Cert.SOutRefIdeal.main_arg12))
      ∧ r.2.sem = fun _ => 0)

def quiescent_MIn [hMIn : Cert.MIn.Facts] : Prop :=
  ∀ (m : (ℓ : Loc Cert.MIn.nD Cert.MIn.τ Cert.MIn.sig) → Buf (Elt Bits) ℓ) (g : Dev Cert.MIn.nD → PrngReg), Pre_MIn m →
    θ_run (Cert.MIn.defs (F := Bits)) (onTc (τ := Cert.MIn.τ) (Cert.MIn.main (F := Bits))) ⟨m, fun _ => 0, g⟩ (fun r => (∀ c : Dev Cert.MIn.nD,
      r.2.mem ((c.tc : Thread Cert.MIn.nD Cert.MIn.τ).loc Cert.MIn.main_arg0) = m ((c.tc : Thread Cert.MIn.nD Cert.MIn.τ).loc Cert.MIn.main_arg0)
      ∧ r.2.mem ((c.tc : Thread Cert.MIn.nD Cert.MIn.τ).loc Cert.MIn.main_arg1) = m ((c.tc : Thread Cert.MIn.nD Cert.MIn.τ).loc Cert.MIn.main_arg1)
      ∧ r.2.mem ((c.tc : Thread Cert.MIn.nD Cert.MIn.τ).loc Cert.MIn.main_arg2) = m ((c.tc : Thread Cert.MIn.nD Cert.MIn.τ).loc Cert.MIn.main_arg2)
      ∧ r.2.mem ((c.tc : Thread Cert.MIn.nD Cert.MIn.τ).loc Cert.MIn.main_arg3) = m ((c.tc : Thread Cert.MIn.nD Cert.MIn.τ).loc Cert.MIn.main_arg3)
      ∧ r.2.mem ((c.tc : Thread Cert.MIn.nD Cert.MIn.τ).loc Cert.MIn.main_arg4) = m ((c.tc : Thread Cert.MIn.nD Cert.MIn.τ).loc Cert.MIn.main_arg4)
      ∧ r.2.mem ((c.tc : Thread Cert.MIn.nD Cert.MIn.τ).loc Cert.MIn.main_arg5) = m ((c.tc : Thread Cert.MIn.nD Cert.MIn.τ).loc Cert.MIn.main_arg5)
      ∧ r.2.mem ((c.tc : Thread Cert.MIn.nD Cert.MIn.τ).loc Cert.MIn.main_arg6) = m ((c.tc : Thread Cert.MIn.nD Cert.MIn.τ).loc Cert.MIn.main_arg6)
      ∧ r.2.mem ((c.tc : Thread Cert.MIn.nD Cert.MIn.τ).loc Cert.MIn.main_arg7) = m ((c.tc : Thread Cert.MIn.nD Cert.MIn.τ).loc Cert.MIn.main_arg7))
      ∧ r.2.sem = fun _ => 0)

def quiescent_MInIdeal [hMInIdeal : Cert.MInIdeal.Facts] : Prop :=
  ∀ (m : (ℓ : Loc Cert.MInIdeal.nD Cert.MInIdeal.τ Cert.MInIdeal.sig) → Buf (Elt Ideal) ℓ) (g : Dev Cert.MInIdeal.nD → PrngReg), Pre_MInIdeal m →
    θ_run (Cert.MInIdeal.defs (F := Ideal)) (onTc (τ := Cert.MInIdeal.τ) (Cert.MInIdeal.main (F := Ideal))) ⟨m, fun _ => 0, g⟩ (fun r => (∀ c : Dev Cert.MInIdeal.nD,
      r.2.mem ((c.tc : Thread Cert.MInIdeal.nD Cert.MInIdeal.τ).loc Cert.MInIdeal.main_arg0) = m ((c.tc : Thread Cert.MInIdeal.nD Cert.MInIdeal.τ).loc Cert.MInIdeal.main_arg0)
      ∧ r.2.mem ((c.tc : Thread Cert.MInIdeal.nD Cert.MInIdeal.τ).loc Cert.MInIdeal.main_arg1) = m ((c.tc : Thread Cert.MInIdeal.nD Cert.MInIdeal.τ).loc Cert.MInIdeal.main_arg1)
      ∧ r.2.mem ((c.tc : Thread Cert.MInIdeal.nD Cert.MInIdeal.τ).loc Cert.MInIdeal.main_arg2) = m ((c.tc : Thread Cert.MInIdeal.nD Cert.MInIdeal.τ).loc Cert.MInIdeal.main_arg2)
      ∧ r.2.mem ((c.tc : Thread Cert.MInIdeal.nD Cert.MInIdeal.τ).loc Cert.MInIdeal.main_arg3) = m ((c.tc : Thread Cert.MInIdeal.nD Cert.MInIdeal.τ).loc Cert.MInIdeal.main_arg3)
      ∧ r.2.mem ((c.tc : Thread Cert.MInIdeal.nD Cert.MInIdeal.τ).loc Cert.MInIdeal.main_arg4) = m ((c.tc : Thread Cert.MInIdeal.nD Cert.MInIdeal.τ).loc Cert.MInIdeal.main_arg4)
      ∧ r.2.mem ((c.tc : Thread Cert.MInIdeal.nD Cert.MInIdeal.τ).loc Cert.MInIdeal.main_arg5) = m ((c.tc : Thread Cert.MInIdeal.nD Cert.MInIdeal.τ).loc Cert.MInIdeal.main_arg5)
      ∧ r.2.mem ((c.tc : Thread Cert.MInIdeal.nD Cert.MInIdeal.τ).loc Cert.MInIdeal.main_arg6) = m ((c.tc : Thread Cert.MInIdeal.nD Cert.MInIdeal.τ).loc Cert.MInIdeal.main_arg6)
      ∧ r.2.mem ((c.tc : Thread Cert.MInIdeal.nD Cert.MInIdeal.τ).loc Cert.MInIdeal.main_arg7) = m ((c.tc : Thread Cert.MInIdeal.nD Cert.MInIdeal.τ).loc Cert.MInIdeal.main_arg7))
      ∧ r.2.sem = fun _ => 0)

def quiescent_MInIdeal_pre_rope_tables [hMInIdeal : Cert.MInIdeal.Facts] [hPre_rope_tables : Cert.Pre_rope_tables.Facts] : Prop :=
  ∀ (m : (ℓ : Loc Cert.MInIdeal.nD Cert.MInIdeal.τ Cert.MInIdeal.sig) → Buf (Elt Ideal) ℓ) (g : Dev Cert.MInIdeal.nD → PrngReg), Pre_MInIdeal_rope_tables m →
    θ_run (Cert.MInIdeal.defs (F := Ideal)) (onTc (τ := Cert.MInIdeal.τ) (Cert.MInIdeal.main (F := Ideal))) ⟨m, fun _ => 0, g⟩ (fun r => (∀ c : Dev Cert.MInIdeal.nD,
      r.2.mem ((c.tc : Thread Cert.MInIdeal.nD Cert.MInIdeal.τ).loc Cert.MInIdeal.main_arg0) = m ((c.tc : Thread Cert.MInIdeal.nD Cert.MInIdeal.τ).loc Cert.MInIdeal.main_arg0)
      ∧ r.2.mem ((c.tc : Thread Cert.MInIdeal.nD Cert.MInIdeal.τ).loc Cert.MInIdeal.main_arg1) = m ((c.tc : Thread Cert.MInIdeal.nD Cert.MInIdeal.τ).loc Cert.MInIdeal.main_arg1)
      ∧ r.2.mem ((c.tc : Thread Cert.MInIdeal.nD Cert.MInIdeal.τ).loc Cert.MInIdeal.main_arg2) = m ((c.tc : Thread Cert.MInIdeal.nD Cert.MInIdeal.τ).loc Cert.MInIdeal.main_arg2)
      ∧ r.2.mem ((c.tc : Thread Cert.MInIdeal.nD Cert.MInIdeal.τ).loc Cert.MInIdeal.main_arg3) = m ((c.tc : Thread Cert.MInIdeal.nD Cert.MInIdeal.τ).loc Cert.MInIdeal.main_arg3)
      ∧ r.2.mem ((c.tc : Thread Cert.MInIdeal.nD Cert.MInIdeal.τ).loc Cert.MInIdeal.main_arg4) = m ((c.tc : Thread Cert.MInIdeal.nD Cert.MInIdeal.τ).loc Cert.MInIdeal.main_arg4)
      ∧ r.2.mem ((c.tc : Thread Cert.MInIdeal.nD Cert.MInIdeal.τ).loc Cert.MInIdeal.main_arg5) = m ((c.tc : Thread Cert.MInIdeal.nD Cert.MInIdeal.τ).loc Cert.MInIdeal.main_arg5)
      ∧ r.2.mem ((c.tc : Thread Cert.MInIdeal.nD Cert.MInIdeal.τ).loc Cert.MInIdeal.main_arg6) = m ((c.tc : Thread Cert.MInIdeal.nD Cert.MInIdeal.τ).loc Cert.MInIdeal.main_arg6)
      ∧ r.2.mem ((c.tc : Thread Cert.MInIdeal.nD Cert.MInIdeal.τ).loc Cert.MInIdeal.main_arg7) = m ((c.tc : Thread Cert.MInIdeal.nD Cert.MInIdeal.τ).loc Cert.MInIdeal.main_arg7))
      ∧ r.2.sem = fun _ => 0)

def quiescent_MInRefIdeal [hMInRefIdeal : Cert.MInRefIdeal.Facts] : Prop :=
  ∀ (m : (ℓ : Loc Cert.MInRefIdeal.nD Cert.MInRefIdeal.τ Cert.MInRefIdeal.sig) → Buf (Elt Ideal) ℓ) (g : Dev Cert.MInRefIdeal.nD → PrngReg), Pre_MInRefIdeal m →
    θ_run (Cert.MInRefIdeal.defs (F := Ideal)) (onTc (τ := Cert.MInRefIdeal.τ) (Cert.MInRefIdeal.main (F := Ideal))) ⟨m, fun _ => 0, g⟩ (fun r => (∀ c : Dev Cert.MInRefIdeal.nD,
      r.2.mem ((c.tc : Thread Cert.MInRefIdeal.nD Cert.MInRefIdeal.τ).loc Cert.MInRefIdeal.main_arg0) = m ((c.tc : Thread Cert.MInRefIdeal.nD Cert.MInRefIdeal.τ).loc Cert.MInRefIdeal.main_arg0)
      ∧ r.2.mem ((c.tc : Thread Cert.MInRefIdeal.nD Cert.MInRefIdeal.τ).loc Cert.MInRefIdeal.main_arg1) = m ((c.tc : Thread Cert.MInRefIdeal.nD Cert.MInRefIdeal.τ).loc Cert.MInRefIdeal.main_arg1)
      ∧ r.2.mem ((c.tc : Thread Cert.MInRefIdeal.nD Cert.MInRefIdeal.τ).loc Cert.MInRefIdeal.main_arg2) = m ((c.tc : Thread Cert.MInRefIdeal.nD Cert.MInRefIdeal.τ).loc Cert.MInRefIdeal.main_arg2)
      ∧ r.2.mem ((c.tc : Thread Cert.MInRefIdeal.nD Cert.MInRefIdeal.τ).loc Cert.MInRefIdeal.main_arg3) = m ((c.tc : Thread Cert.MInRefIdeal.nD Cert.MInRefIdeal.τ).loc Cert.MInRefIdeal.main_arg3)
      ∧ r.2.mem ((c.tc : Thread Cert.MInRefIdeal.nD Cert.MInRefIdeal.τ).loc Cert.MInRefIdeal.main_arg4) = m ((c.tc : Thread Cert.MInRefIdeal.nD Cert.MInRefIdeal.τ).loc Cert.MInRefIdeal.main_arg4)
      ∧ r.2.mem ((c.tc : Thread Cert.MInRefIdeal.nD Cert.MInRefIdeal.τ).loc Cert.MInRefIdeal.main_arg5) = m ((c.tc : Thread Cert.MInRefIdeal.nD Cert.MInRefIdeal.τ).loc Cert.MInRefIdeal.main_arg5)
      ∧ r.2.mem ((c.tc : Thread Cert.MInRefIdeal.nD Cert.MInRefIdeal.τ).loc Cert.MInRefIdeal.main_arg6) = m ((c.tc : Thread Cert.MInRefIdeal.nD Cert.MInRefIdeal.τ).loc Cert.MInRefIdeal.main_arg6)
      ∧ r.2.mem ((c.tc : Thread Cert.MInRefIdeal.nD Cert.MInRefIdeal.τ).loc Cert.MInRefIdeal.main_arg7) = m ((c.tc : Thread Cert.MInRefIdeal.nD Cert.MInRefIdeal.τ).loc Cert.MInRefIdeal.main_arg7))
      ∧ r.2.sem = fun _ => 0)

def quiescent_MInRefIdeal_pre_rope_tables [hMInRefIdeal : Cert.MInRefIdeal.Facts] [hPre_rope_tables : Cert.Pre_rope_tables.Facts] : Prop :=
  ∀ (m : (ℓ : Loc Cert.MInRefIdeal.nD Cert.MInRefIdeal.τ Cert.MInRefIdeal.sig) → Buf (Elt Ideal) ℓ) (g : Dev Cert.MInRefIdeal.nD → PrngReg), Pre_MInRefIdeal_rope_tables m →
    θ_run (Cert.MInRefIdeal.defs (F := Ideal)) (onTc (τ := Cert.MInRefIdeal.τ) (Cert.MInRefIdeal.main (F := Ideal))) ⟨m, fun _ => 0, g⟩ (fun r => (∀ c : Dev Cert.MInRefIdeal.nD,
      r.2.mem ((c.tc : Thread Cert.MInRefIdeal.nD Cert.MInRefIdeal.τ).loc Cert.MInRefIdeal.main_arg0) = m ((c.tc : Thread Cert.MInRefIdeal.nD Cert.MInRefIdeal.τ).loc Cert.MInRefIdeal.main_arg0)
      ∧ r.2.mem ((c.tc : Thread Cert.MInRefIdeal.nD Cert.MInRefIdeal.τ).loc Cert.MInRefIdeal.main_arg1) = m ((c.tc : Thread Cert.MInRefIdeal.nD Cert.MInRefIdeal.τ).loc Cert.MInRefIdeal.main_arg1)
      ∧ r.2.mem ((c.tc : Thread Cert.MInRefIdeal.nD Cert.MInRefIdeal.τ).loc Cert.MInRefIdeal.main_arg2) = m ((c.tc : Thread Cert.MInRefIdeal.nD Cert.MInRefIdeal.τ).loc Cert.MInRefIdeal.main_arg2)
      ∧ r.2.mem ((c.tc : Thread Cert.MInRefIdeal.nD Cert.MInRefIdeal.τ).loc Cert.MInRefIdeal.main_arg3) = m ((c.tc : Thread Cert.MInRefIdeal.nD Cert.MInRefIdeal.τ).loc Cert.MInRefIdeal.main_arg3)
      ∧ r.2.mem ((c.tc : Thread Cert.MInRefIdeal.nD Cert.MInRefIdeal.τ).loc Cert.MInRefIdeal.main_arg4) = m ((c.tc : Thread Cert.MInRefIdeal.nD Cert.MInRefIdeal.τ).loc Cert.MInRefIdeal.main_arg4)
      ∧ r.2.mem ((c.tc : Thread Cert.MInRefIdeal.nD Cert.MInRefIdeal.τ).loc Cert.MInRefIdeal.main_arg5) = m ((c.tc : Thread Cert.MInRefIdeal.nD Cert.MInRefIdeal.τ).loc Cert.MInRefIdeal.main_arg5)
      ∧ r.2.mem ((c.tc : Thread Cert.MInRefIdeal.nD Cert.MInRefIdeal.τ).loc Cert.MInRefIdeal.main_arg6) = m ((c.tc : Thread Cert.MInRefIdeal.nD Cert.MInRefIdeal.τ).loc Cert.MInRefIdeal.main_arg6)
      ∧ r.2.mem ((c.tc : Thread Cert.MInRefIdeal.nD Cert.MInRefIdeal.τ).loc Cert.MInRefIdeal.main_arg7) = m ((c.tc : Thread Cert.MInRefIdeal.nD Cert.MInRefIdeal.τ).loc Cert.MInRefIdeal.main_arg7))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def quiescent_Dt [hDt : Cert.Dt.Facts] : Prop :=
  ∀ (m : (ℓ : Loc Cert.Dt.nD Cert.Dt.τ Cert.Dt.sig) → Buf (Elt Bits) ℓ) (g : Dev Cert.Dt.nD → PrngReg), Pre_Dt m →
    θ_run (Cert.Dt.defs (F := Bits)) (onTc (τ := Cert.Dt.τ) (Cert.Dt.main (F := Bits))) ⟨m, fun _ => 0, g⟩ (fun r => (∀ c : Dev Cert.Dt.nD,
      r.2.mem ((c.tc : Thread Cert.Dt.nD Cert.Dt.τ).loc Cert.Dt.main_arg0) = m ((c.tc : Thread Cert.Dt.nD Cert.Dt.τ).loc Cert.Dt.main_arg0)
      ∧ r.2.mem ((c.tc : Thread Cert.Dt.nD Cert.Dt.τ).loc Cert.Dt.main_arg1) = m ((c.tc : Thread Cert.Dt.nD Cert.Dt.τ).loc Cert.Dt.main_arg1)
      ∧ r.2.mem ((c.tc : Thread Cert.Dt.nD Cert.Dt.τ).loc Cert.Dt.main_arg2) = m ((c.tc : Thread Cert.Dt.nD Cert.Dt.τ).loc Cert.Dt.main_arg2))
      ∧ r.2.sem = fun _ => 0)

def quiescent_DtIdeal [hDtIdeal : Cert.DtIdeal.Facts] : Prop :=
  ∀ (m : (ℓ : Loc Cert.DtIdeal.nD Cert.DtIdeal.τ Cert.DtIdeal.sig) → Buf (Elt Ideal) ℓ) (g : Dev Cert.DtIdeal.nD → PrngReg), Pre_DtIdeal m →
    θ_run (Cert.DtIdeal.defs (F := Ideal)) (onTc (τ := Cert.DtIdeal.τ) (Cert.DtIdeal.main (F := Ideal))) ⟨m, fun _ => 0, g⟩ (fun r => (∀ c : Dev Cert.DtIdeal.nD,
      r.2.mem ((c.tc : Thread Cert.DtIdeal.nD Cert.DtIdeal.τ).loc Cert.DtIdeal.main_arg0) = m ((c.tc : Thread Cert.DtIdeal.nD Cert.DtIdeal.τ).loc Cert.DtIdeal.main_arg0)
      ∧ r.2.mem ((c.tc : Thread Cert.DtIdeal.nD Cert.DtIdeal.τ).loc Cert.DtIdeal.main_arg1) = m ((c.tc : Thread Cert.DtIdeal.nD Cert.DtIdeal.τ).loc Cert.DtIdeal.main_arg1)
      ∧ r.2.mem ((c.tc : Thread Cert.DtIdeal.nD Cert.DtIdeal.τ).loc Cert.DtIdeal.main_arg2) = m ((c.tc : Thread Cert.DtIdeal.nD Cert.DtIdeal.τ).loc Cert.DtIdeal.main_arg2))
      ∧ r.2.sem = fun _ => 0)

def quiescent_DtRefIdeal [hDtRefIdeal : Cert.DtRefIdeal.Facts] : Prop :=
  ∀ (m : (ℓ : Loc Cert.DtRefIdeal.nD Cert.DtRefIdeal.τ Cert.DtRefIdeal.sig) → Buf (Elt Ideal) ℓ) (g : Dev Cert.DtRefIdeal.nD → PrngReg), Pre_DtRefIdeal m →
    θ_run (Cert.DtRefIdeal.defs (F := Ideal)) (onTc (τ := Cert.DtRefIdeal.τ) (Cert.DtRefIdeal.main (F := Ideal))) ⟨m, fun _ => 0, g⟩ (fun r => (∀ c : Dev Cert.DtRefIdeal.nD,
      r.2.mem ((c.tc : Thread Cert.DtRefIdeal.nD Cert.DtRefIdeal.τ).loc Cert.DtRefIdeal.main_arg0) = m ((c.tc : Thread Cert.DtRefIdeal.nD Cert.DtRefIdeal.τ).loc Cert.DtRefIdeal.main_arg0)
      ∧ r.2.mem ((c.tc : Thread Cert.DtRefIdeal.nD Cert.DtRefIdeal.τ).loc Cert.DtRefIdeal.main_arg1) = m ((c.tc : Thread Cert.DtRefIdeal.nD Cert.DtRefIdeal.τ).loc Cert.DtRefIdeal.main_arg1)
      ∧ r.2.mem ((c.tc : Thread Cert.DtRefIdeal.nD Cert.DtRefIdeal.τ).loc Cert.DtRefIdeal.main_arg2) = m ((c.tc : Thread Cert.DtRefIdeal.nD Cert.DtRefIdeal.τ).loc Cert.DtRefIdeal.main_arg2))
      ∧ r.2.sem = fun _ => 0)

def quiescent_Tab [hTab : Cert.Tab.Facts] : Prop :=
  ∀ (m : (ℓ : Loc Cert.Tab.nD Cert.Tab.τ Cert.Tab.sig) → Buf (Elt Bits) ℓ) (g : Dev Cert.Tab.nD → PrngReg), Pre_Tab m →
    θ_run (Cert.Tab.defs (F := Bits)) (onTc (τ := Cert.Tab.τ) (Cert.Tab.main (F := Bits))) ⟨m, fun _ => 0, g⟩ (fun r => (∀ c : Dev Cert.Tab.nD,
      r.2.mem ((c.tc : Thread Cert.Tab.nD Cert.Tab.τ).loc Cert.Tab.main_arg0) = m ((c.tc : Thread Cert.Tab.nD Cert.Tab.τ).loc Cert.Tab.main_arg0)
      ∧ r.2.mem ((c.tc : Thread Cert.Tab.nD Cert.Tab.τ).loc Cert.Tab.main_arg1) = m ((c.tc : Thread Cert.Tab.nD Cert.Tab.τ).loc Cert.Tab.main_arg1))
      ∧ r.2.sem = fun _ => 0)

def quiescent_TabIdeal [hTabIdeal : Cert.TabIdeal.Facts] : Prop :=
  ∀ (m : (ℓ : Loc Cert.TabIdeal.nD Cert.TabIdeal.τ Cert.TabIdeal.sig) → Buf (Elt Ideal) ℓ) (g : Dev Cert.TabIdeal.nD → PrngReg), Pre_TabIdeal m →
    θ_run (Cert.TabIdeal.defs (F := Ideal)) (onTc (τ := Cert.TabIdeal.τ) (Cert.TabIdeal.main (F := Ideal))) ⟨m, fun _ => 0, g⟩ (fun r => (∀ c : Dev Cert.TabIdeal.nD,
      r.2.mem ((c.tc : Thread Cert.TabIdeal.nD Cert.TabIdeal.τ).loc Cert.TabIdeal.main_arg0) = m ((c.tc : Thread Cert.TabIdeal.nD Cert.TabIdeal.τ).loc Cert.TabIdeal.main_arg0)
      ∧ r.2.mem ((c.tc : Thread Cert.TabIdeal.nD Cert.TabIdeal.τ).loc Cert.TabIdeal.main_arg1) = m ((c.tc : Thread Cert.TabIdeal.nD Cert.TabIdeal.τ).loc Cert.TabIdeal.main_arg1))
      ∧ r.2.sem = fun _ => 0)

def quiescent_TabRefIdeal [hTabRefIdeal : Cert.TabRefIdeal.Facts] : Prop :=
  ∀ (m : (ℓ : Loc Cert.TabRefIdeal.nD Cert.TabRefIdeal.τ Cert.TabRefIdeal.sig) → Buf (Elt Ideal) ℓ) (g : Dev Cert.TabRefIdeal.nD → PrngReg), Pre_TabRefIdeal m →
    θ_run (Cert.TabRefIdeal.defs (F := Ideal)) (onTc (τ := Cert.TabRefIdeal.τ) (Cert.TabRefIdeal.main (F := Ideal))) ⟨m, fun _ => 0, g⟩ (fun r => (∀ c : Dev Cert.TabRefIdeal.nD,
      r.2.mem ((c.tc : Thread Cert.TabRefIdeal.nD Cert.TabRefIdeal.τ).loc Cert.TabRefIdeal.main_arg0) = m ((c.tc : Thread Cert.TabRefIdeal.nD Cert.TabRefIdeal.τ).loc Cert.TabRefIdeal.main_arg0)
      ∧ r.2.mem ((c.tc : Thread Cert.TabRefIdeal.nD Cert.TabRefIdeal.τ).loc Cert.TabRefIdeal.main_arg1) = m ((c.tc : Thread Cert.TabRefIdeal.nD Cert.TabRefIdeal.τ).loc Cert.TabRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2))
      ∧ r.2.sem = fun _ => 0)

def preserves_Attn_AttnIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v28) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_MOut_MOutIdeal : Prop :=
  True

def algebraic_MOutIdeal_MOutRefIdeal [hMOutIdeal : Cert.MOutIdeal.Facts] [hMOutRefIdeal : Cert.MOutRefIdeal.Facts] : Prop :=
  ∀ (m : (ℓ : Loc Cert.MOutIdeal.nD Cert.MOutIdeal.τ Cert.MOutIdeal.sig) → Buf (Elt Ideal) ℓ) (g : Dev Cert.MOutIdeal.nD → PrngReg)
    (m' : (ℓ : Loc Cert.MOutRefIdeal.nD Cert.MOutRefIdeal.τ Cert.MOutRefIdeal.sig) → Buf (Elt Ideal) ℓ) (g' : Dev Cert.MOutRefIdeal.nD → PrngReg), Pre_MOutIdeal m →
    (∀ c : Dev Cert.MOutIdeal.nD,
      m' ((c.tc : Thread Cert.MOutRefIdeal.nD Cert.MOutRefIdeal.τ).loc Cert.MOutRefIdeal.main_arg0) = m ((c.tc : Thread Cert.MOutIdeal.nD Cert.MOutIdeal.τ).loc Cert.MOutIdeal.main_arg0)
      ∧ m' ((c.tc : Thread Cert.MOutRefIdeal.nD Cert.MOutRefIdeal.τ).loc Cert.MOutRefIdeal.main_arg1) = m ((c.tc : Thread Cert.MOutIdeal.nD Cert.MOutIdeal.τ).loc Cert.MOutIdeal.main_arg1)
      ∧ m' ((c.tc : Thread Cert.MOutRefIdeal.nD Cert.MOutRefIdeal.τ).loc Cert.MOutRefIdeal.main_arg2) = m ((c.tc : Thread Cert.MOutIdeal.nD Cert.MOutIdeal.τ).loc Cert.MOutIdeal.main_arg2)
      ∧ m' ((c.tc : Thread Cert.MOutRefIdeal.nD Cert.MOutRefIdeal.τ).loc Cert.MOutRefIdeal.main_arg3) = m ((c.tc : Thread Cert.MOutIdeal.nD Cert.MOutIdeal.τ).loc Cert.MOutIdeal.main_arg3)
      ∧ m' ((c.tc : Thread Cert.MOutRefIdeal.nD Cert.MOutRefIdeal.τ).loc Cert.MOutRefIdeal.main_arg4) = m ((c.tc : Thread Cert.MOutIdeal.nD Cert.MOutIdeal.τ).loc Cert.MOutIdeal.main_arg4)
      ∧ m' ((c.tc : Thread Cert.MOutRefIdeal.nD Cert.MOutRefIdeal.τ).loc Cert.MOutRefIdeal.main_arg5) = m ((c.tc : Thread Cert.MOutIdeal.nD Cert.MOutIdeal.τ).loc Cert.MOutIdeal.main_arg5)
      ∧ m' ((c.tc : Thread Cert.MOutRefIdeal.nD Cert.MOutRefIdeal.τ).loc Cert.MOutRefIdeal.main_arg6) = m ((c.tc : Thread Cert.MOutIdeal.nD Cert.MOutIdeal.τ).loc Cert.MOutIdeal.main_arg6)
      ∧ m' ((c.tc : Thread Cert.MOutRefIdeal.nD Cert.MOutRefIdeal.τ).loc Cert.MOutRefIdeal.main_arg7) = m ((c.tc : Thread Cert.MOutIdeal.nD Cert.MOutIdeal.τ).loc Cert.MOutIdeal.main_arg7)
      ∧ m' ((c.tc : Thread Cert.MOutRefIdeal.nD Cert.MOutRefIdeal.τ).loc Cert.MOutRefIdeal.main_arg8) = m ((c.tc : Thread Cert.MOutIdeal.nD Cert.MOutIdeal.τ).loc Cert.MOutIdeal.main_arg8)) →
    ∃ (v0 : (c : Dev Cert.MOutIdeal.nD) → Buf (Elt Ideal) ((c.tc : Thread Cert.MOutIdeal.nD Cert.MOutIdeal.τ).loc Cert.MOutIdeal.main_v0)),
      θ_run (Cert.MOutIdeal.defs (F := Ideal)) (onTc (τ := Cert.MOutIdeal.τ) (Cert.MOutIdeal.main (F := Ideal))) ⟨m, fun _ => 0, g⟩ (fun r => ∀ c : Dev Cert.MOutIdeal.nD,
          r.2.mem ((c.tc : Thread Cert.MOutIdeal.nD Cert.MOutIdeal.τ).loc Cert.MOutIdeal.main_v0) = v0 c
          ∧ r.2.mem ((c.tc : Thread Cert.MOutIdeal.nD Cert.MOutIdeal.τ).loc Cert.MOutIdeal.main_arg0) = m ((c.tc : Thread Cert.MOutIdeal.nD Cert.MOutIdeal.τ).loc Cert.MOutIdeal.main_arg0)
          ∧ r.2.mem ((c.tc : Thread Cert.MOutIdeal.nD Cert.MOutIdeal.τ).loc Cert.MOutIdeal.main_arg1) = m ((c.tc : Thread Cert.MOutIdeal.nD Cert.MOutIdeal.τ).loc Cert.MOutIdeal.main_arg1)
          ∧ r.2.mem ((c.tc : Thread Cert.MOutIdeal.nD Cert.MOutIdeal.τ).loc Cert.MOutIdeal.main_arg2) = m ((c.tc : Thread Cert.MOutIdeal.nD Cert.MOutIdeal.τ).loc Cert.MOutIdeal.main_arg2)
          ∧ r.2.mem ((c.tc : Thread Cert.MOutIdeal.nD Cert.MOutIdeal.τ).loc Cert.MOutIdeal.main_arg3) = m ((c.tc : Thread Cert.MOutIdeal.nD Cert.MOutIdeal.τ).loc Cert.MOutIdeal.main_arg3)
          ∧ r.2.mem ((c.tc : Thread Cert.MOutIdeal.nD Cert.MOutIdeal.τ).loc Cert.MOutIdeal.main_arg4) = m ((c.tc : Thread Cert.MOutIdeal.nD Cert.MOutIdeal.τ).loc Cert.MOutIdeal.main_arg4)
          ∧ r.2.mem ((c.tc : Thread Cert.MOutIdeal.nD Cert.MOutIdeal.τ).loc Cert.MOutIdeal.main_arg5) = m ((c.tc : Thread Cert.MOutIdeal.nD Cert.MOutIdeal.τ).loc Cert.MOutIdeal.main_arg5)
          ∧ r.2.mem ((c.tc : Thread Cert.MOutIdeal.nD Cert.MOutIdeal.τ).loc Cert.MOutIdeal.main_arg6) = m ((c.tc : Thread Cert.MOutIdeal.nD Cert.MOutIdeal.τ).loc Cert.MOutIdeal.main_arg6)
          ∧ r.2.mem ((c.tc : Thread Cert.MOutIdeal.nD Cert.MOutIdeal.τ).loc Cert.MOutIdeal.main_arg7) = m ((c.tc : Thread Cert.MOutIdeal.nD Cert.MOutIdeal.τ).loc Cert.MOutIdeal.main_arg7)
          ∧ r.2.mem ((c.tc : Thread Cert.MOutIdeal.nD Cert.MOutIdeal.τ).loc Cert.MOutIdeal.main_arg8) = m ((c.tc : Thread Cert.MOutIdeal.nD Cert.MOutIdeal.τ).loc Cert.MOutIdeal.main_arg8))
      ∧ θ_run (Cert.MOutRefIdeal.defs (F := Ideal)) (onTc (τ := Cert.MOutRefIdeal.τ) (Cert.MOutRefIdeal.main (F := Ideal))) ⟨m', fun _ => 0, g'⟩ (fun r => ∀ c : Dev Cert.MOutRefIdeal.nD,
          r.2.mem ((c.tc : Thread Cert.MOutRefIdeal.nD Cert.MOutRefIdeal.τ).loc Cert.MOutRefIdeal.main_v43) = v0 c
          ∧ r.2.mem ((c.tc : Thread Cert.MOutRefIdeal.nD Cert.MOutRefIdeal.τ).loc Cert.MOutRefIdeal.main_arg0) = m' ((c.tc : Thread Cert.MOutRefIdeal.nD Cert.MOutRefIdeal.τ).loc Cert.MOutRefIdeal.main_arg0)
          ∧ r.2.mem ((c.tc : Thread Cert.MOutRefIdeal.nD Cert.MOutRefIdeal.τ).loc Cert.MOutRefIdeal.main_arg1) = m' ((c.tc : Thread Cert.MOutRefIdeal.nD Cert.MOutRefIdeal.τ).loc Cert.MOutRefIdeal.main_arg1)
          ∧ r.2.mem ((c.tc : Thread Cert.MOutRefIdeal.nD Cert.MOutRefIdeal.τ).loc Cert.MOutRefIdeal.main_arg2) = m' ((c.tc : Thread Cert.MOutRefIdeal.nD Cert.MOutRefIdeal.τ).loc Cert.MOutRefIdeal.main_arg2)
          ∧ r.2.mem ((c.tc : Thread Cert.MOutRefIdeal.nD Cert.MOutRefIdeal.τ).loc Cert.MOutRefIdeal.main_arg3) = m' ((c.tc : Thread Cert.MOutRefIdeal.nD Cert.MOutRefIdeal.τ).loc Cert.MOutRefIdeal.main_arg3)
          ∧ r.2.mem ((c.tc : Thread Cert.MOutRefIdeal.nD Cert.MOutRefIdeal.τ).loc Cert.MOutRefIdeal.main_arg4) = m' ((c.tc : Thread Cert.MOutRefIdeal.nD Cert.MOutRefIdeal.τ).loc Cert.MOutRefIdeal.main_arg4)
          ∧ r.2.mem ((c.tc : Thread Cert.MOutRefIdeal.nD Cert.MOutRefIdeal.τ).loc Cert.MOutRefIdeal.main_arg5) = m' ((c.tc : Thread Cert.MOutRefIdeal.nD Cert.MOutRefIdeal.τ).loc Cert.MOutRefIdeal.main_arg5)
          ∧ r.2.mem ((c.tc : Thread Cert.MOutRefIdeal.nD Cert.MOutRefIdeal.τ).loc Cert.MOutRefIdeal.main_arg6) = m' ((c.tc : Thread Cert.MOutRefIdeal.nD Cert.MOutRefIdeal.τ).loc Cert.MOutRefIdeal.main_arg6)
          ∧ r.2.mem ((c.tc : Thread Cert.MOutRefIdeal.nD Cert.MOutRefIdeal.τ).loc Cert.MOutRefIdeal.main_arg7) = m' ((c.tc : Thread Cert.MOutRefIdeal.nD Cert.MOutRefIdeal.τ).loc Cert.MOutRefIdeal.main_arg7)
          ∧ r.2.mem ((c.tc : Thread Cert.MOutRefIdeal.nD Cert.MOutRefIdeal.τ).loc Cert.MOutRefIdeal.main_arg8) = m' ((c.tc : Thread Cert.MOutRefIdeal.nD Cert.MOutRefIdeal.τ).loc Cert.MOutRefIdeal.main_arg8))

def preserves_SOut_SOutIdeal : Prop :=
  True

def algebraic_SOutIdeal_SOutRefIdeal [hSOutIdeal : Cert.SOutIdeal.Facts] [hSOutRefIdeal : Cert.SOutRefIdeal.Facts] : Prop :=
  ∀ (m : (ℓ : Loc Cert.SOutIdeal.nD Cert.SOutIdeal.τ Cert.SOutIdeal.sig) → Buf (Elt Ideal) ℓ) (g : Dev Cert.SOutIdeal.nD → PrngReg)
    (m' : (ℓ : Loc Cert.SOutRefIdeal.nD Cert.SOutRefIdeal.τ Cert.SOutRefIdeal.sig) → Buf (Elt Ideal) ℓ) (g' : Dev Cert.SOutRefIdeal.nD → PrngReg), Pre_SOutIdeal m →
    (∀ c : Dev Cert.SOutIdeal.nD,
      m' ((c.tc : Thread Cert.SOutRefIdeal.nD Cert.SOutRefIdeal.τ).loc Cert.SOutRefIdeal.main_arg0) = m ((c.tc : Thread Cert.SOutIdeal.nD Cert.SOutIdeal.τ).loc Cert.SOutIdeal.main_arg0)
      ∧ m' ((c.tc : Thread Cert.SOutRefIdeal.nD Cert.SOutRefIdeal.τ).loc Cert.SOutRefIdeal.main_arg1) = m ((c.tc : Thread Cert.SOutIdeal.nD Cert.SOutIdeal.τ).loc Cert.SOutIdeal.main_arg1)
      ∧ m' ((c.tc : Thread Cert.SOutRefIdeal.nD Cert.SOutRefIdeal.τ).loc Cert.SOutRefIdeal.main_arg2) = m ((c.tc : Thread Cert.SOutIdeal.nD Cert.SOutIdeal.τ).loc Cert.SOutIdeal.main_arg2)
      ∧ m' ((c.tc : Thread Cert.SOutRefIdeal.nD Cert.SOutRefIdeal.τ).loc Cert.SOutRefIdeal.main_arg3) = m ((c.tc : Thread Cert.SOutIdeal.nD Cert.SOutIdeal.τ).loc Cert.SOutIdeal.main_arg3)
      ∧ m' ((c.tc : Thread Cert.SOutRefIdeal.nD Cert.SOutRefIdeal.τ).loc Cert.SOutRefIdeal.main_arg4) = m ((c.tc : Thread Cert.SOutIdeal.nD Cert.SOutIdeal.τ).loc Cert.SOutIdeal.main_arg4)
      ∧ m' ((c.tc : Thread Cert.SOutRefIdeal.nD Cert.SOutRefIdeal.τ).loc Cert.SOutRefIdeal.main_arg5) = m ((c.tc : Thread Cert.SOutIdeal.nD Cert.SOutIdeal.τ).loc Cert.SOutIdeal.main_arg5)
      ∧ m' ((c.tc : Thread Cert.SOutRefIdeal.nD Cert.SOutRefIdeal.τ).loc Cert.SOutRefIdeal.main_arg6) = m ((c.tc : Thread Cert.SOutIdeal.nD Cert.SOutIdeal.τ).loc Cert.SOutIdeal.main_arg6)
      ∧ m' ((c.tc : Thread Cert.SOutRefIdeal.nD Cert.SOutRefIdeal.τ).loc Cert.SOutRefIdeal.main_arg7) = m ((c.tc : Thread Cert.SOutIdeal.nD Cert.SOutIdeal.τ).loc Cert.SOutIdeal.main_arg7)
      ∧ m' ((c.tc : Thread Cert.SOutRefIdeal.nD Cert.SOutRefIdeal.τ).loc Cert.SOutRefIdeal.main_arg8) = m ((c.tc : Thread Cert.SOutIdeal.nD Cert.SOutIdeal.τ).loc Cert.SOutIdeal.main_arg8)
      ∧ m' ((c.tc : Thread Cert.SOutRefIdeal.nD Cert.SOutRefIdeal.τ).loc Cert.SOutRefIdeal.main_arg9) = m ((c.tc : Thread Cert.SOutIdeal.nD Cert.SOutIdeal.τ).loc Cert.SOutIdeal.main_arg9)
      ∧ m' ((c.tc : Thread Cert.SOutRefIdeal.nD Cert.SOutRefIdeal.τ).loc Cert.SOutRefIdeal.main_arg10) = m ((c.tc : Thread Cert.SOutIdeal.nD Cert.SOutIdeal.τ).loc Cert.SOutIdeal.main_arg10)
      ∧ m' ((c.tc : Thread Cert.SOutRefIdeal.nD Cert.SOutRefIdeal.τ).loc Cert.SOutRefIdeal.main_arg11) = m ((c.tc : Thread Cert.SOutIdeal.nD Cert.SOutIdeal.τ).loc Cert.SOutIdeal.main_arg11)
      ∧ m' ((c.tc : Thread Cert.SOutRefIdeal.nD Cert.SOutRefIdeal.τ).loc Cert.SOutRefIdeal.main_arg12) = m ((c.tc : Thread Cert.SOutIdeal.nD Cert.SOutIdeal.τ).loc Cert.SOutIdeal.main_arg12)) →
    ∃ (v0 : (c : Dev Cert.SOutIdeal.nD) → Buf (Elt Ideal) ((c.tc : Thread Cert.SOutIdeal.nD Cert.SOutIdeal.τ).loc Cert.SOutIdeal.main_v0)),
      θ_run (Cert.SOutIdeal.defs (F := Ideal)) (onTc (τ := Cert.SOutIdeal.τ) (Cert.SOutIdeal.main (F := Ideal))) ⟨m, fun _ => 0, g⟩ (fun r => ∀ c : Dev Cert.SOutIdeal.nD,
          r.2.mem ((c.tc : Thread Cert.SOutIdeal.nD Cert.SOutIdeal.τ).loc Cert.SOutIdeal.main_v0) = v0 c
          ∧ r.2.mem ((c.tc : Thread Cert.SOutIdeal.nD Cert.SOutIdeal.τ).loc Cert.SOutIdeal.main_arg0) = m ((c.tc : Thread Cert.SOutIdeal.nD Cert.SOutIdeal.τ).loc Cert.SOutIdeal.main_arg0)
          ∧ r.2.mem ((c.tc : Thread Cert.SOutIdeal.nD Cert.SOutIdeal.τ).loc Cert.SOutIdeal.main_arg1) = m ((c.tc : Thread Cert.SOutIdeal.nD Cert.SOutIdeal.τ).loc Cert.SOutIdeal.main_arg1)
          ∧ r.2.mem ((c.tc : Thread Cert.SOutIdeal.nD Cert.SOutIdeal.τ).loc Cert.SOutIdeal.main_arg2) = m ((c.tc : Thread Cert.SOutIdeal.nD Cert.SOutIdeal.τ).loc Cert.SOutIdeal.main_arg2)
          ∧ r.2.mem ((c.tc : Thread Cert.SOutIdeal.nD Cert.SOutIdeal.τ).loc Cert.SOutIdeal.main_arg3) = m ((c.tc : Thread Cert.SOutIdeal.nD Cert.SOutIdeal.τ).loc Cert.SOutIdeal.main_arg3)
          ∧ r.2.mem ((c.tc : Thread Cert.SOutIdeal.nD Cert.SOutIdeal.τ).loc Cert.SOutIdeal.main_arg4) = m ((c.tc : Thread Cert.SOutIdeal.nD Cert.SOutIdeal.τ).loc Cert.SOutIdeal.main_arg4)
          ∧ r.2.mem ((c.tc : Thread Cert.SOutIdeal.nD Cert.SOutIdeal.τ).loc Cert.SOutIdeal.main_arg5) = m ((c.tc : Thread Cert.SOutIdeal.nD Cert.SOutIdeal.τ).loc Cert.SOutIdeal.main_arg5)
          ∧ r.2.mem ((c.tc : Thread Cert.SOutIdeal.nD Cert.SOutIdeal.τ).loc Cert.SOutIdeal.main_arg6) = m ((c.tc : Thread Cert.SOutIdeal.nD Cert.SOutIdeal.τ).loc Cert.SOutIdeal.main_arg6)
          ∧ r.2.mem ((c.tc : Thread Cert.SOutIdeal.nD Cert.SOutIdeal.τ).loc Cert.SOutIdeal.main_arg7) = m ((c.tc : Thread Cert.SOutIdeal.nD Cert.SOutIdeal.τ).loc Cert.SOutIdeal.main_arg7)
          ∧ r.2.mem ((c.tc : Thread Cert.SOutIdeal.nD Cert.SOutIdeal.τ).loc Cert.SOutIdeal.main_arg8) = m ((c.tc : Thread Cert.SOutIdeal.nD Cert.SOutIdeal.τ).loc Cert.SOutIdeal.main_arg8)
          ∧ r.2.mem ((c.tc : Thread Cert.SOutIdeal.nD Cert.SOutIdeal.τ).loc Cert.SOutIdeal.main_arg9) = m ((c.tc : Thread Cert.SOutIdeal.nD Cert.SOutIdeal.τ).loc Cert.SOutIdeal.main_arg9)
          ∧ r.2.mem ((c.tc : Thread Cert.SOutIdeal.nD Cert.SOutIdeal.τ).loc Cert.SOutIdeal.main_arg10) = m ((c.tc : Thread Cert.SOutIdeal.nD Cert.SOutIdeal.τ).loc Cert.SOutIdeal.main_arg10)
          ∧ r.2.mem ((c.tc : Thread Cert.SOutIdeal.nD Cert.SOutIdeal.τ).loc Cert.SOutIdeal.main_arg11) = m ((c.tc : Thread Cert.SOutIdeal.nD Cert.SOutIdeal.τ).loc Cert.SOutIdeal.main_arg11)
          ∧ r.2.mem ((c.tc : Thread Cert.SOutIdeal.nD Cert.SOutIdeal.τ).loc Cert.SOutIdeal.main_arg12) = m ((c.tc : Thread Cert.SOutIdeal.nD Cert.SOutIdeal.τ).loc Cert.SOutIdeal.main_arg12))
      ∧ θ_run (Cert.SOutRefIdeal.defs (F := Ideal)) (onTc (τ := Cert.SOutRefIdeal.τ) (Cert.SOutRefIdeal.main (F := Ideal))) ⟨m', fun _ => 0, g'⟩ (fun r => ∀ c : Dev Cert.SOutRefIdeal.nD,
          r.2.mem ((c.tc : Thread Cert.SOutRefIdeal.nD Cert.SOutRefIdeal.τ).loc Cert.SOutRefIdeal.main_v64) = v0 c
          ∧ r.2.mem ((c.tc : Thread Cert.SOutRefIdeal.nD Cert.SOutRefIdeal.τ).loc Cert.SOutRefIdeal.main_arg0) = m' ((c.tc : Thread Cert.SOutRefIdeal.nD Cert.SOutRefIdeal.τ).loc Cert.SOutRefIdeal.main_arg0)
          ∧ r.2.mem ((c.tc : Thread Cert.SOutRefIdeal.nD Cert.SOutRefIdeal.τ).loc Cert.SOutRefIdeal.main_arg1) = m' ((c.tc : Thread Cert.SOutRefIdeal.nD Cert.SOutRefIdeal.τ).loc Cert.SOutRefIdeal.main_arg1)
          ∧ r.2.mem ((c.tc : Thread Cert.SOutRefIdeal.nD Cert.SOutRefIdeal.τ).loc Cert.SOutRefIdeal.main_arg2) = m' ((c.tc : Thread Cert.SOutRefIdeal.nD Cert.SOutRefIdeal.τ).loc Cert.SOutRefIdeal.main_arg2)
          ∧ r.2.mem ((c.tc : Thread Cert.SOutRefIdeal.nD Cert.SOutRefIdeal.τ).loc Cert.SOutRefIdeal.main_arg3) = m' ((c.tc : Thread Cert.SOutRefIdeal.nD Cert.SOutRefIdeal.τ).loc Cert.SOutRefIdeal.main_arg3)
          ∧ r.2.mem ((c.tc : Thread Cert.SOutRefIdeal.nD Cert.SOutRefIdeal.τ).loc Cert.SOutRefIdeal.main_arg4) = m' ((c.tc : Thread Cert.SOutRefIdeal.nD Cert.SOutRefIdeal.τ).loc Cert.SOutRefIdeal.main_arg4)
          ∧ r.2.mem ((c.tc : Thread Cert.SOutRefIdeal.nD Cert.SOutRefIdeal.τ).loc Cert.SOutRefIdeal.main_arg5) = m' ((c.tc : Thread Cert.SOutRefIdeal.nD Cert.SOutRefIdeal.τ).loc Cert.SOutRefIdeal.main_arg5)
          ∧ r.2.mem ((c.tc : Thread Cert.SOutRefIdeal.nD Cert.SOutRefIdeal.τ).loc Cert.SOutRefIdeal.main_arg6) = m' ((c.tc : Thread Cert.SOutRefIdeal.nD Cert.SOutRefIdeal.τ).loc Cert.SOutRefIdeal.main_arg6)
          ∧ r.2.mem ((c.tc : Thread Cert.SOutRefIdeal.nD Cert.SOutRefIdeal.τ).loc Cert.SOutRefIdeal.main_arg7) = m' ((c.tc : Thread Cert.SOutRefIdeal.nD Cert.SOutRefIdeal.τ).loc Cert.SOutRefIdeal.main_arg7)
          ∧ r.2.mem ((c.tc : Thread Cert.SOutRefIdeal.nD Cert.SOutRefIdeal.τ).loc Cert.SOutRefIdeal.main_arg8) = m' ((c.tc : Thread Cert.SOutRefIdeal.nD Cert.SOutRefIdeal.τ).loc Cert.SOutRefIdeal.main_arg8)
          ∧ r.2.mem ((c.tc : Thread Cert.SOutRefIdeal.nD Cert.SOutRefIdeal.τ).loc Cert.SOutRefIdeal.main_arg9) = m' ((c.tc : Thread Cert.SOutRefIdeal.nD Cert.SOutRefIdeal.τ).loc Cert.SOutRefIdeal.main_arg9)
          ∧ r.2.mem ((c.tc : Thread Cert.SOutRefIdeal.nD Cert.SOutRefIdeal.τ).loc Cert.SOutRefIdeal.main_arg10) = m' ((c.tc : Thread Cert.SOutRefIdeal.nD Cert.SOutRefIdeal.τ).loc Cert.SOutRefIdeal.main_arg10)
          ∧ r.2.mem ((c.tc : Thread Cert.SOutRefIdeal.nD Cert.SOutRefIdeal.τ).loc Cert.SOutRefIdeal.main_arg11) = m' ((c.tc : Thread Cert.SOutRefIdeal.nD Cert.SOutRefIdeal.τ).loc Cert.SOutRefIdeal.main_arg11)
          ∧ r.2.mem ((c.tc : Thread Cert.SOutRefIdeal.nD Cert.SOutRefIdeal.τ).loc Cert.SOutRefIdeal.main_arg12) = m' ((c.tc : Thread Cert.SOutRefIdeal.nD Cert.SOutRefIdeal.τ).loc Cert.SOutRefIdeal.main_arg12))

def preserves_MIn_MInIdeal : Prop :=
  True

def algebraic_MInIdeal_MInRefIdeal_pre_rope_tables [hMInIdeal : Cert.MInIdeal.Facts] [hMInRefIdeal : Cert.MInRefIdeal.Facts] [hPre_rope_tables : Cert.Pre_rope_tables.Facts] : Prop :=
  ∀ (m : (ℓ : Loc Cert.MInIdeal.nD Cert.MInIdeal.τ Cert.MInIdeal.sig) → Buf (Elt Ideal) ℓ) (g : Dev Cert.MInIdeal.nD → PrngReg)
    (m' : (ℓ : Loc Cert.MInRefIdeal.nD Cert.MInRefIdeal.τ Cert.MInRefIdeal.sig) → Buf (Elt Ideal) ℓ) (g' : Dev Cert.MInRefIdeal.nD → PrngReg), Pre_MInIdeal_rope_tables m →
    (∀ c : Dev Cert.MInIdeal.nD,
      m' ((c.tc : Thread Cert.MInRefIdeal.nD Cert.MInRefIdeal.τ).loc Cert.MInRefIdeal.main_arg0) = m ((c.tc : Thread Cert.MInIdeal.nD Cert.MInIdeal.τ).loc Cert.MInIdeal.main_arg0)
      ∧ m' ((c.tc : Thread Cert.MInRefIdeal.nD Cert.MInRefIdeal.τ).loc Cert.MInRefIdeal.main_arg1) = m ((c.tc : Thread Cert.MInIdeal.nD Cert.MInIdeal.τ).loc Cert.MInIdeal.main_arg1)
      ∧ m' ((c.tc : Thread Cert.MInRefIdeal.nD Cert.MInRefIdeal.τ).loc Cert.MInRefIdeal.main_arg2) = m ((c.tc : Thread Cert.MInIdeal.nD Cert.MInIdeal.τ).loc Cert.MInIdeal.main_arg2)
      ∧ m' ((c.tc : Thread Cert.MInRefIdeal.nD Cert.MInRefIdeal.τ).loc Cert.MInRefIdeal.main_arg3) = m ((c.tc : Thread Cert.MInIdeal.nD Cert.MInIdeal.τ).loc Cert.MInIdeal.main_arg3)
      ∧ m' ((c.tc : Thread Cert.MInRefIdeal.nD Cert.MInRefIdeal.τ).loc Cert.MInRefIdeal.main_arg4) = m ((c.tc : Thread Cert.MInIdeal.nD Cert.MInIdeal.τ).loc Cert.MInIdeal.main_arg4)
      ∧ m' ((c.tc : Thread Cert.MInRefIdeal.nD Cert.MInRefIdeal.τ).loc Cert.MInRefIdeal.main_arg5) = m ((c.tc : Thread Cert.MInIdeal.nD Cert.MInIdeal.τ).loc Cert.MInIdeal.main_arg5)
      ∧ m' ((c.tc : Thread Cert.MInRefIdeal.nD Cert.MInRefIdeal.τ).loc Cert.MInRefIdeal.main_arg6) = m ((c.tc : Thread Cert.MInIdeal.nD Cert.MInIdeal.τ).loc Cert.MInIdeal.main_arg6)
      ∧ m' ((c.tc : Thread Cert.MInRefIdeal.nD Cert.MInRefIdeal.τ).loc Cert.MInRefIdeal.main_arg7) = m ((c.tc : Thread Cert.MInIdeal.nD Cert.MInIdeal.τ).loc Cert.MInIdeal.main_arg7)) →
    ∃ (v0 : (c : Dev Cert.MInIdeal.nD) → Buf (Elt Ideal) ((c.tc : Thread Cert.MInIdeal.nD Cert.MInIdeal.τ).loc Cert.MInIdeal.main_v0_0)) (v1 : (c : Dev Cert.MInIdeal.nD) → Buf (Elt Ideal) ((c.tc : Thread Cert.MInIdeal.nD Cert.MInIdeal.τ).loc Cert.MInIdeal.main_v0_1)) (v2 : (c : Dev Cert.MInIdeal.nD) → Buf (Elt Ideal) ((c.tc : Thread Cert.MInIdeal.nD Cert.MInIdeal.τ).loc Cert.MInIdeal.main_v0_2)) (v3 : (c : Dev Cert.MInIdeal.nD) → Buf (Elt Ideal) ((c.tc : Thread Cert.MInIdeal.nD Cert.MInIdeal.τ).loc Cert.MInIdeal.main_v0_3)),
      θ_run (Cert.MInIdeal.defs (F := Ideal)) (onTc (τ := Cert.MInIdeal.τ) (Cert.MInIdeal.main (F := Ideal))) ⟨m, fun _ => 0, g⟩ (fun r => ∀ c : Dev Cert.MInIdeal.nD,
          r.2.mem ((c.tc : Thread Cert.MInIdeal.nD Cert.MInIdeal.τ).loc Cert.MInIdeal.main_v0_0) = v0 c
          ∧ r.2.mem ((c.tc : Thread Cert.MInIdeal.nD Cert.MInIdeal.τ).loc Cert.MInIdeal.main_v0_1) = v1 c
          ∧ r.2.mem ((c.tc : Thread Cert.MInIdeal.nD Cert.MInIdeal.τ).loc Cert.MInIdeal.main_v0_2) = v2 c
          ∧ r.2.mem ((c.tc : Thread Cert.MInIdeal.nD Cert.MInIdeal.τ).loc Cert.MInIdeal.main_v0_3) = v3 c
          ∧ r.2.mem ((c.tc : Thread Cert.MInIdeal.nD Cert.MInIdeal.τ).loc Cert.MInIdeal.main_arg0) = m ((c.tc : Thread Cert.MInIdeal.nD Cert.MInIdeal.τ).loc Cert.MInIdeal.main_arg0)
          ∧ r.2.mem ((c.tc : Thread Cert.MInIdeal.nD Cert.MInIdeal.τ).loc Cert.MInIdeal.main_arg1) = m ((c.tc : Thread Cert.MInIdeal.nD Cert.MInIdeal.τ).loc Cert.MInIdeal.main_arg1)
          ∧ r.2.mem ((c.tc : Thread Cert.MInIdeal.nD Cert.MInIdeal.τ).loc Cert.MInIdeal.main_arg2) = m ((c.tc : Thread Cert.MInIdeal.nD Cert.MInIdeal.τ).loc Cert.MInIdeal.main_arg2)
          ∧ r.2.mem ((c.tc : Thread Cert.MInIdeal.nD Cert.MInIdeal.τ).loc Cert.MInIdeal.main_arg3) = m ((c.tc : Thread Cert.MInIdeal.nD Cert.MInIdeal.τ).loc Cert.MInIdeal.main_arg3)
          ∧ r.2.mem ((c.tc : Thread Cert.MInIdeal.nD Cert.MInIdeal.τ).loc Cert.MInIdeal.main_arg4) = m ((c.tc : Thread Cert.MInIdeal.nD Cert.MInIdeal.τ).loc Cert.MInIdeal.main_arg4)
          ∧ r.2.mem ((c.tc : Thread Cert.MInIdeal.nD Cert.MInIdeal.τ).loc Cert.MInIdeal.main_arg5) = m ((c.tc : Thread Cert.MInIdeal.nD Cert.MInIdeal.τ).loc Cert.MInIdeal.main_arg5)
          ∧ r.2.mem ((c.tc : Thread Cert.MInIdeal.nD Cert.MInIdeal.τ).loc Cert.MInIdeal.main_arg6) = m ((c.tc : Thread Cert.MInIdeal.nD Cert.MInIdeal.τ).loc Cert.MInIdeal.main_arg6)
          ∧ r.2.mem ((c.tc : Thread Cert.MInIdeal.nD Cert.MInIdeal.τ).loc Cert.MInIdeal.main_arg7) = m ((c.tc : Thread Cert.MInIdeal.nD Cert.MInIdeal.τ).loc Cert.MInIdeal.main_arg7))
      ∧ θ_run (Cert.MInRefIdeal.defs (F := Ideal)) (onTc (τ := Cert.MInRefIdeal.τ) (Cert.MInRefIdeal.main (F := Ideal))) ⟨m', fun _ => 0, g'⟩ (fun r => ∀ c : Dev Cert.MInRefIdeal.nD,
          r.2.mem ((c.tc : Thread Cert.MInRefIdeal.nD Cert.MInRefIdeal.τ).loc Cert.MInRefIdeal.main_v32) = v0 c
          ∧ r.2.mem ((c.tc : Thread Cert.MInRefIdeal.nD Cert.MInRefIdeal.τ).loc Cert.MInRefIdeal.main_v45) = v1 c
          ∧ r.2.mem ((c.tc : Thread Cert.MInRefIdeal.nD Cert.MInRefIdeal.τ).loc Cert.MInRefIdeal.main_v46) = v2 c
          ∧ r.2.mem ((c.tc : Thread Cert.MInRefIdeal.nD Cert.MInRefIdeal.τ).loc Cert.MInRefIdeal.main_v48) = v3 c
          ∧ r.2.mem ((c.tc : Thread Cert.MInRefIdeal.nD Cert.MInRefIdeal.τ).loc Cert.MInRefIdeal.main_arg0) = m' ((c.tc : Thread Cert.MInRefIdeal.nD Cert.MInRefIdeal.τ).loc Cert.MInRefIdeal.main_arg0)
          ∧ r.2.mem ((c.tc : Thread Cert.MInRefIdeal.nD Cert.MInRefIdeal.τ).loc Cert.MInRefIdeal.main_arg1) = m' ((c.tc : Thread Cert.MInRefIdeal.nD Cert.MInRefIdeal.τ).loc Cert.MInRefIdeal.main_arg1)
          ∧ r.2.mem ((c.tc : Thread Cert.MInRefIdeal.nD Cert.MInRefIdeal.τ).loc Cert.MInRefIdeal.main_arg2) = m' ((c.tc : Thread Cert.MInRefIdeal.nD Cert.MInRefIdeal.τ).loc Cert.MInRefIdeal.main_arg2)
          ∧ r.2.mem ((c.tc : Thread Cert.MInRefIdeal.nD Cert.MInRefIdeal.τ).loc Cert.MInRefIdeal.main_arg3) = m' ((c.tc : Thread Cert.MInRefIdeal.nD Cert.MInRefIdeal.τ).loc Cert.MInRefIdeal.main_arg3)
          ∧ r.2.mem ((c.tc : Thread Cert.MInRefIdeal.nD Cert.MInRefIdeal.τ).loc Cert.MInRefIdeal.main_arg4) = m' ((c.tc : Thread Cert.MInRefIdeal.nD Cert.MInRefIdeal.τ).loc Cert.MInRefIdeal.main_arg4)
          ∧ r.2.mem ((c.tc : Thread Cert.MInRefIdeal.nD Cert.MInRefIdeal.τ).loc Cert.MInRefIdeal.main_arg5) = m' ((c.tc : Thread Cert.MInRefIdeal.nD Cert.MInRefIdeal.τ).loc Cert.MInRefIdeal.main_arg5)
          ∧ r.2.mem ((c.tc : Thread Cert.MInRefIdeal.nD Cert.MInRefIdeal.τ).loc Cert.MInRefIdeal.main_arg6) = m' ((c.tc : Thread Cert.MInRefIdeal.nD Cert.MInRefIdeal.τ).loc Cert.MInRefIdeal.main_arg6)
          ∧ r.2.mem ((c.tc : Thread Cert.MInRefIdeal.nD Cert.MInRefIdeal.τ).loc Cert.MInRefIdeal.main_arg7) = m' ((c.tc : Thread Cert.MInRefIdeal.nD Cert.MInRefIdeal.τ).loc Cert.MInRefIdeal.main_arg7))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)
      ∧ m' ((c.tc : Thread Cert.UpRefIdeal.nD Cert.UpRefIdeal.τ).loc Cert.UpRefIdeal.main_arg6) = m ((c.tc : Thread Cert.UpIdeal.nD Cert.UpIdeal.τ).loc Cert.UpIdeal.main_arg6)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v39) = v0 c
          ∧ r.2.mem ((c.tc : Thread Cert.UpRefIdeal.nD Cert.UpRefIdeal.τ).loc Cert.UpRefIdeal.main_v37) = v1 c
          ∧ r.2.mem ((c.tc : Thread Cert.UpRefIdeal.nD Cert.UpRefIdeal.τ).loc Cert.UpRefIdeal.main_v42) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6))

def preserves_Dt_DtIdeal : Prop :=
  True

def algebraic_DtIdeal_DtRefIdeal [hDtIdeal : Cert.DtIdeal.Facts] [hDtRefIdeal : Cert.DtRefIdeal.Facts] : Prop :=
  ∀ (m : (ℓ : Loc Cert.DtIdeal.nD Cert.DtIdeal.τ Cert.DtIdeal.sig) → Buf (Elt Ideal) ℓ) (g : Dev Cert.DtIdeal.nD → PrngReg)
    (m' : (ℓ : Loc Cert.DtRefIdeal.nD Cert.DtRefIdeal.τ Cert.DtRefIdeal.sig) → Buf (Elt Ideal) ℓ) (g' : Dev Cert.DtRefIdeal.nD → PrngReg), Pre_DtIdeal m →
    (∀ c : Dev Cert.DtIdeal.nD,
      m' ((c.tc : Thread Cert.DtRefIdeal.nD Cert.DtRefIdeal.τ).loc Cert.DtRefIdeal.main_arg0) = m ((c.tc : Thread Cert.DtIdeal.nD Cert.DtIdeal.τ).loc Cert.DtIdeal.main_arg0)
      ∧ m' ((c.tc : Thread Cert.DtRefIdeal.nD Cert.DtRefIdeal.τ).loc Cert.DtRefIdeal.main_arg1) = m ((c.tc : Thread Cert.DtIdeal.nD Cert.DtIdeal.τ).loc Cert.DtIdeal.main_arg1)
      ∧ m' ((c.tc : Thread Cert.DtRefIdeal.nD Cert.DtRefIdeal.τ).loc Cert.DtRefIdeal.main_arg2) = m ((c.tc : Thread Cert.DtIdeal.nD Cert.DtIdeal.τ).loc Cert.DtIdeal.main_arg2)) →
    ∃ (v0 : (c : Dev Cert.DtIdeal.nD) → Buf (Elt Ideal) ((c.tc : Thread Cert.DtIdeal.nD Cert.DtIdeal.τ).loc Cert.DtIdeal.main_v0)),
      θ_run (Cert.DtIdeal.defs (F := Ideal)) (onTc (τ := Cert.DtIdeal.τ) (Cert.DtIdeal.main (F := Ideal))) ⟨m, fun _ => 0, g⟩ (fun r => ∀ c : Dev Cert.DtIdeal.nD,
          r.2.mem ((c.tc : Thread Cert.DtIdeal.nD Cert.DtIdeal.τ).loc Cert.DtIdeal.main_v0) = v0 c
          ∧ r.2.mem ((c.tc : Thread Cert.DtIdeal.nD Cert.DtIdeal.τ).loc Cert.DtIdeal.main_arg0) = m ((c.tc : Thread Cert.DtIdeal.nD Cert.DtIdeal.τ).loc Cert.DtIdeal.main_arg0)
          ∧ r.2.mem ((c.tc : Thread Cert.DtIdeal.nD Cert.DtIdeal.τ).loc Cert.DtIdeal.main_arg1) = m ((c.tc : Thread Cert.DtIdeal.nD Cert.DtIdeal.τ).loc Cert.DtIdeal.main_arg1)
          ∧ r.2.mem ((c.tc : Thread Cert.DtIdeal.nD Cert.DtIdeal.τ).loc Cert.DtIdeal.main_arg2) = m ((c.tc : Thread Cert.DtIdeal.nD Cert.DtIdeal.τ).loc Cert.DtIdeal.main_arg2))
      ∧ θ_run (Cert.DtRefIdeal.defs (F := Ideal)) (onTc (τ := Cert.DtRefIdeal.τ) (Cert.DtRefIdeal.main (F := Ideal))) ⟨m', fun _ => 0, g'⟩ (fun r => ∀ c : Dev Cert.DtRefIdeal.nD,
          r.2.mem ((c.tc : Thread Cert.DtRefIdeal.nD Cert.DtRefIdeal.τ).loc Cert.DtRefIdeal.main_v5) = v0 c
          ∧ r.2.mem ((c.tc : Thread Cert.DtRefIdeal.nD Cert.DtRefIdeal.τ).loc Cert.DtRefIdeal.main_arg0) = m' ((c.tc : Thread Cert.DtRefIdeal.nD Cert.DtRefIdeal.τ).loc Cert.DtRefIdeal.main_arg0)
          ∧ r.2.mem ((c.tc : Thread Cert.DtRefIdeal.nD Cert.DtRefIdeal.τ).loc Cert.DtRefIdeal.main_arg1) = m' ((c.tc : Thread Cert.DtRefIdeal.nD Cert.DtRefIdeal.τ).loc Cert.DtRefIdeal.main_arg1)
          ∧ r.2.mem ((c.tc : Thread Cert.DtRefIdeal.nD Cert.DtRefIdeal.τ).loc Cert.DtRefIdeal.main_arg2) = m' ((c.tc : Thread Cert.DtRefIdeal.nD Cert.DtRefIdeal.τ).loc Cert.DtRefIdeal.main_arg2))

def preserves_Tab_TabIdeal : Prop :=
  True

def algebraic_TabIdeal_TabRefIdeal [hTabIdeal : Cert.TabIdeal.Facts] [hTabRefIdeal : Cert.TabRefIdeal.Facts] : Prop :=
  ∀ (m : (ℓ : Loc Cert.TabIdeal.nD Cert.TabIdeal.τ Cert.TabIdeal.sig) → Buf (Elt Ideal) ℓ) (g : Dev Cert.TabIdeal.nD → PrngReg)
    (m' : (ℓ : Loc Cert.TabRefIdeal.nD Cert.TabRefIdeal.τ Cert.TabRefIdeal.sig) → Buf (Elt Ideal) ℓ) (g' : Dev Cert.TabRefIdeal.nD → PrngReg), Pre_TabIdeal m →
    (∀ c : Dev Cert.TabIdeal.nD,
      m' ((c.tc : Thread Cert.TabRefIdeal.nD Cert.TabRefIdeal.τ).loc Cert.TabRefIdeal.main_arg0) = m ((c.tc : Thread Cert.TabIdeal.nD Cert.TabIdeal.τ).loc Cert.TabIdeal.main_arg0)
      ∧ m' ((c.tc : Thread Cert.TabRefIdeal.nD Cert.TabRefIdeal.τ).loc Cert.TabRefIdeal.main_arg1) = m ((c.tc : Thread Cert.TabIdeal.nD Cert.TabIdeal.τ).loc Cert.TabIdeal.main_arg1)) →
    ∃ (v0 : (c : Dev Cert.TabIdeal.nD) → Buf (Elt Ideal) ((c.tc : Thread Cert.TabIdeal.nD Cert.TabIdeal.τ).loc Cert.TabIdeal.main_v0_0)) (v1 : (c : Dev Cert.TabIdeal.nD) → Buf (Elt Ideal) ((c.tc : Thread Cert.TabIdeal.nD Cert.TabIdeal.τ).loc Cert.TabIdeal.main_v0_1)) (v2 : (c : Dev Cert.TabIdeal.nD) → Buf (Elt Ideal) ((c.tc : Thread Cert.TabIdeal.nD Cert.TabIdeal.τ).loc Cert.TabIdeal.main_v0_2)) (v3 : (c : Dev Cert.TabIdeal.nD) → Buf (Elt Ideal) ((c.tc : Thread Cert.TabIdeal.nD Cert.TabIdeal.τ).loc Cert.TabIdeal.main_v0_3)) (v4 : (c : Dev Cert.TabIdeal.nD) → Buf (Elt Ideal) ((c.tc : Thread Cert.TabIdeal.nD Cert.TabIdeal.τ).loc Cert.TabIdeal.main_v0_4)),
      θ_run (Cert.TabIdeal.defs (F := Ideal)) (onTc (τ := Cert.TabIdeal.τ) (Cert.TabIdeal.main (F := Ideal))) ⟨m, fun _ => 0, g⟩ (fun r => ∀ c : Dev Cert.TabIdeal.nD,
          r.2.mem ((c.tc : Thread Cert.TabIdeal.nD Cert.TabIdeal.τ).loc Cert.TabIdeal.main_v0_0) = v0 c
          ∧ r.2.mem ((c.tc : Thread Cert.TabIdeal.nD Cert.TabIdeal.τ).loc Cert.TabIdeal.main_v0_1) = v1 c
          ∧ r.2.mem ((c.tc : Thread Cert.TabIdeal.nD Cert.TabIdeal.τ).loc Cert.TabIdeal.main_v0_2) = v2 c
          ∧ r.2.mem ((c.tc : Thread Cert.TabIdeal.nD Cert.TabIdeal.τ).loc Cert.TabIdeal.main_v0_3) = v3 c
          ∧ r.2.mem ((c.tc : Thread Cert.TabIdeal.nD Cert.TabIdeal.τ).loc Cert.TabIdeal.main_v0_4) = v4 c
          ∧ r.2.mem ((c.tc : Thread Cert.TabIdeal.nD Cert.TabIdeal.τ).loc Cert.TabIdeal.main_arg0) = m ((c.tc : Thread Cert.TabIdeal.nD Cert.TabIdeal.τ).loc Cert.TabIdeal.main_arg0)
          ∧ r.2.mem ((c.tc : Thread Cert.TabIdeal.nD Cert.TabIdeal.τ).loc Cert.TabIdeal.main_arg1) = m ((c.tc : Thread Cert.TabIdeal.nD Cert.TabIdeal.τ).loc Cert.TabIdeal.main_arg1))
      ∧ θ_run (Cert.TabRefIdeal.defs (F := Ideal)) (onTc (τ := Cert.TabRefIdeal.τ) (Cert.TabRefIdeal.main (F := Ideal))) ⟨m', fun _ => 0, g'⟩ (fun r => ∀ c : Dev Cert.TabRefIdeal.nD,
          r.2.mem ((c.tc : Thread Cert.TabRefIdeal.nD Cert.TabRefIdeal.τ).loc Cert.TabRefIdeal.main_v11) = v0 c
          ∧ r.2.mem ((c.tc : Thread Cert.TabRefIdeal.nD Cert.TabRefIdeal.τ).loc Cert.TabRefIdeal.main_v12) = v1 c
          ∧ r.2.mem ((c.tc : Thread Cert.TabRefIdeal.nD Cert.TabRefIdeal.τ).loc Cert.TabRefIdeal.main_v14) = v2 c
          ∧ r.2.mem ((c.tc : Thread Cert.TabRefIdeal.nD Cert.TabRefIdeal.τ).loc Cert.TabRefIdeal.main_v15) = v3 c
          ∧ r.2.mem ((c.tc : Thread Cert.TabRefIdeal.nD Cert.TabRefIdeal.τ).loc Cert.TabRefIdeal.main_v16) = v4 c
          ∧ r.2.mem ((c.tc : Thread Cert.TabRefIdeal.nD Cert.TabRefIdeal.τ).loc Cert.TabRefIdeal.main_arg0) = m' ((c.tc : Thread Cert.TabRefIdeal.nD Cert.TabRefIdeal.τ).loc Cert.TabRefIdeal.main_arg0)
          ∧ r.2.mem ((c.tc : Thread Cert.TabRefIdeal.nD Cert.TabRefIdeal.τ).loc Cert.TabRefIdeal.main_arg1) = m' ((c.tc : Thread Cert.TabRefIdeal.nD Cert.TabRefIdeal.τ).loc Cert.TabRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v60) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Scan_ScanIdeal : Prop :=
  True

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hMOut : Cert.MOut.Facts) (hMOutIdeal : Cert.MOutIdeal.Facts) (hMOutRefIdeal : Cert.MOutRefIdeal.Facts) (hSOut : Cert.SOut.Facts) (hSOutIdeal : Cert.SOutIdeal.Facts) (hSOutRefIdeal : Cert.SOutRefIdeal.Facts) (hMIn : Cert.MIn.Facts) (hMInIdeal : Cert.MInIdeal.Facts) (hMInRefIdeal : Cert.MInRefIdeal.Facts) (hUp : Cert.Up.Facts) (hUpIdeal : Cert.UpIdeal.Facts) (hUpRefIdeal : Cert.UpRefIdeal.Facts) (hDt : Cert.Dt.Facts) (hDtIdeal : Cert.DtIdeal.Facts) (hDtRefIdeal : Cert.DtRefIdeal.Facts) (hTab : Cert.Tab.Facts) (hTabIdeal : Cert.TabIdeal.Facts) (hTabRefIdeal : Cert.TabRefIdeal.Facts) (hConv : Cert.Conv.Facts) (hConvIdeal : Cert.ConvIdeal.Facts) (hConvRefIdeal : Cert.ConvRefIdeal.Facts) (hScan : Cert.Scan.Facts) (hScanIdeal : Cert.ScanIdeal.Facts) (hPre_finite_qk : Cert.Pre_finite_qk.Facts) (hPre_rope_tables : Cert.Pre_rope_tables.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Proj (hProj := hProj)
    ∧ quiescent_ProjIdeal (hProjIdeal := hProjIdeal)
    ∧ quiescent_ProjRefIdeal (hProjRefIdeal := hProjRefIdeal)
    ∧ quiescent_MOut (hMOut := hMOut)
    ∧ quiescent_MOutIdeal (hMOutIdeal := hMOutIdeal)
    ∧ quiescent_MOutRefIdeal (hMOutRefIdeal := hMOutRefIdeal)
    ∧ quiescent_SOut (hSOut := hSOut)
    ∧ quiescent_SOutIdeal (hSOutIdeal := hSOutIdeal)
    ∧ quiescent_SOutRefIdeal (hSOutRefIdeal := hSOutRefIdeal)
    ∧ quiescent_MIn (hMIn := hMIn)
    ∧ quiescent_MInIdeal (hMInIdeal := hMInIdeal)
    ∧ quiescent_MInIdeal_pre_rope_tables (hMInIdeal := hMInIdeal) (hPre_rope_tables := hPre_rope_tables)
    ∧ quiescent_MInRefIdeal (hMInRefIdeal := hMInRefIdeal)
    ∧ quiescent_MInRefIdeal_pre_rope_tables (hMInRefIdeal := hMInRefIdeal) (hPre_rope_tables := hPre_rope_tables)
    ∧ quiescent_Up (hUp := hUp)
    ∧ quiescent_UpIdeal (hUpIdeal := hUpIdeal)
    ∧ quiescent_UpRefIdeal (hUpRefIdeal := hUpRefIdeal)
    ∧ quiescent_Dt (hDt := hDt)
    ∧ quiescent_DtIdeal (hDtIdeal := hDtIdeal)
    ∧ quiescent_DtRefIdeal (hDtRefIdeal := hDtRefIdeal)
    ∧ quiescent_Tab (hTab := hTab)
    ∧ quiescent_TabIdeal (hTabIdeal := hTabIdeal)
    ∧ quiescent_TabRefIdeal (hTabRefIdeal := hTabRefIdeal)
    ∧ quiescent_Conv (hConv := hConv)
    ∧ quiescent_ConvIdeal (hConvIdeal := hConvIdeal)
    ∧ quiescent_ConvRefIdeal (hConvRefIdeal := hConvRefIdeal)
    ∧ quiescent_Scan (hScan := hScan)
    ∧ quiescent_ScanIdeal (hScanIdeal := hScanIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Proj_ProjIdeal
    ∧ algebraic_ProjIdeal_ProjRefIdeal (hProjIdeal := hProjIdeal) (hProjRefIdeal := hProjRefIdeal)
    ∧ preserves_MOut_MOutIdeal
    ∧ algebraic_MOutIdeal_MOutRefIdeal (hMOutIdeal := hMOutIdeal) (hMOutRefIdeal := hMOutRefIdeal)
    ∧ preserves_SOut_SOutIdeal
    ∧ algebraic_SOutIdeal_SOutRefIdeal (hSOutIdeal := hSOutIdeal) (hSOutRefIdeal := hSOutRefIdeal)
    ∧ preserves_MIn_MInIdeal
    ∧ algebraic_MInIdeal_MInRefIdeal_pre_rope_tables (hMInIdeal := hMInIdeal) (hMInRefIdeal := hMInRefIdeal) (hPre_rope_tables := hPre_rope_tables)
    ∧ preserves_Up_UpIdeal
    ∧ algebraic_UpIdeal_UpRefIdeal (hUpIdeal := hUpIdeal) (hUpRefIdeal := hUpRefIdeal)
    ∧ preserves_Dt_DtIdeal
    ∧ algebraic_DtIdeal_DtRefIdeal (hDtIdeal := hDtIdeal) (hDtRefIdeal := hDtRefIdeal)
    ∧ preserves_Tab_TabIdeal
    ∧ algebraic_TabIdeal_TabRefIdeal (hTabIdeal := hTabIdeal) (hTabRefIdeal := hTabRefIdeal)
    ∧ preserves_Conv_ConvIdeal
    ∧ algebraic_ConvIdeal_ConvRefIdeal (hConvIdeal := hConvIdeal) (hConvRefIdeal := hConvRefIdeal)
    ∧ preserves_Scan_ScanIdeal
-- ==== Pre_finite_qk.lean ====
abbrev S2x16x192x8192 : Shape := ⟨4, ![2, 16, 192, 8192]⟩
abbrev S2x16x8192x192 : Shape := ⟨4, ![2, 16, 8192, 192]⟩
abbrev S2x16x128x8192 : Shape := ⟨4, ![2, 16, 128, 8192]⟩
abbrev S_ : Shape := ⟨0, ![]⟩

class Facts : Prop where
  bitsLt_bf16_f32 : FTy.bits .bf16 < FTy.bits .f32
  bcast_S_S2x16x192x8192 : S_.BroadcastsInDim S2x16x192x8192 (![] : Fin 0 → Fin S2x16x192x8192.rank)
  bcast_S_S2x16x8192x192 : S_.BroadcastsInDim S2x16x8192x192 (![] : Fin 0 → Fin S2x16x8192x192.rank)

variable [Facts]

def fn {F : FTy → Type} [FloatOps F] (main_arg0 : FVec F S2x16x192x8192 .bf16) (main_arg1 : FVec F S2x16x8192x192 .bf16) (main_arg2 : FVec F S2x16x128x8192 .bf16) : IVec S2x16x192x8192 1 × IVec S2x16x8192x192 1 :=
  let main_v0 : FVec F S2x16x192x8192 .f32 := (extf .f32 · bitsLt_bf16_f32) main_arg0
  let main_v1 : FVec F S2x16x192x8192 .f32 := Host.absf main_v0
  let main_cst : FVec F S_ .f32 := constant S_ .f32 0x7F800000#32
  let main_v2 : FVec F S2x16x192x8192 .f32 := broadcastInDim S2x16x192x8192 ![] bcast_S_S2x16x192x8192 main_cst
  let main_v3 : IVec S2x16x192x8192 1 := cmpf .olt main_v1 main_v2
  let main_v4 : FVec F S2x16x8192x192 .f32 := (extf .f32 · bitsLt_bf16_f32) main_arg1
  let main_v5 : FVec F S2x16x8192x192 .f32 := Host.absf main_v4
  let main_cst_0 : FVec F S_ .f32 := constant S_ .f32 0x7F800000#32
  let main_v6 : FVec F S2x16x8192x192 .f32 := broadcastInDim S2x16x8192x192 ![] bcast_S_S2x16x8192x192 main_cst_0
  let main_v7 : IVec S2x16x8192x192 1 := cmpf .olt main_v5 main_v6
  (main_v3, main_v7)
-- ==== Pre_rope_tables.lean ====
abbrev S16384x2048 : Shape := ⟨2, ![16384, 2048]⟩
abbrev S2048x1152 : Shape := ⟨2, ![2048, 1152]⟩
abbrev S2048x2048 : Shape := ⟨2, ![2048, 2048]⟩
abbrev S1x512 : Shape := ⟨2, ![1, 512]⟩
abbrev S16384x128 : Shape := ⟨2, ![16384, 128]⟩
abbrev S16384x32 : Shape := ⟨2, ![16384, 32]⟩
abbrev S16384x64 : Shape := ⟨2, ![16384, 64]⟩
abbrev S_ : Shape := ⟨0, ![]⟩
abbrev S16384x96 : Shape := ⟨2, ![16384, 96]⟩

class Facts : Prop where
  slices_S16384x128_S16384x32_0_32 : S16384x128.Slices ![0, 32] S16384x32
  slices_S16384x128_S16384x32_0_0 : S16384x128.Slices ![0, 0] S16384x32
  slices_S16384x128_S16384x64_0_64 : S16384x128.Slices ![0, 64] S16384x64
  bcast_S_S16384x64 : S_.BroadcastsInDim S16384x64 (![] : Fin 0 → Fin S16384x64.rank)
  bcast_S_S16384x32 : S_.BroadcastsInDim S16384x32 (![] : Fin 0 → Fin S16384x32.rank)
  slices_S16384x128_S16384x96_0_32 : S16384x128.Slices ![0, 32] S16384x96
  bcast_S_S16384x96 : S_.BroadcastsInDim S16384x96 (![] : Fin 0 → Fin S16384x96.rank)

variable [Facts]

def fn {F : FTy → Type} [FloatOps F] (main_arg0 : FVec F S16384x2048 .f32) (main_arg1 : FVec F S2048x1152 .bf16) (main_arg2 : FVec F S2048x2048 .bf16) (main_arg3 : FVec F S1x512 .f32) (main_arg4 : FVec F S1x512 .f32) (main_arg5 : FVec F S16384x128 .f32) (main_arg6 : FVec F S16384x128 .f32) (main_arg7 : FVec F S16384x128 .f32) : IVec S16384x32 1 × IVec S16384x64 1 × IVec S16384x32 1 × IVec S16384x64 1 × IVec S16384x32 1 × IVec S16384x96 1 :=
  let main_v0 : FVec F S16384x32 .f32 := (extractStridedSlice S16384x32 ![0, 32] · slices_S16384x128_S16384x32_0_32) main_arg5
  let main_v1 : FVec F S16384x32 .f32 := (extractStridedSlice S16384x32 ![0, 0] · slices_S16384x128_S16384x32_0_0) main_arg5
  let main_v2 : IVec S16384x32 1 := cmpf .oeq main_v0 main_v1
  let main_v3 : FVec F S16384x64 .f32 := (extractStridedSlice S16384x64 ![0, 64] · slices_S16384x128_S16384x64_0_64) main_arg5
  let main_cst : FVec F S_ .f32 := constant S_ .f32 0x00000000#32
  let main_v4 : FVec F S16384x64 .f32 := broadcastInDim S16384x64 ![] bcast_S_S16384x64 main_cst
  let main_v5 : IVec S16384x64 1 := cmpf .oeq main_v3 main_v4
  let main_v6 : FVec F S16384x32 .f32 := (extractStridedSlice S16384x32 ![0, 0] · slices_S16384x128_S16384x32_0_0) main_arg6
  let main_cst_0 : FVec F S_ .f32 := constant S_ .f32 0x00000000#32
  let main_v7 : FVec F S16384x32 .f32 := broadcastInDim S16384x32 ![] bcast_S_S16384x32 main_cst_0
  let main_v8 : IVec S16384x32 1 := cmpf .oeq main_v6 main_v7
  let main_v9 : FVec F S16384x64 .f32 := (extractStridedSlice S16384x64 ![0, 64] · slices_S16384x128_S16384x64_0_64) main_arg6
  let main_cst_1 : FVec F S_ .f32 := constant S_ .f32 0x00000000#32
  let main_v10 : FVec F S16384x64 .f32 := broadcastInDim S16384x64 ![] bcast_S_S16384x64 main_cst_1
  let main_v11 : IVec S16384x64 1 := cmpf .oeq main_v9 main_v10
  let main_v12 : FVec F S16384x32 .f32 := (extractStridedSlice S16384x32 ![0, 0] · slices_S16384x128_S16384x32_0_0) main_arg7
  let main_v13 : FVec F S16384x32 .f32 := (extractStridedSlice S16384x32 ![0, 32] · slices_S16384x128_S16384x32_0_32) main_arg6
  let main_v14 : FVec F S16384x32 .f32 := Host.negf main_v13
  let main_v15 : IVec S16384x32 1 := cmpf .oeq main_v12 main_v14
  let main_v16 : FVec F S16384x96 .f32 := (extractStridedSlice S16384x96 ![0, 32] · slices_S16384x128_S16384x96_0_32) main_arg7
  let main_cst_2 : FVec F S_ .f32 := constant S_ .f32 0x00000000#32
  let main_v17 : FVec F S16384x96 .f32 := broadcastInDim S16384x96 ![] bcast_S_S16384x96 main_cst_2
  let main_v18 : IVec S16384x96 1 := cmpf .oeq main_v16 main_v17
  (main_v2, main_v5, main_v8, main_v11, main_v15, main_v18)
-- ==== Attn.lean ====
abbrev S2x16x192x8192 : Shape := ⟨4, ![2, 16, 192, 8192]⟩
abbrev S2x16x8192x192 : Shape := ⟨4, ![2, 16, 8192, 192]⟩
abbrev S2x16x128x8192 : Shape := ⟨4, ![2, 16, 128, 8192]⟩
abbrev S2x8192x2048 : Shape := ⟨3, ![2, 8192, 2048]⟩
abbrev S1x1x192x1024 : Shape := ⟨4, ![1, 1, 192, 1024]⟩
abbrev S1x1x8192x192 : Shape := ⟨4, ![1, 1, 8192, 192]⟩
abbrev S1x1x128x8192 : Shape := ⟨4, ![1, 1, 128, 8192]⟩
abbrev S1x1024x128 : Shape := ⟨3, ![1, 1024, 128]⟩
abbrev S2x512x1024 : Shape := ⟨3, ![2, 512, 1024]⟩
abbrev S1x512 : Shape := ⟨2, ![1, 512]⟩
abbrev S1x1x512x192 : Shape := ⟨4, ![1, 1, 512, 192]⟩
abbrev S512x192 : Shape := ⟨2, ![512, 192]⟩
abbrev S1x1x192x512 : Shape := ⟨4, ![1, 1, 192, 512]⟩
abbrev S192x512 : Shape := ⟨2, ![192, 512]⟩
abbrev S512x512 : Shape := ⟨2, ![512, 512]⟩
abbrev S1x512x512 : Shape := ⟨3, ![1, 512, 512]⟩
abbrev S512 : Shape := ⟨1, ![512]⟩
abbrev S8x512 : Shape := ⟨2, ![8, 512]⟩
abbrev S128x512 : Shape := ⟨2, ![128, 512]⟩
abbrev S64x8x512 : Shape := ⟨3, ![64, 8, 512]⟩
abbrev S1x1x128x512 : Shape := ⟨4, ![1, 1, 128, 512]⟩
abbrev S512x128 : Shape := ⟨2, ![512, 128]⟩
abbrev S1x512x128 : Shape := ⟨3, ![1, 512, 128]⟩

abbrev nBuf : Space → Nat
  | .hbm => 4
  | .vmem => 9
  | .smem => 0
  | _ => 0

abbrev bufTy : (tb : Table) → Fin (tcTables nBuf tb) → BufTy
  | .hbm, ⟨0, _⟩ => ⟨S2x16x192x8192, .bf16⟩
  | .hbm, ⟨1, _⟩ => ⟨S2x16x8192x192, .bf16⟩
  | .hbm, ⟨2, _⟩ => ⟨S2x16x128x8192, .bf16⟩
  | .hbm, ⟨3, _⟩ => ⟨S2x8192x2048, .bf16⟩
  | .local _ .vmem, ⟨0, _⟩ => ⟨S1x1x192x1024, .bf16⟩
  | .local _ .vmem, ⟨1, _⟩ => ⟨S1x1x192x1024, .bf16⟩
  | .local _ .vmem, ⟨2, _⟩ => ⟨S1x1x8192x192, .bf16⟩
  | .local _ .vmem, ⟨3, _⟩ => ⟨S1x1x8192x192, .bf16⟩
  | .local _ .vmem, ⟨4, _⟩ => ⟨S1x1x128x8192, .bf16⟩
  | .local _ .vmem, ⟨5, _⟩ => ⟨S1x1x128x8192, .bf16⟩
  | .local _ .vmem, ⟨6, _⟩ => ⟨S1x1024x128, .bf16⟩
  | .local _ .vmem, ⟨7, _⟩ => ⟨S1x1024x128, .bf16⟩
  | .local _ .vmem, ⟨8, _⟩ => ⟨S2x512x1024, .f32⟩
  | _, _ => ⟨S2x16x192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S2x16x192x8192 : Shape := ⟨4, ![2, 16, 192, 8192]⟩
abbrev S2x16x8192x192 : Shape := ⟨4, ![2, 16, 8192, 192]⟩
abbrev S2x16x128x8192 : Shape := ⟨4, ![2, 16, 128, 8192]⟩
abbrev S2x16x64x8192 : Shape := ⟨4, ![2, 16, 64, 8192]⟩
abbrev S2x16x8192x128 : Shape := ⟨4, ![2, 16, 8192, 128]⟩
abbrev S2x16x8192x64 : Shape := ⟨4, ![2, 16, 8192, 64]⟩
abbrev S2x16x8192x8192 : Shape := ⟨4, ![2, 16, 8192, 8192]⟩
abbrev S_ : Shape := ⟨0, ![]⟩
abbrev S2x16x8192 : Shape := ⟨3, ![2, 16, 8192]⟩
abbrev S2x16x8192x1 : Shape := ⟨4, ![2, 16, 8192, 1]⟩
abbrev S2x8192x16x128 : Shape := ⟨4, ![2, 8192, 16, 128]⟩
abbrev S2x8192x2048 : Shape := ⟨3, ![2, 8192, 2048]⟩

abbrev nBuf : Space → Nat
  | .hbm => 36
  | .vmem => 0
  | .smem => 0
  | _ => 0

abbrev bufTy : (tb : Table) → Fin (tcTables nBuf tb) → BufTy
  | .hbm, ⟨0, _⟩ => ⟨S2x16x192x8192, .bf16⟩
  | .hbm, ⟨1, _⟩ => ⟨S2x16x8192x192, .bf16⟩
  | .hbm, ⟨2, _⟩ => ⟨S2x16x128x8192, .bf16⟩
  | .hbm, ⟨3, _⟩ => ⟨S2x16x128x8192, .bf16⟩
  | .hbm, ⟨4, _⟩ => ⟨S2x16x64x8192, .bf16⟩
  | .hbm, ⟨5, _⟩ => ⟨S2x16x8192x128, .bf16⟩
  | .hbm, ⟨6, _⟩ => ⟨S2x16x8192x64, .bf16⟩
  | .hbm, ⟨7, _⟩ => ⟨S2x16x8192x8192, .f32⟩
  | .hbm, ⟨8, _⟩ => ⟨S2x16x8192x8192, .bf16⟩
  | .hbm, ⟨9, _⟩ => ⟨S2x16x8192x8192, .f32⟩
  | .hbm, ⟨10, _⟩ => ⟨S2x16x8192x8192, .bf16⟩
  | .hbm, ⟨11, _⟩ => ⟨S2x16x8192x8192, .bf16⟩
  | .hbm, ⟨12, _⟩ => ⟨S2x16x8192x8192, .f32⟩
  | .hbm, ⟨13, _⟩ => ⟨S_, .f32⟩
  | .hbm, ⟨14, _⟩ => ⟨S_, .f32⟩
  | .hbm, ⟨15, _⟩ => ⟨S2x16x8192x8192, .f32⟩
  | .hbm, ⟨16, _⟩ => ⟨S2x16x8192x8192, .f32⟩
  | .hbm, ⟨17, _⟩ => ⟨S_, .f32⟩
  | .hbm, ⟨18, _⟩ => ⟨S2x16x8192, .f32⟩
  | .hbm, ⟨19, _⟩ => ⟨S_, .f32⟩
  | .hbm, ⟨20, _⟩ => ⟨S2x16x8192, .f32⟩
  | .hbm, ⟨21, _⟩ => ⟨S2x16x8192, .f32⟩
  | .hbm, ⟨22, _⟩ => ⟨S2x16x8192x1, .f32⟩
  | .hbm, ⟨23, _⟩ => ⟨S2x16x8192x8192, .f32⟩
  | .hbm, ⟨24, _⟩ => ⟨S2x16x8192x8192, .f32⟩
  | .hbm, ⟨25, _⟩ => ⟨S2x16x8192x8192, .f32⟩
  | .hbm, ⟨26, _⟩ => ⟨S_, .f32⟩
  | .hbm, ⟨27, _⟩ => ⟨S2x16x8192, .f32⟩
  | .hbm, ⟨28, _⟩ => ⟨S2x16x8192x1, .f32⟩
  | .hbm, ⟨29, _⟩ => ⟨S2x16x8192x8192, .f32⟩
  | .hbm, ⟨30, _⟩ => ⟨S2x16x8192x8192, .f32⟩
  | .hbm, ⟨31, _⟩ => ⟨S2x16x8192x8192, .bf16⟩
  | .hbm, ⟨32, _⟩ => ⟨S2x16x128x8192, .f32⟩
  | .hbm, ⟨33, _⟩ => ⟨S2x8192x16x128, .f32⟩
  | .hbm, ⟨34, _⟩ => ⟨S2x8192x16x128, .bf16⟩
  | .hbm, ⟨35, _⟩ => ⟨S2x8192x2048, .bf16⟩
  | _, _ => ⟨S2x16x192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Proj.lean ====
abbrev S16384x2048 : Shape := ⟨2, ![16384, 2048]⟩
abbrev S2048x10368 : Shape := ⟨2, ![2048, 10368]⟩
abbrev S16384x10240 : Shape := ⟨2, ![16384, 10240]⟩
abbrev S1024x2048 : Shape := ⟨2, ![1024, 2048]⟩
abbrev S2048x2048 : Shape := ⟨2, ![2048, 2048]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x10368, .bf16⟩
  | .hbm, ⟨2, _⟩ => ⟨S16384x10240, .bf16⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S16384x2048 : Shape := ⟨2, ![16384, 2048]⟩
abbrev S2048x10368 : Shape := ⟨2, ![2048, 10368]⟩
abbrev S16384x10368 : Shape := ⟨2, ![16384, 10368]⟩
abbrev S16384x10240 : Shape := ⟨2, ![16384, 10240]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x10368, .bf16⟩
  | .hbm, ⟨2, _⟩ => ⟨S2048x10368, .f32⟩
  | .hbm, ⟨3, _⟩ => ⟨S16384x10368, .f32⟩
  | .hbm, ⟨4, _⟩ => ⟨S16384x10240, .f32⟩
  | .hbm, ⟨5, _⟩ => ⟨S16384x10240, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MOut.lean ====
abbrev S16384x2048 : Shape := ⟨2, ![16384, 2048]⟩
abbrev S2x16384x256 : Shape := ⟨3, ![2, 16384, 256]⟩
abbrev S2048x2048 : Shape := ⟨2, ![2048, 2048]⟩
abbrev S1x2048 : Shape := ⟨2, ![1, 2048]⟩
abbrev S256x2048 : Shape := ⟨2, ![256, 2048]⟩
abbrev S512x2048 : Shape := ⟨2, ![512, 2048]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .f32⟩
  | .hbm, ⟨3, _⟩ => ⟨S2x16384x256, .f32⟩
  | .hbm, ⟨4, _⟩ => ⟨S2048x2048, .bf16⟩
  | .hbm, ⟨5, _⟩ => ⟨S1x2048, .f32⟩
  | .hbm, ⟨6, _⟩ => ⟨S1x2048, .f32⟩
  | .hbm, ⟨7, _⟩ => ⟨S256x2048, .bf16⟩
  | .hbm, ⟨8, _⟩ => ⟨S2048x2048, .bf16⟩
  | .hbm, ⟨9, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x512x256, .f32⟩
  | .local _ .vmem, ⟨7, _⟩ => ⟨S1x512x256, .f32⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S256x2048, .bf16⟩
  | .local _ .vmem, ⟨12, _⟩ => ⟨S2048x2048, .bf16⟩
  | .local _ .vmem, ⟨13, _⟩ => ⟨S512x2048, .f32⟩
  | .local _ .vmem, ⟨14, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MOutRefIdeal.lean ====
abbrev S16384x2048 : Shape := ⟨2, ![16384, 2048]⟩
abbrev S2x16384x256 : Shape := ⟨3, ![2, 16384, 256]⟩
abbrev S2048x2048 : Shape := ⟨2, ![2048, 2048]⟩
abbrev S1x2048 : Shape := ⟨2, ![1, 2048]⟩
abbrev S256x2048 : Shape := ⟨2, ![256, 2048]⟩
abbrev S1x16384x256 : Shape := ⟨3, ![1, 16384, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .f32⟩
  | .hbm, ⟨3, _⟩ => ⟨S2x16384x256, .f32⟩
  | .hbm, ⟨4, _⟩ => ⟨S2048x2048, .bf16⟩
  | .hbm, ⟨5, _⟩ => ⟨S1x2048, .f32⟩
  | .hbm, ⟨6, _⟩ => ⟨S1x2048, .f32⟩
  | .hbm, ⟨7, _⟩ => ⟨S256x2048, .bf16⟩
  | .hbm, ⟨8, _⟩ => ⟨S2048x2048, .bf16⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S2048x2048, .f32⟩
  | .hbm, ⟨13, _⟩ => ⟨S16384x2048, .f32⟩
  | .hbm, ⟨14, _⟩ => ⟨S1x16384x256, .f32⟩
  | .hbm, ⟨15, _⟩ => ⟨S16384x256, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S256x2048, .f32⟩
  | .hbm, ⟨48, _⟩ => ⟨S16384x2048, .f32⟩
  | .hbm, ⟨49, _⟩ => ⟨S2048x2048, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S_, .f32⟩
  | .hbm, ⟨54, _⟩ => ⟨S16384x2048, .f32⟩
  | .hbm, ⟨55, _⟩ => ⟨S16384x2048, .f32⟩
  | .hbm, ⟨56, _⟩ => ⟨S_, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== SOut.lean ====
abbrev S16384x4096 : Shape := ⟨2, ![16384, 4096]⟩
abbrev S16384x6144 : Shape := ⟨2, ![16384, 6144]⟩
abbrev S16384x10240 : Shape := ⟨2, ![16384, 10240]⟩
abbrev S16384x2048 : Shape := ⟨2, ![16384, 2048]⟩
abbrev S2x16384x256 : Shape := ⟨3, ![2, 16384, 256]⟩
abbrev S1x4096 : Shape := ⟨2, ![1, 4096]⟩
abbrev S4096x2048 : Shape := ⟨2, ![4096, 2048]⟩
abbrev S1x2048 : Shape := ⟨2, ![1, 2048]⟩
abbrev S256x2048 : Shape := ⟨2, ![256, 2048]⟩
abbrev S2048x2048 : Shape := ⟨2, ![2048, 2048]⟩
abbrev S256x4096 : Shape := ⟨2, ![256, 4096]⟩
abbrev S1x256x256 : Shape := ⟨3, ![1, 256, 256]⟩
abbrev S256x1 : Shape := ⟨2, ![256, 1]⟩
abbrev S256x256 : Shape := ⟨2, ![256, 256]⟩
abbrev S1x256 : Shape := ⟨2, ![1, 256]⟩
abbrev S256 : Shape := ⟨1, ![256]⟩

abbrev nBuf : Space → Nat
  | .hbm => 14
  | .vmem => 21
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x6144, .bf16⟩
  | .hbm, ⟨3, _⟩ => ⟨S16384x10240, .bf16⟩
  | .hbm, ⟨4, _⟩ => ⟨S16384x2048, .f32⟩
  | .hbm, ⟨5, _⟩ => ⟨S2x16384x256, .f32⟩
  | .hbm, ⟨6, _⟩ => ⟨S1x4096, .f32⟩
  | .hbm, ⟨7, _⟩ => ⟨S1x4096, .f32⟩
  | .hbm, ⟨8, _⟩ => ⟨S4096x2048, .bf16⟩
  | .hbm, ⟨9, _⟩ => ⟨S1x2048, .f32⟩
  | .hbm, ⟨10, _⟩ => ⟨S1x2048, .f32⟩
  | .hbm, ⟨11, _⟩ => ⟨S256x2048, .bf16⟩
  | .hbm, ⟨12, _⟩ => ⟨S2048x2048, .bf16⟩
  | .hbm, ⟨13, _⟩ => ⟨S16384x2048, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S256x2048, .f32⟩
  | .local _ .vmem, ⟨9, _⟩ => ⟨S256x2048, .f32⟩
  | .local _ .vmem, ⟨10, _⟩ => ⟨S1x256x256, .f32⟩
  | .local _ .vmem, ⟨11, _⟩ => ⟨S1x256x256, .f32⟩
  | .local _ .vmem, ⟨12, _⟩ => ⟨S1x4096, .f32⟩
  | .local _ .vmem, ⟨13, _⟩ => ⟨S1x4096, .f32⟩
  | .local _ .vmem, ⟨14, _⟩ => ⟨S4096x2048, .bf16⟩
  | .local _ .vmem, ⟨15, _⟩ => ⟨S1x2048, .f32⟩
  | .local _ .vmem, ⟨16, _⟩ => ⟨S1x2048, .f32⟩
  | .local _ .vmem, ⟨17, _⟩ => ⟨S256x2048, .bf16⟩
  | .local _ .vmem, ⟨18, _⟩ => ⟨S2048x2048, .bf16⟩
  | .local _ .vmem, ⟨19, _⟩ => ⟨S256x2048, .f32⟩
  | .local _ .vmem, ⟨20, _⟩ => ⟨S256x2048, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== SOutRefIdeal.lean ====
abbrev S16384x4096 : Shape := ⟨2, ![16384, 4096]⟩
abbrev S16384x6144 : Shape := ⟨2, ![16384, 6144]⟩
abbrev S16384x10240 : Shape := ⟨2, ![16384, 10240]⟩
abbrev S16384x2048 : Shape := ⟨2, ![16384, 2048]⟩
abbrev S2x16384x256 : Shape := ⟨3, ![2, 16384, 256]⟩
abbrev S1x4096 : Shape := ⟨2, ![1, 4096]⟩
abbrev S4096x2048 : Shape := ⟨2, ![4096, 2048]⟩
abbrev S1x2048 : Shape := ⟨2, ![1, 2048]⟩
abbrev S256x2048 : Shape := ⟨2, ![256, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x16384x256 : Shape := ⟨3, ![1, 16384, 256]⟩
abbrev S16384x256 : Shape := ⟨2, ![16384, 256]⟩

abbrev nBuf : Space → Nat
  | .hbm => 97
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x6144, .bf16⟩
  | .hbm, ⟨3, _⟩ => ⟨S16384x10240, .bf16⟩
  | .hbm, ⟨4, _⟩ => ⟨S16384x2048, .f32⟩
  | .hbm, ⟨5, _⟩ => ⟨S2x16384x256, .f32⟩
  | .hbm, ⟨6, _⟩ => ⟨S1x4096, .f32⟩
  | .hbm, ⟨7, _⟩ => ⟨S1x4096, .f32⟩
  | .hbm, ⟨8, _⟩ => ⟨S4096x2048, .bf16⟩
  | .hbm, ⟨9, _⟩ => ⟨S1x2048, .f32⟩
  | .hbm, ⟨10, _⟩ => ⟨S1x2048, .f32⟩
  | .hbm, ⟨11, _⟩ => ⟨S256x2048, .bf16⟩
  | .hbm, ⟨12, _⟩ => ⟨S2048x2048, .bf16⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .bf16⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .bf16⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x4096, .f32⟩
  | .hbm, ⟨45, _⟩ => ⟨S16384x4096, .f32⟩
  | .hbm, ⟨46, _⟩ => ⟨S16384x4096, .f32⟩
  | .hbm, ⟨47, _⟩ => ⟨S16384x4096, .f32⟩
  | .hbm, ⟨48, _⟩ => ⟨S4096x2048, .f32⟩
  | .hbm, ⟨49, _⟩ => ⟨S16384x2048, .f32⟩
  | .hbm, ⟨50, _⟩ => ⟨S1x16384x256, .f32⟩
  | .hbm, ⟨51, _⟩ => ⟨S16384x256, .f32⟩
  | .hbm, ⟨52, _⟩ => ⟨S_, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x2048, .f32⟩
  | .hbm, ⟨63, _⟩ => ⟨S16384x2048, .f32⟩
  | .hbm, ⟨64, _⟩ => ⟨S16384x2048, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x2048, .f32⟩
  | .hbm, ⟨72, _⟩ => ⟨S16384x2048, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S16384x1, .f32⟩
  | .hbm, ⟨77, _⟩ => ⟨S16384x2048, .f32⟩
  | .hbm, ⟨78, _⟩ => ⟨S16384x2048, .f32⟩
  | .hbm, ⟨79, _⟩ => ⟨S16384x2048, .f32⟩
  | .hbm, ⟨80, _⟩ => ⟨S16384x2048, .f32⟩
  | .hbm, ⟨81, _⟩ => ⟨S16384x2048, .f32⟩
  | .hbm, ⟨82, _⟩ => ⟨S16384x2048, .f32⟩
  | .hbm, ⟨83, _⟩ => ⟨S256x2048, .f32⟩
  | .hbm, ⟨84, _⟩ => ⟨S16384x2048, .f32⟩
  | .hbm, ⟨85, _⟩ => ⟨S2048x2048, .f32⟩
  | .hbm, ⟨86, _⟩ => ⟨S16384x2048, .f32⟩
  | .hbm, ⟨87, _⟩ => ⟨S16384x2048, .f32⟩
  | .hbm, ⟨88, _⟩ => ⟨S16384x2048, .f32⟩
  | .hbm, ⟨89, _⟩ => ⟨S_, .f32⟩
  | .hbm, ⟨90, _⟩ => ⟨S16384x2048, .f32⟩
  | .hbm, ⟨91, _⟩ => ⟨S16384x2048, .f32⟩
  | .hbm, ⟨92, _⟩ => ⟨S_, .f32⟩
  | .hbm, ⟨93, _⟩ => ⟨S16384x2048, .f32⟩
  | .hbm, ⟨94, _⟩ => ⟨S16384x2048, .f32⟩
  | .hbm, ⟨95, _⟩ => ⟨S16384x2048, .f32⟩
  | .hbm, ⟨96, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_cst_0 : Ref sig .tc := ⟨.hbm, 37, rfl⟩
abbrev main_v15 : Ref sig .tc := ⟨.hbm, 38, rfl⟩
abbrev main_v16 : Ref sig .tc := ⟨.hbm, 39, rfl⟩
abbrev main_cst_1 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_2 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_3 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]
-- ==== MIn.lean ====
abbrev S16384x2048 : Shape := ⟨2, ![16384, 2048]⟩
abbrev S2048x1152 : Shape := ⟨2, ![2048, 1152]⟩
abbrev S2048x2048 : Shape := ⟨2, ![2048, 2048]⟩
abbrev S1x512 : Shape := ⟨2, ![1, 512]⟩
abbrev S16384x128 : Shape := ⟨2, ![16384, 128]⟩
abbrev S512x16384 : Shape := ⟨2, ![512, 16384]⟩
abbrev S16384x512 : Shape := ⟨2, ![16384, 512]⟩
abbrev S512x2048 : Shape := ⟨2, ![512, 2048]⟩
abbrev S512x128 : Shape := ⟨2, ![512, 128]⟩
abbrev S512x512 : Shape := ⟨2, ![512, 512]⟩
abbrev S512x1152 : Shape := ⟨2, ![512, 1152]⟩
abbrev S512 : Shape := ⟨1, ![512]⟩
abbrev S512x1 : Shape := ⟨2, ![512, 1]⟩

abbrev nBuf : Space → Nat
  | .hbm => 12
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S2048x1152, .bf16⟩
  | .hbm, ⟨2, _⟩ => ⟨S2048x2048, .bf16⟩
  | .hbm, ⟨3, _⟩ => ⟨S1x512, .f32⟩
  | .hbm, ⟨4, _⟩ => ⟨S1x512, .f32⟩
  | .hbm, ⟨5, _⟩ => ⟨S16384x128, .f32⟩
  | .hbm, ⟨6, _⟩ => ⟨S16384x128, .f32⟩
  | .hbm, ⟨7, _⟩ => ⟨S16384x128, .f32⟩
  | .hbm, ⟨8, _⟩ => ⟨S512x16384, .bf16⟩
  | .hbm, ⟨9, _⟩ => ⟨S16384x512, .bf16⟩
  | .hbm, ⟨10, _⟩ => ⟨S16384x128, .bf16⟩
  | .hbm, ⟨11, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S2048x1152, .bf16⟩
  | .local _ .vmem, ⟨3, _⟩ => ⟨S2048x2048, .bf16⟩
  | .local _ .vmem, ⟨4, _⟩ => ⟨S1x512, .f32⟩
  | .local _ .vmem, ⟨5, _⟩ => ⟨S1x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x128, .bf16⟩
  | .local _ .vmem, ⟨17, _⟩ => ⟨S512x128, .bf16⟩
  | .local _ .vmem, ⟨18, _⟩ => ⟨S512x2048, .bf16⟩
  | .local _ .vmem, ⟨19, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MInRefIdeal.lean ====
abbrev S16384x2048 : Shape := ⟨2, ![16384, 2048]⟩
abbrev S2048x1152 : Shape := ⟨2, ![2048, 1152]⟩
abbrev S2048x2048 : Shape := ⟨2, ![2048, 2048]⟩
abbrev S1x512 : Shape := ⟨2, ![1, 512]⟩
abbrev S16384x128 : Shape := ⟨2, ![16384, 128]⟩
abbrev S16384x1152 : Shape := ⟨2, ![16384, 1152]⟩
abbrev S16384x512 : Shape := ⟨2, ![16384, 512]⟩
abbrev S16384x64 : Shape := ⟨2, ![16384, 64]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S512x16384 : Shape := ⟨2, ![512, 16384]⟩

abbrev nBuf : Space → Nat
  | .hbm => 72
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1152, .bf16⟩
  | .hbm, ⟨2, _⟩ => ⟨S2048x2048, .bf16⟩
  | .hbm, ⟨3, _⟩ => ⟨S1x512, .f32⟩
  | .hbm, ⟨4, _⟩ => ⟨S1x512, .f32⟩
  | .hbm, ⟨5, _⟩ => ⟨S16384x128, .f32⟩
  | .hbm, ⟨6, _⟩ => ⟨S16384x128, .f32⟩
  | .hbm, ⟨7, _⟩ => ⟨S16384x128, .f32⟩
  | .hbm, ⟨8, _⟩ => ⟨S2048x1152, .f32⟩
  | .hbm, ⟨9, _⟩ => ⟨S16384x1152, .f32⟩
  | .hbm, ⟨10, _⟩ => ⟨S16384x512, .f32⟩
  | .hbm, ⟨11, _⟩ => ⟨S16384x512, .f32⟩
  | .hbm, ⟨12, _⟩ => ⟨S16384x64, .f32⟩
  | .hbm, ⟨13, _⟩ => ⟨S2048x2048, .f32⟩
  | .hbm, ⟨14, _⟩ => ⟨S16384x2048, .f32⟩
  | .hbm, ⟨15, _⟩ => ⟨S16384x32, .f32⟩
  | .hbm, ⟨16, _⟩ => ⟨S16384x32, .f32⟩
  | .hbm, ⟨17, _⟩ => ⟨S16384x32, .f32⟩
  | .hbm, ⟨18, _⟩ => ⟨S16384x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S_, .f32⟩
  | .hbm, ⟨26, _⟩ => ⟨S16384x64, .f32⟩
  | .hbm, ⟨27, _⟩ => ⟨S16384x128, .f32⟩
  | .hbm, ⟨28, _⟩ => ⟨S16384x512, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S512x16384, .f32⟩
  | .hbm, ⟨44, _⟩ => ⟨S512x16384, .bf16⟩
  | .hbm, ⟨45, _⟩ => ⟨S16384x512, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S16384x512, .f32⟩
  | .hbm, ⟨60, _⟩ => ⟨S16384x512, .bf16⟩
  | .hbm, ⟨61, _⟩ => ⟨S16384x128, .bf16⟩
  | .hbm, ⟨62, _⟩ => ⟨S16384x2048, .f32⟩
  | .hbm, ⟨63, _⟩ => ⟨S16384x2048, .f32⟩
  | .hbm, ⟨64, _⟩ => ⟨S_, .f32⟩
  | .hbm, ⟨65, _⟩ => ⟨S16384x2048, .f32⟩
  | .hbm, ⟨66, _⟩ => ⟨S16384x2048, .f32⟩
  | .hbm, ⟨67, _⟩ => ⟨S_, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]
-- ==== Up.lean ====
abbrev S512x16384 : Shape := ⟨2, ![512, 16384]⟩
abbrev S16384x512 : Shape := ⟨2, ![16384, 512]⟩
abbrev S16384x128 : Shape := ⟨2, ![16384, 128]⟩
abbrev S32x16384 : Shape := ⟨2, ![32, 16384]⟩
abbrev S16x192x512 : Shape := ⟨3, ![16, 192, 512]⟩
abbrev S16x512x256 : Shape := ⟨3, ![16, 512, 256]⟩
abbrev S2x16x192x8192 : Shape := ⟨4, ![2, 16, 192, 8192]⟩
abbrev S2x16x8192x192 : Shape := ⟨4, ![2, 16, 8192, 192]⟩
abbrev S2x16x128x8192 : Shape := ⟨4, ![2, 16, 128, 8192]⟩
abbrev S512x1024 : Shape := ⟨2, ![512, 1024]⟩
abbrev S1024x512 : Shape := ⟨2, ![1024, 512]⟩
abbrev S1024x128 : Shape := ⟨2, ![1024, 128]⟩
abbrev S32x1024 : Shape := ⟨2, ![32, 1024]⟩
abbrev S8x192x512 : Shape := ⟨3, ![8, 192, 512]⟩
abbrev S8x512x256 : Shape := ⟨3, ![8, 512, 256]⟩
abbrev S1x8x192x1024 : Shape := ⟨4, ![1, 8, 192, 1024]⟩
abbrev S1x8x1024x192 : Shape := ⟨4, ![1, 8, 1024, 192]⟩
abbrev S1x8x128x1024 : Shape := ⟨4, ![1, 8, 128, 1024]⟩
abbrev S1x192x512 : Shape := ⟨3, ![1, 192, 512]⟩
abbrev S192x512 : Shape := ⟨2, ![192, 512]⟩
abbrev S192x1024 : Shape := ⟨2, ![192, 1024]⟩
abbrev S128x1024 : Shape := ⟨2, ![128, 1024]⟩
abbrev S1x1x128x1024 : Shape := ⟨4, ![1, 1, 128, 1024]⟩
abbrev S1x1x32x1024 : Shape := ⟨4, ![1, 1, 32, 1024]⟩
abbrev S1x512x256 : Shape := ⟨3, ![1, 512, 256]⟩
abbrev S512x256 : Shape := ⟨2, ![512, 256]⟩
abbrev S1024x256 : Shape := ⟨2, ![1024, 256]⟩
abbrev S1x1x1024x128 : Shape := ⟨4, ![1, 1, 1024, 128]⟩
abbrev S1024x64 : Shape := ⟨2, ![1024, 64]⟩
abbrev S1x1x1024x64 : Shape := ⟨4, ![1, 1, 1024, 64]⟩

abbrev nBuf : Space → Nat
  | .hbm => 10
  | .vmem => 20
  | .smem => 0
  | _ => 0

abbrev bufTy : (tb : Table) → Fin (tcTables nBuf tb) → BufTy
  | .hbm, ⟨0, _⟩ => ⟨S512x16384, .bf16⟩
  | .hbm, ⟨1, _⟩ => ⟨S16384x512, .bf16⟩
  | .hbm, ⟨2, _⟩ => ⟨S16384x128, .bf16⟩
  | .hbm, ⟨3, _⟩ => ⟨S32x16384, .f32⟩
  | .hbm, ⟨4, _⟩ => ⟨S32x16384, .f32⟩
  | .hbm, ⟨5, _⟩ => ⟨S16x192x512, .bf16⟩
  | .hbm, ⟨6, _⟩ => ⟨S16x512x256, .bf16⟩
  | .hbm, ⟨7, _⟩ => ⟨S2x16x192x8192, .bf16⟩
  | .hbm, ⟨8, _⟩ => ⟨S2x16x8192x192, .bf16⟩
  | .hbm, ⟨9, _⟩ => ⟨S2x16x128x8192, .bf16⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x128, .bf16⟩
  | .local _ .vmem, ⟨5, _⟩ => ⟨S1024x128, .bf16⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S8x192x512, .bf16⟩
  | .local _ .vmem, ⟨11, _⟩ => ⟨S8x192x512, .bf16⟩
  | .local _ .vmem, ⟨12, _⟩ => ⟨S8x512x256, .bf16⟩
  | .local _ .vmem, ⟨13, _⟩ => ⟨S8x512x256, .bf16⟩
  | .local _ .vmem, ⟨14, _⟩ => ⟨S1x8x192x1024, .bf16⟩
  | .local _ .vmem, ⟨15, _⟩ => ⟨S1x8x192x1024, .bf16⟩
  | .local _ .vmem, ⟨16, _⟩ => ⟨S1x8x1024x192, .bf16⟩
  | .local _ .vmem, ⟨17, _⟩ => ⟨S1x8x1024x192, .bf16⟩
  | .local _ .vmem, ⟨18, _⟩ => ⟨S1x8x128x1024, .bf16⟩
  | .local _ .vmem, ⟨19, _⟩ => ⟨S1x8x128x1024, .bf16⟩
  | _, _ => ⟨S512x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S8x192x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S8x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x8x192x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x8x1024x192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x8x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== UpRefIdeal.lean ====
abbrev S512x16384 : Shape := ⟨2, ![512, 16384]⟩
abbrev S16384x512 : Shape := ⟨2, ![16384, 512]⟩
abbrev S16384x128 : Shape := ⟨2, ![16384, 128]⟩
abbrev S32x16384 : Shape := ⟨2, ![32, 16384]⟩
abbrev S16x192x512 : Shape := ⟨3, ![16, 192, 512]⟩
abbrev S16x512x256 : Shape := ⟨3, ![16, 512, 256]⟩
abbrev S2x8192x512 : Shape := ⟨3, ![2, 8192, 512]⟩
abbrev S16x192x2x8192 : Shape := ⟨4, ![16, 192, 2, 8192]⟩
abbrev S2x16x8192x192 : Shape := ⟨4, ![2, 16, 8192, 192]⟩
abbrev S2x16x8192x128 : Shape := ⟨4, ![2, 16, 8192, 128]⟩
abbrev S2x16x8192x64 : Shape := ⟨4, ![2, 16, 8192, 64]⟩
abbrev S16384x32 : Shape := ⟨2, ![16384, 32]⟩
abbrev S2x1x8192x32 : Shape := ⟨4, ![2, 1, 8192, 32]⟩
abbrev S2x16x8192x32 : Shape := ⟨4, ![2, 16, 8192, 32]⟩
abbrev S_ : Shape := ⟨0, ![]⟩
abbrev S16x256x2x8192 : Shape := ⟨4, ![16, 256, 2, 8192]⟩
abbrev S2x16x8192x256 : Shape := ⟨4, ![2, 16, 8192, 256]⟩
abbrev S16384x64 : Shape := ⟨2, ![16384, 64]⟩
abbrev S2x1x8192x64 : Shape := ⟨4, ![2, 1, 8192, 64]⟩
abbrev S2x16x192x8192 : Shape := ⟨4, ![2, 16, 192, 8192]⟩
abbrev S2x16x128x8192 : Shape := ⟨4, ![2, 16, 128, 8192]⟩

abbrev nBuf : Space → Nat
  | .hbm => 51
  | .vmem => 0
  | .smem => 0
  | _ => 0

abbrev bufTy : (tb : Table) → Fin (tcTables nBuf tb) → BufTy
  | .hbm, ⟨0, _⟩ => ⟨S512x16384, .bf16⟩
  | .hbm, ⟨1, _⟩ => ⟨S16384x512, .bf16⟩
  | .hbm, ⟨2, _⟩ => ⟨S16384x128, .bf16⟩
  | .hbm, ⟨3, _⟩ => ⟨S32x16384, .f32⟩
  | .hbm, ⟨4, _⟩ => ⟨S32x16384, .f32⟩
  | .hbm, ⟨5, _⟩ => ⟨S16x192x512, .bf16⟩
  | .hbm, ⟨6, _⟩ => ⟨S16x512x256, .bf16⟩
  | .hbm, ⟨7, _⟩ => ⟨S512x16384, .f32⟩
  | .hbm, ⟨8, _⟩ => ⟨S16384x512, .f32⟩
  | .hbm, ⟨9, _⟩ => ⟨S2x8192x512, .f32⟩
  | .hbm, ⟨10, _⟩ => ⟨S16384x512, .f32⟩
  | .hbm, ⟨11, _⟩ => ⟨S2x8192x512, .f32⟩
  | .hbm, ⟨12, _⟩ => ⟨S16x192x512, .f32⟩
  | .hbm, ⟨13, _⟩ => ⟨S16x192x2x8192, .f32⟩
  | .hbm, ⟨14, _⟩ => ⟨S2x16x8192x192, .f32⟩
  | .hbm, ⟨15, _⟩ => ⟨S2x16x8192x128, .f32⟩
  | .hbm, ⟨16, _⟩ => ⟨S2x16x8192x64, .f32⟩
  | .hbm, ⟨17, _⟩ => ⟨S16384x32, .f32⟩
  | .hbm, ⟨18, _⟩ => ⟨S2x1x8192x32, .f32⟩
  | .hbm, ⟨19, _⟩ => ⟨S16384x32, .f32⟩
  | .hbm, ⟨20, _⟩ => ⟨S2x1x8192x32, .f32⟩
  | .hbm, ⟨21, _⟩ => ⟨S2x16x8192x32, .f32⟩
  | .hbm, ⟨22, _⟩ => ⟨S2x16x8192x32, .f32⟩
  | .hbm, ⟨23, _⟩ => ⟨S2x16x8192x32, .f32⟩
  | .hbm, ⟨24, _⟩ => ⟨S2x16x8192x32, .f32⟩
  | .hbm, ⟨25, _⟩ => ⟨S2x16x8192x32, .f32⟩
  | .hbm, ⟨26, _⟩ => ⟨S2x16x8192x32, .f32⟩
  | .hbm, ⟨27, _⟩ => ⟨S2x16x8192x32, .f32⟩
  | .hbm, ⟨28, _⟩ => ⟨S2x16x8192x32, .f32⟩
  | .hbm, ⟨29, _⟩ => ⟨S2x16x8192x32, .f32⟩
  | .hbm, ⟨30, _⟩ => ⟨S2x16x8192x32, .f32⟩
  | .hbm, ⟨31, _⟩ => ⟨S2x16x8192x32, .f32⟩
  | .hbm, ⟨32, _⟩ => ⟨S2x16x8192x32, .f32⟩
  | .hbm, ⟨33, _⟩ => ⟨S2x16x8192x192, .f32⟩
  | .hbm, ⟨34, _⟩ => ⟨S_, .f32⟩
  | .hbm, ⟨35, _⟩ => ⟨S2x16x8192x192, .f32⟩
  | .hbm, ⟨36, _⟩ => ⟨S2x16x8192x192, .f32⟩
  | .hbm, ⟨37, _⟩ => ⟨S16x512x256, .f32⟩
  | .hbm, ⟨38, _⟩ => ⟨S16x256x2x8192, .f32⟩
  | .hbm, ⟨39, _⟩ => ⟨S2x16x8192x256, .f32⟩
  | .hbm, ⟨40, _⟩ => ⟨S16384x64, .bf16⟩
  | .hbm, ⟨41, _⟩ => ⟨S2x1x8192x64, .bf16⟩
  | .hbm, ⟨42, _⟩ => ⟨S2x16x8192x64, .bf16⟩
  | .hbm, ⟨43, _⟩ => ⟨S2x16x8192x128, .f32⟩
  | .hbm, ⟨44, _⟩ => ⟨S2x16x8192x128, .bf16⟩
  | .hbm, ⟨45, _⟩ => ⟨S2x16x8192x192, .bf16⟩
  | .hbm, ⟨46, _⟩ => ⟨S2x16x192x8192, .f32⟩
  | .hbm, ⟨47, _⟩ => ⟨S2x16x192x8192, .bf16⟩
  | .hbm, ⟨48, _⟩ => ⟨S2x16x8192x128, .f32⟩
  | .hbm, ⟨49, _⟩ => ⟨S2x16x128x8192, .f32⟩
  | .hbm, ⟨50, _⟩ => ⟨S2x16x128x8192, .bf16⟩
  | _, _ => ⟨S512x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== Dt.lean ====
abbrev S16384x2048 : Shape := ⟨2, ![16384, 2048]⟩
abbrev S2048x10368 : Shape := ⟨2, ![2048, 10368]⟩
abbrev S1x128 : Shape := ⟨2, ![1, 128]⟩
abbrev S16384x128 : Shape := ⟨2, ![16384, 128]⟩
abbrev S1024x2048 : Shape := ⟨2, ![1024, 2048]⟩
abbrev S2048x128 : Shape := ⟨2, ![2048, 128]⟩
abbrev S1024x128 : Shape := ⟨2, ![1024, 128]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x10368, .bf16⟩
  | .hbm, ⟨2, _⟩ => ⟨S1x128, .f32⟩
  | .hbm, ⟨3, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S2048x128, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c80_i32 : BitVec 32 := 80#32
  let c0_i32_0 : BitVec 32 := 0#32
  ![c0_i32.toNat, c80_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DtRefIdeal.lean ====
abbrev S16384x2048 : Shape := ⟨2, ![16384, 2048]⟩
abbrev S2048x10368 : Shape := ⟨2, ![2048, 10368]⟩
abbrev S1x128 : Shape := ⟨2, ![1, 128]⟩
abbrev S16384x10368 : Shape := ⟨2, ![16384, 10368]⟩
abbrev S16384x128 : Shape := ⟨2, ![16384, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x10368, .bf16⟩
  | .hbm, ⟨2, _⟩ => ⟨S1x128, .f32⟩
  | .hbm, ⟨3, _⟩ => ⟨S2048x10368, .f32⟩
  | .hbm, ⟨4, _⟩ => ⟨S16384x10368, .f32⟩
  | .hbm, ⟨5, _⟩ => ⟨S16384x128, .f32⟩
  | .hbm, ⟨6, _⟩ => ⟨S16384x128, .f32⟩
  | .hbm, ⟨7, _⟩ => ⟨S16384x128, .f32⟩
  | .hbm, ⟨8, _⟩ => ⟨S_, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S16384x128, .f32⟩
  | .hbm, ⟨13, _⟩ => ⟨S16384x128, .i1⟩
  | .hbm, ⟨14, _⟩ => ⟨S16384x128, .f32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S16384x128, .f32⟩
  | .hbm, ⟨21, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_v5 : Ref sig .tc := ⟨.hbm, 21, rfl⟩

abbrev nD : Nat := 1
abbrev τ : Topo := Topo.v7x

variable {F : FTy → Type} [FloatOps F]
-- ==== Tab.lean ====
abbrev S1x16384 : Shape := ⟨2, ![1, 16384]⟩
abbrev S32x1 : Shape := ⟨2, ![32, 1]⟩
abbrev S16384x128 : Shape := ⟨2, ![16384, 128]⟩
abbrev S32x16384 : Shape := ⟨2, ![32, 16384]⟩
abbrev S1x2048 : Shape := ⟨2, ![1, 2048]⟩
abbrev S2048x128 : Shape := ⟨2, ![2048, 128]⟩
abbrev S32x2048 : Shape := ⟨2, ![32, 2048]⟩
abbrev S64x2048 : Shape := ⟨2, ![64, 2048]⟩
abbrev S128x2048 : Shape := ⟨2, ![128, 2048]⟩

abbrev nBuf : Space → Nat
  | .hbm => 7
  | .vmem => 13
  | .smem => 0
  | _ => 0

abbrev bufTy : (tb : Table) → Fin (tcTables nBuf tb) → BufTy
  | .hbm, ⟨0, _⟩ => ⟨S1x16384, .f32⟩
  | .hbm, ⟨1, _⟩ => ⟨S32x1, .f32⟩
  | .hbm, ⟨2, _⟩ => ⟨S16384x128, .f32⟩
  | .hbm, ⟨3, _⟩ => ⟨S16384x128, .f32⟩
  | .hbm, ⟨4, _⟩ => ⟨S16384x128, .f32⟩
  | .hbm, ⟨5, _⟩ => ⟨S32x16384, .f32⟩
  | .hbm, ⟨6, _⟩ => ⟨S32x16384, .f32⟩
  | .local _ .vmem, ⟨0, _⟩ => ⟨S1x2048, .f32⟩
  | .local _ .vmem, ⟨1, _⟩ => ⟨S1x2048, .f32⟩
  | .local _ .vmem, ⟨2, _⟩ => ⟨S32x1, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S32x2048, .f32⟩
  | .local _ .vmem, ⟨10, _⟩ => ⟨S32x2048, .f32⟩
  | .local _ .vmem, ⟨11, _⟩ => ⟨S32x2048, .f32⟩
  | .local _ .vmem, ⟨12, _⟩ => ⟨S32x2048, .f32⟩
  | _, _ => ⟨S1x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== TabRefIdeal.lean ====
abbrev S1x16384 : Shape := ⟨2, ![1, 16384]⟩
abbrev S32x1 : Shape := ⟨2, ![32, 1]⟩
abbrev S16384 : Shape := ⟨1, ![16384]⟩
abbrev S16384x1 : Shape := ⟨2, ![16384, 1]⟩
abbrev S32 : Shape := ⟨1, ![32]⟩
abbrev S1x32 : Shape := ⟨2, ![1, 32]⟩
abbrev S16384x32 : Shape := ⟨2, ![16384, 32]⟩
abbrev S_ : Shape := ⟨0, ![]⟩
abbrev S16384x64 : Shape := ⟨2, ![16384, 64]⟩
abbrev S16384x128 : Shape := ⟨2, ![16384, 128]⟩
abbrev S32x16384 : Shape := ⟨2, ![32, 16384]⟩

abbrev nBuf : Space → Nat
  | .hbm => 21
  | .vmem => 0
  | .smem => 0
  | _ => 0

abbrev bufTy : (tb : Table) → Fin (tcTables nBuf tb) → BufTy
  | .hbm, ⟨0, _⟩ => ⟨S1x16384, .f32⟩
  | .hbm, ⟨1, _⟩ => ⟨S32x1, .f32⟩
  | .hbm, ⟨2, _⟩ => ⟨S16384, .f32⟩
  | .hbm, ⟨3, _⟩ => ⟨S16384x1, .f32⟩
  | .hbm, ⟨4, _⟩ => ⟨S32, .f32⟩
  | .hbm, ⟨5, _⟩ => ⟨S1x32, .f32⟩
  | .hbm, ⟨6, _⟩ => ⟨S16384x32, .f32⟩
  | .hbm, ⟨7, _⟩ => ⟨S16384x32, .f32⟩
  | .hbm, ⟨8, _⟩ => ⟨S16384x32, .f32⟩
  | .hbm, ⟨9, _⟩ => ⟨S16384x32, .f32⟩
  | .hbm, ⟨10, _⟩ => ⟨S16384x32, .f32⟩
  | .hbm, ⟨11, _⟩ => ⟨S_, .f32⟩
  | .hbm, ⟨12, _⟩ => ⟨S16384x32, .f32⟩
  | .hbm, ⟨13, _⟩ => ⟨S_, .f32⟩
  | .hbm, ⟨14, _⟩ => ⟨S16384x64, .f32⟩
  | .hbm, ⟨15, _⟩ => ⟨S16384x128, .f32⟩
  | .hbm, ⟨16, _⟩ => ⟨S16384x128, .f32⟩
  | .hbm, ⟨17, _⟩ => ⟨S16384x32, .f32⟩
  | .hbm, ⟨18, _⟩ => ⟨S16384x128, .f32⟩
  | .hbm, ⟨19, _⟩ => ⟨S32x16384, .f32⟩
  | .hbm, ⟨20, _⟩ => ⟨S32x16384, .f32⟩
  | _, _ => ⟨S1x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Conv.lean ====
abbrev S16384x10240 : Shape := ⟨2, ![16384, 10240]⟩
abbrev S7x6144 : Shape := ⟨2, ![7, 6144]⟩
abbrev S1x6144 : Shape := ⟨2, ![1, 6144]⟩
abbrev S16384x6144 : Shape := ⟨2, ![16384, 6144]⟩
abbrev S16x2048 : Shape := ⟨2, ![16, 2048]⟩
abbrev S512x2048 : Shape := ⟨2, ![512, 2048]⟩
abbrev S7x2048 : Shape := ⟨2, ![7, 2048]⟩
abbrev S1x2048 : Shape := ⟨2, ![1, 2048]⟩
abbrev S16x544x128 : Shape := ⟨3, ![16, 544, 128]⟩
abbrev S16x128 : Shape := ⟨2, ![16, 128]⟩
abbrev S1x16x128 : Shape := ⟨3, ![1, 16, 128]⟩
abbrev S512x128 : Shape := ⟨2, ![512, 128]⟩
abbrev S1x512x128 : Shape := ⟨3, ![1, 512, 128]⟩
abbrev S1x128 : Shape := ⟨2, ![1, 128]⟩
abbrev S1x64x128 : Shape := ⟨3, ![1, 64, 128]⟩
abbrev S64x128 : Shape := ⟨2, ![64, 128]⟩

abbrev nBuf : Space → Nat
  | .hbm => 4
  | .vmem => 13
  | .smem => 0
  | _ => 0

abbrev bufTy : (tb : Table) → Fin (tcTables nBuf tb) → BufTy
  | .hbm, ⟨0, _⟩ => ⟨S16384x10240, .bf16⟩
  | .hbm, ⟨1, _⟩ => ⟨S7x6144, .f32⟩
  | .hbm, ⟨2, _⟩ => ⟨S1x6144, .f32⟩
  | .hbm, ⟨3, _⟩ => ⟨S16384x6144, .bf16⟩
  | .local _ .vmem, ⟨0, _⟩ => ⟨S16x2048, .bf16⟩
  | .local _ .vmem, ⟨1, _⟩ => ⟨S16x2048, .bf16⟩
  | .local _ .vmem, ⟨2, _⟩ => ⟨S512x2048, .bf16⟩
  | .local _ .vmem, ⟨3, _⟩ => ⟨S512x2048, .bf16⟩
  | .local _ .vmem, ⟨4, _⟩ => ⟨S16x2048, .bf16⟩
  | .local _ .vmem, ⟨5, _⟩ => ⟨S16x2048, .bf16⟩
  | .local _ .vmem, ⟨6, _⟩ => ⟨S7x2048, .f32⟩
  | .local _ .vmem, ⟨7, _⟩ => ⟨S7x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .bf16⟩
  | .local _ .vmem, ⟨11, _⟩ => ⟨S512x2048, .bf16⟩
  | .local _ .vmem, ⟨12, _⟩ => ⟨S16x544x128, .f32⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c2_i32 : BitVec 32 := 2#32
  let v5 : BitVec 32 := Scalar.addi arg2 c2_i32
  let c0_i32_0 : BitVec 32 := 0#32
  ![v4.toNat, v5.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.addi arg2 c2_i32
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.addi v1 c1_i32
  let c32_i32 : BitVec 32 := 32#32
  let v3 : BitVec 32 := Scalar.muli v2 c32_i32
  let c1023_i32 : BitVec 32 := 1023#32
  let v4 : BitVec 32 := Scalar.minsi v3 c1023_i32
  let c2_i32 : BitVec 32 := 2#32
  let v5 : BitVec 32 := Scalar.addi arg2 c2_i32
  let c0_i32 : BitVec 32 := 0#32
  ![v4.toNat, v5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

abbrev stage0_0 : Fin 2 → Memref sig .tc .vmem S16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S7x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ConvRefIdeal.lean ====
abbrev S16384x10240 : Shape := ⟨2, ![16384, 10240]⟩
abbrev S7x6144 : Shape := ⟨2, ![7, 6144]⟩
abbrev S1x6144 : Shape := ⟨2, ![1, 6144]⟩
abbrev S16384x6144 : Shape := ⟨2, ![16384, 6144]⟩
abbrev S2x8192x6144 : Shape := ⟨3, ![2, 8192, 6144]⟩
abbrev S_ : Shape := ⟨0, ![]⟩
abbrev S2x8198x6144 : Shape := ⟨3, ![2, 8198, 6144]⟩
abbrev S6144 : Shape := ⟨1, ![6144]⟩
abbrev S1x1x6144 : Shape := ⟨3, ![1, 1, 6144]⟩

abbrev nBuf : Space → Nat
  | .hbm => 75
  | .vmem => 0
  | .smem => 0
  | _ => 0

abbrev bufTy : (tb : Table) → Fin (tcTables nBuf tb) → BufTy
  | .hbm, ⟨0, _⟩ => ⟨S16384x10240, .bf16⟩
  | .hbm, ⟨1, _⟩ => ⟨S7x6144, .f32⟩
  | .hbm, ⟨2, _⟩ => ⟨S1x6144, .f32⟩
  | .hbm, ⟨3, _⟩ => ⟨S16384x10240, .f32⟩
  | .hbm, ⟨4, _⟩ => ⟨S16384x6144, .f32⟩
  | .hbm, ⟨5, _⟩ => ⟨S2x8192x6144, .f32⟩
  | .hbm, ⟨6, _⟩ => ⟨S_, .i32⟩
  | .hbm, ⟨7, _⟩ => ⟨S_, .f32⟩
  | .hbm, ⟨8, _⟩ => ⟨S2x8198x6144, .f32⟩
  | .hbm, ⟨9, _⟩ => ⟨S2x8192x6144, .f32⟩
  | .hbm, ⟨10, _⟩ => ⟨S1x6144, .f32⟩
  | .hbm, ⟨11, _⟩ => ⟨S6144, .f32⟩
  | .hbm, ⟨12, _⟩ => ⟨S1x1x6144, .f32⟩
  | .hbm, ⟨13, _⟩ => ⟨S2x8192x6144, .f32⟩
  | .hbm, ⟨14, _⟩ => ⟨S2x8192x6144, .f32⟩
  | .hbm, ⟨15, _⟩ => ⟨S_, .f32⟩
  | .hbm, ⟨16, _⟩ => ⟨S2x8192x6144, .f32⟩
  | .hbm, ⟨17, _⟩ => ⟨S2x8192x6144, .f32⟩
  | .hbm, ⟨18, _⟩ => ⟨S2x8192x6144, .f32⟩
  | .hbm, ⟨19, _⟩ => ⟨S1x6144, .f32⟩
  | .hbm, ⟨20, _⟩ => ⟨S6144, .f32⟩
  | .hbm, ⟨21, _⟩ => ⟨S1x1x6144, .f32⟩
  | .hbm, ⟨22, _⟩ => ⟨S2x8192x6144, .f32⟩
  | .hbm, ⟨23, _⟩ => ⟨S2x8192x6144, .f32⟩
  | .hbm, ⟨24, _⟩ => ⟨S2x8192x6144, .f32⟩
  | .hbm, ⟨25, _⟩ => ⟨S2x8192x6144, .f32⟩
  | .hbm, ⟨26, _⟩ => ⟨S1x6144, .f32⟩
  | .hbm, ⟨27, _⟩ => ⟨S6144, .f32⟩
  | .hbm, ⟨28, _⟩ => ⟨S1x1x6144, .f32⟩
  | .hbm, ⟨29, _⟩ => ⟨S2x8192x6144, .f32⟩
  | .hbm, ⟨30, _⟩ => ⟨S2x8192x6144, .f32⟩
  | .hbm, ⟨31, _⟩ => ⟨S2x8192x6144, .f32⟩
  | .hbm, ⟨32, _⟩ => ⟨S2x8192x6144, .f32⟩
  | .hbm, ⟨33, _⟩ => ⟨S1x6144, .f32⟩
  | .hbm, ⟨34, _⟩ => ⟨S6144, .f32⟩
  | .hbm, ⟨35, _⟩ => ⟨S1x1x6144, .f32⟩
  | .hbm, ⟨36, _⟩ => ⟨S2x8192x6144, .f32⟩
  | .hbm, ⟨37, _⟩ => ⟨S2x8192x6144, .f32⟩
  | .hbm, ⟨38, _⟩ => ⟨S2x8192x6144, .f32⟩
  | .hbm, ⟨39, _⟩ => ⟨S2x8192x6144, .f32⟩
  | .hbm, ⟨40, _⟩ => ⟨S1x6144, .f32⟩
  | .hbm, ⟨41, _⟩ => ⟨S6144, .f32⟩
  | .hbm, ⟨42, _⟩ => ⟨S1x1x6144, .f32⟩
  | .hbm, ⟨43, _⟩ => ⟨S2x8192x6144, .f32⟩
  | .hbm, ⟨44, _⟩ => ⟨S2x8192x6144, .f32⟩
  | .hbm, ⟨45, _⟩ => ⟨S2x8192x6144, .f32⟩
  | .hbm, ⟨46, _⟩ => ⟨S2x8192x6144, .f32⟩
  | .hbm, ⟨47, _⟩ => ⟨S1x6144, .f32⟩
  | .hbm, ⟨48, _⟩ => ⟨S6144, .f32⟩
  | .hbm, ⟨49, _⟩ => ⟨S1x1x6144, .f32⟩
  | .hbm, ⟨50, _⟩ => ⟨S2x8192x6144, .f32⟩
  | .hbm, ⟨51, _⟩ => ⟨S2x8192x6144, .f32⟩
  | .hbm, ⟨52, _⟩ => ⟨S2x8192x6144, .f32⟩
  | .hbm, ⟨53, _⟩ => ⟨S2x8192x6144, .f32⟩
  | .hbm, ⟨54, _⟩ => ⟨S1x6144, .f32⟩
  | .hbm, ⟨55, _⟩ => ⟨S6144, .f32⟩
  | .hbm, ⟨56, _⟩ => ⟨S1x1x6144, .f32⟩
  | .hbm, ⟨57, _⟩ => ⟨S2x8192x6144, .f32⟩
  | .hbm, ⟨58, _⟩ => ⟨S2x8192x6144, .f32⟩
  | .hbm, ⟨59, _⟩ => ⟨S2x8192x6144, .f32⟩
  | .hbm, ⟨60, _⟩ => ⟨S6144, .f32⟩
  | .hbm, ⟨61, _⟩ => ⟨S1x1x6144, .f32⟩
  | .hbm, ⟨62, _⟩ => ⟨S2x8192x6144, .f32⟩
  | .hbm, ⟨63, _⟩ => ⟨S2x8192x6144, .f32⟩
  | .hbm, ⟨64, _⟩ => ⟨S2x8192x6144, .f32⟩
  | .hbm, ⟨65, _⟩ => ⟨S2x8192x6144, .f32⟩
  | .hbm, ⟨66, _⟩ => ⟨S_, .f32⟩
  | .hbm, ⟨67, _⟩ => ⟨S2x8192x6144, .f32⟩
  | .hbm, ⟨68, _⟩ => ⟨S2x8192x6144, .f32⟩
  | .hbm, ⟨69, _⟩ => ⟨S_, .f32⟩
  | .hbm, ⟨70, _⟩ => ⟨S2x8192x6144, .f32⟩
  | .hbm, ⟨71, _⟩ => ⟨S2x8192x6144, .f32⟩
  | .hbm, ⟨72, _⟩ => ⟨S2x8192x6144, .f32⟩
  | .hbm, ⟨73, _⟩ => ⟨S16384x6144, .f32⟩
  | .hbm, ⟨74, _⟩ => ⟨S16384x6144, .bf16⟩
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Scan.lean ====
abbrev S16384x6144 : Shape := ⟨2, ![16384, 6144]⟩
abbrev S2x16384x64 : Shape := ⟨3, ![2, 16384, 64]⟩
abbrev S2x1x64 : Shape := ⟨3, ![2, 1, 64]⟩
abbrev S4096 : Shape := ⟨1, ![4096]⟩
abbrev S_ : Shape := ⟨0, ![]⟩
abbrev S1x4096 : Shape := ⟨2, ![1, 4096]⟩
abbrev S64 : Shape := ⟨1, ![64]⟩
abbrev S64x1 : Shape := ⟨2, ![64, 1]⟩
abbrev S64x4096 : Shape := ⟨2, ![64, 4096]⟩
abbrev S16384x4096 : Shape := ⟨2, ![16384, 4096]⟩
abbrev S128x4096 : Shape := ⟨2, ![128, 4096]⟩
abbrev S128x1024 : Shape := ⟨2, ![128, 1024]⟩
abbrev S1x128x64 : Shape := ⟨3, ![1, 128, 64]⟩
abbrev S1x1x64 : Shape := ⟨3, ![1, 1, 64]⟩
abbrev S1x64 : Shape := ⟨2, ![1, 64]⟩
abbrev S128x128 : Shape := ⟨2, ![128, 128]⟩
abbrev S128x64 : Shape := ⟨2, ![128, 64]⟩
abbrev S64x128 : Shape := ⟨2, ![64, 128]⟩
abbrev S8x64 : Shape := ⟨2, ![8, 64]⟩
abbrev S128x512 : Shape := ⟨2, ![128, 512]⟩
abbrev S64x512 : Shape := ⟨2, ![64, 512]⟩
abbrev S8x512 : Shape := ⟨2, ![8, 512]⟩
abbrev S1x512 : Shape := ⟨2, ![1, 512]⟩
abbrev S128x1 : Shape := ⟨2, ![128, 1]⟩
abbrev S1x128 : Shape := ⟨2, ![1, 128]⟩
abbrev S256x128 : Shape := ⟨2, ![256, 128]⟩
abbrev S128x256 : Shape := ⟨2, ![128, 256]⟩

abbrev nBuf : Space → Nat
  | .hbm => 31
  | .vmem => 24
  | .smem => 0
  | _ => 0

abbrev bufTy : (tb : Table) → Fin (tcTables nBuf tb) → BufTy
  | .hbm, ⟨0, _⟩ => ⟨S16384x6144, .bf16⟩
  | .hbm, ⟨1, _⟩ => ⟨S2x16384x64, .f32⟩
  | .hbm, ⟨2, _⟩ => ⟨S2x1x64, .f32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S1x4096, .i32⟩
  | .hbm, ⟨23, _⟩ => ⟨S64, .i32⟩
  | .hbm, ⟨24, _⟩ => ⟨S64x1, .i32⟩
  | .hbm, ⟨25, _⟩ => ⟨S64x4096, .i32⟩
  | .hbm, ⟨26, _⟩ => ⟨S64x4096, .i32⟩
  | .hbm, ⟨27, _⟩ => ⟨S64x4096, .i1⟩
  | .hbm, ⟨28, _⟩ => ⟨S64x4096, .bf16⟩
  | .hbm, ⟨29, _⟩ => ⟨S16384x4096, .bf16⟩
  | .hbm, ⟨30, _⟩ => ⟨S16384x4096, .bf16⟩
  | .local _ .vmem, ⟨0, _⟩ => ⟨S128x4096, .bf16⟩
  | .local _ .vmem, ⟨1, _⟩ => ⟨S128x4096, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S1x128x64, .f32⟩
  | .local _ .vmem, ⟨7, _⟩ => ⟨S1x128x64, .f32⟩
  | .local _ .vmem, ⟨8, _⟩ => ⟨S128x4096, .bf16⟩
  | .local _ .vmem, ⟨9, _⟩ => ⟨S128x4096, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S1x128x64, .f32⟩
  | .local _ .vmem, ⟨15, _⟩ => ⟨S1x128x64, .f32⟩
  | .local _ .vmem, ⟨16, _⟩ => ⟨S2x1x64, .f32⟩
  | .local _ .vmem, ⟨17, _⟩ => ⟨S64x4096, .bf16⟩
  | .local _ .vmem, ⟨18, _⟩ => ⟨S128x4096, .bf16⟩
  | .local _ .vmem, ⟨19, _⟩ => ⟨S128x4096, .bf16⟩
  | .local _ .vmem, ⟨20, _⟩ => ⟨S128x4096, .bf16⟩
  | .local _ .vmem, ⟨21, _⟩ => ⟨S128x4096, .bf16⟩
  | .local _ .vmem, ⟨22, _⟩ => ⟨S128x4096, .f32⟩
  | .local _ .vmem, ⟨23, _⟩ => ⟨S128x4096, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9_0 : Ref sig .tc := ⟨.hbm, 29, rfl⟩
abbrev main_v9_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c4_i32 : BitVec 32 := 4#32
  let c0_i32 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c5_i32 : BitVec 32 := 5#32
  let c0_i32 : BitVec 32 := 0#32
  ![v1.toNat, c5_i32.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c4_i32 : BitVec 32 := 4#32
  let c0_i32 : BitVec 32 := 0#32
  ![v3.toNat, c4_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c5_i32 : BitVec 32 := 5#32
  let c0_i32 : BitVec 32 := 0#32
  ![v3.toNat, c5_i32.toNat]

def cc0_transform_7 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c1_i32_1 : BitVec 32 := 1#32
  let c0_i32 : BitVec 32 := 0#32
  let c0_i32_2 : BitVec 32 := 0#32
  ![c1_i32_1.toNat, v3.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2x1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Proof.Attn.Math.lean ====
/-
  Facts about sums, maxima and exponentials over the extended reals that the attention proof uses: a weighted sum with
  arbitrary weights may be scaled by a nonnegative real; a maximum of finitely many reals is a real; rescaling by
  `2 ^ (μ - ν)` moves a base-2 exponential sum from the shift `μ` to the shift `ν`; and the quotient of such sums is
  the softmax-weighted sum, whatever the shift and whichever of the bases 2 and e the exponentials are written in.
-/
module

public import Idealize.ShloMosaic.PureOps.Ideal
public import Idealize.ShloMosaic.Lib.Pointwise
public import Mathlib.Data.EReal.Operations
public import Mathlib.Analysis.SpecialFunctions.Pow.Real
public import Mathlib.Algebra.BigOperators.Fin

@[expose] public section

noncomputable section

open Idealize.ShloMosaic

namespace Cert.Attention

/-- A finite sum of reals, seen in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real distributes over any finite sum of extended reals. -/
theorem coe_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- The maximum of finitely many reals is a real, or `⊥` if there are none. -/
theorem fold_max_coe {ι : Type} (s : Finset ι) (f : ι → ℝ) (hs : s.Nonempty) :
    ∃ x : ℝ, s.fold max (⊥ : EReal) (fun i => (f i : EReal)) = (x : EReal) := by
  classical
  induction hs using Finset.Nonempty.cons_induction with
  | singleton a => exact ⟨f a, by simp⟩
  | cons a s ha hs ih =>
    obtain ⟨x, hx⟩ := ih
    refine ⟨max (f a) x, ?_⟩
    rw [Finset.fold_cons, hx]
    exact (EReal.coe_strictMono.monotone.map_max).symm

/-- The base-2 exponential of a real difference. -/
def pw (x : ℝ) : ℝ := (2 : ℝ) ^ x

/-- A power of two is positive. -/
theorem pw_pos (x : ℝ) : 0 < pw x := Real.rpow_pos_of_pos (by norm_num) x
/-- The power of a sum. -/
theorem pw_add (x y : ℝ) : pw (x + y) = pw x * pw y := Real.rpow_add (by norm_num) x y
/-- A power of two as an exponential. -/
theorem pw_exp (x : ℝ) : pw x = Real.exp (x * Real.log 2) := by
  unfold pw; rw [Real.rpow_def_of_pos (by norm_num), mul_comm]
/-- The extended reals' power of two of a difference of reals. -/
theorem exp2_sub (x y : ℝ) : Ideal.exp2 ((x : EReal) - (y : EReal)) = (pw (x - y) : EReal) := by
  rw [← EReal.coe_sub]; rfl

/-- Rescaling an exponential sum moves its shift. -/
theorem scale_pw (s μ ν : ℝ) : pw (μ - ν) * pw (s - μ) = pw (s - ν) := by
  rw [← pw_add]; congr 1; ring

/-- Rescaling a weighted exponential sum moves its shift; the weights are any extended reals. -/
theorem scale_weighted (n : ℕ) (v : ℕ → EReal) (s : ℕ → ℝ) (μ ν : ℝ) :
    (pw (μ - ν) : EReal) * ∑ k ∈ Finset.range n, v k * (pw (s k - μ) : EReal)
      = ∑ k ∈ Finset.range n, v k * (pw (s k - ν) : EReal) := by
  rw [coe_mul_sum _ _ (pw_pos _).le]
  refine Finset.sum_congr rfl fun k _ => ?_
  rw [← scale_pw (s k) μ ν, EReal.coe_mul, mul_left_comm]

/-- A change of shift, in a sum of powers. -/
theorem scale_plain (n : ℕ) (s : ℕ → ℝ) (μ ν : ℝ) :
    (pw (μ - ν) : EReal) * ((∑ k ∈ Finset.range n, pw (s k - μ) : ℝ) : EReal)
      = ((∑ k ∈ Finset.range n, pw (s k - ν) : ℝ) : EReal) := by
  rw [← EReal.coe_mul, Finset.mul_sum]
  congr 1
  exact Finset.sum_congr rfl fun k _ => scale_pw (s k) μ ν

/-- The softmax-weighted sum, written with `e` and any shift `M`, is the quotient of the base-2 sums with any shift
    `μ`, when the exponents differ by the factor `log 2`. -/
theorem softmax_eq {n : ℕ} (hn : 0 < n) (v : Fin n → EReal) (s : Fin n → ℝ) (M μ : ℝ) :
    ∑ k, v k * Ideal.div (Ideal.exp ((s k * Real.log 2 : ℝ) - (M : EReal))) (0 + ∑ l, Ideal.exp ((s l * Real.log 2 : ℝ) - (M : EReal)))
      = Ideal.div (∑ k, v k * (pw (s k - μ) : EReal)) ((∑ k, pw (s k - μ) : ℝ) : EReal) := by
  have hne : (Finset.univ : Finset (Fin n)).Nonempty := ⟨⟨0, hn⟩, Finset.mem_univ _⟩
  have hq : 0 < ∑ k, pw (s k - μ) := Finset.sum_pos (fun k _ => pw_pos _) hne
  have hp : 0 < ∑ k, Real.exp (s k * Real.log 2 - M) := Finset.sum_pos (fun k _ => Real.exp_pos _) hne
  have he : ∀ k, Ideal.exp ((s k * Real.log 2 : ℝ) - (M : EReal)) = (Real.exp (s k * Real.log 2 - M) : EReal) := fun k => by
    rw [← EReal.coe_sub]; rfl
  simp only [he, zero_add]
  rw [← coe_sum, Ideal.div_coe hq.ne', mul_comm, coe_mul_sum _ _ (by positivity)]
  refine Finset.sum_congr rfl fun k _ => ?_
  rw [Ideal.div_coe hp.ne', ← EReal.coe_mul, mul_comm _ (v k * _), mul_assoc, ← EReal.coe_mul]
  congr 2
  have hk : ∀ k, Real.exp (s k * Real.log 2 - M) = Real.exp (μ * Real.log 2 - M) * pw (s k - μ) := fun k => by
    rw [pw_exp, ← Real.exp_add]; congr 1; ring
  simp only [hk, ← Finset.mul_sum]
  have := (Real.exp_pos (μ * Real.log 2 - M)).ne'
  field_simp

end Cert.Attention

end
-- ==== Proof.Attn.Step.lean ====
/-
  One chunk of the online softmax, for one half of a query tile. The running state is a maximum `M` (one per query), eight partial
  sums `L` of exponentials per query and the weighted sums `A`. `Inv` says what the state holds after `n` chunks of 512
  keys: exponential sums over the keys so far, all with one shift per query, which is whatever `M` holds. `step` carries
  `Inv` over one chunk.
-/
module

public import proofs.«01_k».proof.Proof.Gen.AttnIdeal.Skeleton
public import proofs.«01_k».proof.Proof.Attn.Math
public import Idealize.ShloMosaic.Lib.Pipeline.ValueKit

@[expose] public section

set_option maxRecDepth 16384

noncomputable section

open Idealize.ShloMosaic Idealize.ShloMosaic.TcCoe Idealize.SL.Sem

namespace Cert.AttnIdeal.Chunk

open Cert.AttnIdeal Cert.AttnIdeal.Gen Cert.Attention

/-- The scores of one chunk of keys against one half of the query tile. -/
def score (K : FVec Ideal S1x1x512x192 .bf16) (Q : FVec Ideal S1x1x192x512 .bf16) : FVec Ideal S512x512 .f32 :=
  matmul dot_S512x192_S192x512_S512x512_1_0_0_1_n_n none (shapeCast S512x192 K shapeCasts_S1x1x512x192_S512x192)
    (shapeCast S192x512 Q shapeCasts_S1x1x192x512_S192x512) (constant S512x512 .f32 0x00000000#32)

/-- The scores as they are kept in the scratch buffer. -/
def kept (K : FVec Ideal S1x1x512x192 .bf16) (Q : FVec Ideal S1x1x192x512 .bf16) : FVec Ideal S1x512x512 .f32 :=
  shapeCast S1x512x512 (score K Q) shapeCasts_S512x512_S1x512x512

/-- The largest score of the chunk, per query. -/
def top (K : FVec Ideal S1x1x512x192 .bf16) (Q : FVec Ideal S1x1x192x512 .bf16) : FVec Ideal S1x512 .f32 :=
  shapeCast S1x512 (multiReduction .maximumf [0] S512 (score K Q) 0xFF800000#32 reduces_S512x512_S512 (.inl rfl) rfl) shapeCasts_S512_S1x512

/-- The factor that takes the earlier sums to the new shift. -/
def alpha (M mc : FVec Ideal S1x512 .f32) : FVec Ideal S1x512 .f32 := exp2 (subf M (maximumf M mc))

/-- The chunk's exponentials. -/
def prob (M mc : FVec Ideal S1x512 .f32) (s3 : FVec Ideal S1x512x512 .f32) : FVec Ideal S512x512 .f32 :=
  exp2 (subf (shapeCast S512x512 s3 shapeCasts_S1x512x512_S512x512) (broadcastTo S512x512 (maximumf M mc) broadcasts_S1x512_S512x512))

/-- The partial sums after the chunk. -/
def newL (M mc : FVec Ideal S1x512 .f32) (L : FVec Ideal S8x512 .f32) (s3 : FVec Ideal S1x512x512 .f32) : FVec Ideal S8x512 .f32 :=
  addf (mulf (broadcastTo S8x512 (alpha M mc) broadcasts_S1x512_S8x512) L)
    (multiReduction .add [0] S8x512 (shapeCast S64x8x512 (prob M mc s3) shapeCasts_S512x512_S64x8x512) 0x00000000#32 reduces_S64x8x512_S8x512 (.inl rfl) rfl)

/-- The weighted sums after the chunk. -/
def newA (M mc : FVec Ideal S1x512 .f32) (A : FVec Ideal S128x512 .f32) (s3 : FVec Ideal S1x512x512 .f32) (v : FVec Ideal S1x1x128x512 .bf16) :
    FVec Ideal S128x512 .f32 :=
  addf (mulf (broadcastTo S128x512 (alpha M mc) broadcasts_S1x512_S128x512) A)
    (matmul dot_S128x512_S512x512_S128x512_1_0_0_1_n_n none (shapeCast S128x512 v shapeCasts_S1x1x128x512_S128x512)
      (truncf .bf16 (prob M mc s3) bitsLt_bf16_f32) (constant S128x512 .f32 0x00000000#32))

/-- The float word of -∞. -/
theorem ofBits_bot : Ideal.ofBits .f32 0xFF800000#32 = ⊥ := by simp [Ideal.ofBits, Ideal.ieee]

/-- A kept score, read at one index. -/
theorem kept_apply (K Q) (r : Fin 512) (j : Fin 512) :
    kept K Q (ix3 0 r j) = ∑ d : Fin 192, K (ix4 0 0 r d) * Q (ix4 0 0 d j) := by
  pointwise [kept, score]

/-- A chunk's largest score, read at one query. -/
theorem top_apply (K Q) (j : Fin 512) :
    top K Q (ix2 0 j) = Finset.univ.fold max (⊥ : EReal) fun r : Fin 512 => ∑ d : Fin 192, K (ix4 0 0 r d) * Q (ix4 0 0 d j) := by
  pointwise [top, score]
  rw [ofBits_bot]

/-- The partial sums after a chunk, read at one index. -/
theorem newL_apply (M mc L s3) (r : Fin 8) (j : Fin 512) :
    newL M mc L s3 (ix2 r j) = Ideal.exp2 (M (ix2 0 j) - max (M (ix2 0 j)) (mc (ix2 0 j))) * L (ix2 r j)
      + ∑ k : Fin 64, Ideal.exp2 (s3 (ix3 0 ⟨(k : ℕ) * 8 + (r : ℕ), by omega⟩ j) - max (M (ix2 0 j)) (mc (ix2 0 j))) := by
  pointwise [newL, alpha, prob]
  rfl

/-- The weighted sums after a chunk, read at one index. -/
theorem newA_apply (M mc A s3 v) (d : Fin 128) (j : Fin 512) :
    newA M mc A s3 v (ix2 d j) = Ideal.exp2 (M (ix2 0 j) - max (M (ix2 0 j)) (mc (ix2 0 j))) * A (ix2 d j)
      + ∑ k : Fin 512, v (ix4 0 0 d k) * Ideal.exp2 (s3 (ix3 0 k j) - max (M (ix2 0 j)) (mc (ix2 0 j))) := by
  pointwise [newA, alpha, prob]
  rfl

/-- What the state holds after `n` chunks: sums over the first `512 n` keys, with one shift `μ` per query, which is the
    running maximum once a chunk has been seen. `s` are the scores (key, query), `v` the values (feature, key). -/
def Inv (s : ℕ → Fin 512 → ℝ) (v : Fin 128 → ℕ → EReal) (n : ℕ) (M : FVec Ideal S1x512 .f32) (L : FVec Ideal S8x512 .f32)
    (A : FVec Ideal S128x512 .f32) : Prop :=
  ∃ μ : Fin 512 → ℝ, (∀ j, M (ix2 0 j) = if n = 0 then (⊥ : EReal) else (μ j : EReal))
    ∧ (∀ r j, L (ix2 r j) = ((∑ k ∈ Finset.range (64 * n), pw (s (k * 8 + (r : Fin 8).val) j - μ j) : ℝ) : EReal))
    ∧ ∀ d j, A (ix2 d j) = ∑ k ∈ Finset.range (512 * n), v d k * (pw (s k j - μ j) : EReal)

/-- Before the first chunk. -/
theorem inv_zero (s v) : Inv s v 0 (broadcast S1x512 (Scalar.ofBits .f32 0xFF800000#32)) (broadcast S8x512 (Scalar.ofBits .f32 0x00000000#32))
    (broadcast S128x512 (Scalar.ofBits .f32 0x00000000#32)) := by
  refine ⟨fun _ => 0, fun j => ?_, fun r j => ?_, fun d j => ?_⟩
  · pointwise; exact ofBits_bot
  · pointwise; simp
  · pointwise; simp

/-- One chunk. -/
theorem step {s : ℕ → Fin 512 → ℝ} {v : Fin 128 → ℕ → EReal} {n : ℕ} {M : FVec Ideal S1x512 .f32} {L : FVec Ideal S8x512 .f32}
    {A : FVec Ideal S128x512 .f32} {K : FVec Ideal S1x1x512x192 .bf16} {Q : FVec Ideal S1x1x192x512 .bf16}
    {w : FVec Ideal S1x1x128x512 .bf16} {s3 : FVec Ideal S1x512x512 .f32} (hi : Inv s v n M L A) (h3 : s3 = kept K Q)
    (hs : ∀ r j : Fin 512, ∑ d : Fin 192, K (ix4 0 0 r d) * Q (ix4 0 0 d j) = (s (512 * n + r.val) j : EReal))
    (hv : ∀ (d : Fin 128) (r : Fin 512), w (ix4 0 0 d r) = v d (512 * n + r.val)) :
    Inv s v (n + 1) (maximumf M (top K Q)) (newL M (top K Q) L s3) (newA M (top K Q) A s3 w) := by
  subst h3
  obtain ⟨μ, hM, hL, hA⟩ := hi
  have htop : ∀ j : Fin 512, ∃ x : ℝ, top K Q (ix2 0 j) = (x : EReal) := fun j => by
    rw [top_apply]; simp only [hs]
    exact fold_max_coe _ _ ⟨0, Finset.mem_univ _⟩
  choose τ hτ using htop
  have hnew : ∀ j : Fin 512, ∃ x : ℝ, max (M (ix2 0 j)) (top K Q (ix2 0 j)) = (x : EReal) := fun j => by
    rw [hM, hτ]
    split
    · exact ⟨τ j, by simp⟩
    · exact ⟨max (μ j) (τ j), (EReal.coe_strictMono.monotone.map_max).symm⟩
  choose ν hν using hnew
  refine ⟨ν, fun j => ?_, fun r j => ?_, fun d j => ?_⟩
  · rw [if_neg (Nat.succ_ne_zero n), ← hν]; rfl
  · rw [newL_apply, hν, hM, hL, mul_add, Finset.sum_range_add, EReal.coe_add, mul_one]
    congr 1
    · split
      · subst n; simp
      · rw [exp2_sub]; exact scale_plain (64 * n) (fun k => s (k * 8 + r.val) j) (μ j) (ν j)
    · rw [coe_sum, Finset.sum_range]
      refine Finset.sum_congr rfl fun k _ => ?_
      rw [kept_apply, hs, exp2_sub]
      rw [show 512 * n + (⟨(k : ℕ) * 8 + (r : ℕ), by omega⟩ : Fin 512).val = (64 * n + (k : ℕ)) * 8 + (r : ℕ) by
        simp only; ring]
  · rw [newA_apply, hν, hM, hA, mul_add, Finset.sum_range_add, mul_one]
    congr 1
    · split
      · subst n; simp
      · rw [exp2_sub]; exact scale_weighted (512 * n) (v d) (fun k => s k j) (μ j) (ν j)
    · rw [Finset.sum_range]
      refine Finset.sum_congr rfl fun k _ => ?_
      rw [kept_apply, hs, exp2_sub, hv]

end Cert.AttnIdeal.Chunk

end
-- ==== Proof.Attn.Chunks.lean ====
/-
  The body's run: sixteen chunks for each half of the query tile. A half's state after `n` chunks is written once, as a recursion
  over the chunks; it satisfies `Chunk.Inv`, and the body's words are its sixteenth state.
-/
module

public import proofs.«01_k».proof.Proof.Gen.AttnIdeal.Frame
public import proofs.«01_k».proof.Proof.Attn.Step
public import Idealize.ShloMosaic.Lib.Pipeline.ReadBack

@[expose] public section

set_option maxRecDepth 16384

noncomputable section

open Idealize.ShloMosaic Idealize.ShloMosaic.TcCoe Idealize.SL.Sem

namespace Cert.AttnIdeal.Chunk

open Cert.AttnIdeal Cert.AttnIdeal.Gen Cert.Attention

/-- Half a query tile, from query `o` on, is inside the tile. -/
theorem inbQ (o : ℕ) (ho : o + 512 ≤ 1024) : ∀ a, (![0, 0, 0, o] : Fin 4 → ℕ) a + S1x1x192x512.size a ≤ S1x1x192x1024.size a := by
  intro a; fin_cases a
  · exact (by decide : 0 + 1 ≤ 1)
  · exact (by decide : 0 + 1 ≤ 1)
  · exact (by decide : 0 + 192 ≤ 192)
  · exact ho
/-- Chunk `n` of the keys is inside them. -/
theorem inbK (n : ℕ) (hn : n < 16) : ∀ a, (![0, 0, n * 512, 0] : Fin 4 → ℕ) a + S1x1x512x192.size a ≤ S1x1x8192x192.size a := by
  intro a; fin_cases a
  · exact (by decide : 0 + 1 ≤ 1)
  · exact (by decide : 0 + 1 ≤ 1)
  · show n * 512 + 512 ≤ 8192; omega
  · exact (by decide : 0 + 192 ≤ 192)
/-- Chunk `n` of the values is inside them. -/
theorem inbW (n : ℕ) (hn : n < 16) : ∀ a, (![0, 0, 0, n * 512] : Fin 4 → ℕ) a + S1x1x128x512.size a ≤ S1x1x128x8192.size a := by
  intro a; fin_cases a
  · exact (by decide : 0 + 1 ≤ 1)
  · exact (by decide : 0 + 1 ≤ 1)
  · exact (by decide : 0 + 128 ≤ 128)
  · show n * 512 + 512 ≤ 8192; omega

section

variable (c : Dev nD) (arg3 : Memref sig .tc .vmem S1x1x192x1024 .bf16) (harg3 : arg3.IsWhole)
  (arg4 : Memref sig .tc .vmem S1x1x8192x192 .bf16) (harg4 : arg4.IsWhole)
  (arg5 : Memref sig .tc .vmem S1x1x128x8192 .bf16) (harg5 : arg5.IsWhole)
  (arg7 : Memref sig .tc .vmem S2x512x1024 .f32)
  (x0 : Vec Ideal S1x1x192x1024 .bf16) (x1 : Vec Ideal S1x1x8192x192 .bf16) (x2 : Vec Ideal S1x1x128x8192 .bf16)

/-- Half of the query tile. -/
def rdQ (o : ℕ) (ho : o + 512 ≤ 1024) : Vec Ideal S1x1x192x512 .bf16 :=
  View.readAt (Elt Ideal) arg3.view (Rect.unit (s := S1x1x192x1024) ![0, 0, 0, o] S1x1x192x512.size (inbQ o ho)).toLoadRect (harg3.unread x0)
/-- Chunk `n` of the keys. -/
def rdK (n : ℕ) (hn : n < 16) : Vec Ideal S1x1x512x192 .bf16 :=
  View.readAt (Elt Ideal) arg4.view (Rect.unit (s := S1x1x8192x192) ![0, 0, n * 512, 0] S1x1x512x192.size (inbK n hn)).toLoadRect (harg4.unread x1)
/-- Chunk `n` of the values. -/
def rdW (n : ℕ) (hn : n < 16) : Vec Ideal S1x1x128x512 .bf16 :=
  View.readAt (Elt Ideal) arg5.view (Rect.unit (s := S1x1x128x8192) ![0, 0, 0, n * 512] S1x1x128x512.size (inbW n hn)).toLoadRect (harg5.unread x2)

/-- Half of the query tile, read. -/
theorem rdQ_at (o : ℕ) (ho : o + 512 ≤ 1024) (d : Fin 192) (j : Fin 512) :
    rdQ arg3 harg3 x0 o ho (ix4 0 0 d j) = x0 (ix4 0 0 d ⟨o + j.val, by omega⟩) := by
  rw [rdQ, View.readAt_eq_ld, harg3.read_unread]
  pointwise
/-- A chunk of the keys, read. -/
theorem rdK_at (n : ℕ) (hn : n < 16) (r : Fin 512) (d : Fin 192) :
    rdK arg4 harg4 x1 n hn (ix4 0 0 r d) = x1 (ix4 0 0 ⟨n * 512 + r.val, by omega⟩ d) := by
  rw [rdK, View.readAt_eq_ld, harg4.read_unread]
  pointwise
/-- A chunk of the values, read. -/
theorem rdW_at (n : ℕ) (hn : n < 16) (d : Fin 128) (r : Fin 512) :
    rdW arg5 harg5 x2 n hn (ix4 0 0 d r) = x2 (ix4 0 0 d ⟨n * 512 + r.val, by omega⟩) := by
  rw [rdW, View.readAt_eq_ld, harg5.read_unread]
  pointwise

/-- The running maximum after `n` chunks. -/
def maxC (o : ℕ) (ho : o + 512 ≤ 1024) : (n : ℕ) → n ≤ 16 → FVec Ideal S1x512 .f32
  | 0, _ => broadcast S1x512 (Scalar.ofBits .f32 0xFF800000#32)
  | n + 1, hn => maximumf (maxC o ho n (by omega)) (top (rdK arg4 harg4 x1 n hn) (rdQ arg3 harg3 x0 o ho))

/-- The running sums after `n` chunks, the kept scores of chunk `n` being `T n`. -/
def sumC (o : ℕ) (ho : o + 512 ≤ 1024) (T : ℕ → FVec Ideal S1x512x512 .f32) : (n : ℕ) → n ≤ 16 → FVec Ideal S8x512 .f32
  | 0, _ => broadcast S8x512 (Scalar.ofBits .f32 0x00000000#32)
  | n + 1, hn => newL (maxC arg3 harg3 arg4 harg4 x0 x1 o ho n (by omega)) (top (rdK arg4 harg4 x1 n hn) (rdQ arg3 harg3 x0 o ho)) (sumC o ho T n (by omega)) (T n)

/-- The running weighted sums after `n` chunks. -/
def accC (o : ℕ) (ho : o + 512 ≤ 1024) (T : ℕ → FVec Ideal S1x512x512 .f32) : (n : ℕ) → n ≤ 16 → FVec Ideal S128x512 .f32
  | 0, _ => broadcast S128x512 (Scalar.ofBits .f32 0x00000000#32)
  | n + 1, hn => newA (maxC arg3 harg3 arg4 harg4 x0 x1 o ho n (by omega)) (top (rdK arg4 harg4 x1 n hn) (rdQ arg3 harg3 x0 o ho)) (accC o ho T n (by omega)) (T n) (rdW arg5 harg5 x2 n hn)

/-- The values as a function of the key's number. -/
def vals (d : Fin 128) (k : ℕ) : EReal := if h : k < 8192 then x2 (ix4 0 0 d ⟨k, h⟩) else 0

/-- The scores of every key against the half of the query tile that starts at `o` are the reals `s`. -/
def Scores (o : ℕ) (ho : o + 512 ≤ 1024) (s : ℕ → Fin 512 → ℝ) : Prop :=
  ∀ (k : Fin 8192) (j : Fin 512), ∑ d : Fin 192, x1 (ix4 0 0 k d) * x0 (ix4 0 0 d ⟨o + j.val, by omega⟩) = (s k.val j : EReal)

/-- The state after `n` chunks holds the sums over the first `n` chunks of keys. -/
theorem inv_at (o : ℕ) (ho : o + 512 ≤ 1024) (T : ℕ → FVec Ideal S1x512x512 .f32)
    (hT : ∀ n (hn : n < 16), T n = kept (rdK arg4 harg4 x1 n hn) (rdQ arg3 harg3 x0 o ho))
    (s : ℕ → Fin 512 → ℝ) (h : Scores x0 x1 o ho s) : ∀ (n : ℕ) (hn : n ≤ 16),
      Inv s (vals x2) n (maxC arg3 harg3 arg4 harg4 x0 x1 o ho n hn) (sumC arg3 harg3 arg4 harg4 x0 x1 o ho T n hn)
        (accC arg3 harg3 arg4 harg4 arg5 harg5 x0 x1 x2 o ho T n hn)
  | 0, _ => inv_zero s (vals x2)
  | n + 1, hn => by
    refine step (inv_at o ho T hT s h n (by omega)) (hT n hn) (fun r j => ?_) (fun d r => ?_)
    · rw [Nat.mul_comm, ← h ⟨n * 512 + r.val, by omega⟩ j]
      refine Finset.sum_congr rfl fun d _ => ?_
      rw [rdK_at, rdQ_at]
    · rw [rdW_at, vals, dif_pos (by omega)]
      simp only [Nat.mul_comm]

open kernelRun0_A.sl in
/-- The scores of half 0 as the body reads them back, by chunk. -/
def tiles0 : ℕ → FVec Ideal S1x512x512 .f32
  | 0 => v39 c arg3 harg3 arg4 harg4 arg7 x0 x1
  | 1 => v99 c arg3 harg3 arg4 harg4 arg7 x0 x1
  | 2 => v159 c arg3 harg3 arg4 harg4 arg7 x0 x1
  | 3 => v219 c arg3 harg3 arg4 harg4 arg7 x0 x1
  | 4 => v279 c arg3 harg3 arg4 harg4 arg7 x0 x1
  | 5 => v339 c arg3 harg3 arg4 harg4 arg7 x0 x1
  | 6 => v399 c arg3 harg3 arg4 harg4 arg7 x0 x1
  | 7 => v459 c arg3 harg3 arg4 harg4 arg7 x0 x1
  | 8 => v519 c arg3 harg3 arg4 harg4 arg7 x0 x1
  | 9 => v579 c arg3 harg3 arg4 harg4 arg7 x0 x1
  | 10 => v639 c arg3 harg3 arg4 harg4 arg7 x0 x1
  | 11 => v699 c arg3 harg3 arg4 harg4 arg7 x0 x1
  | 12 => v759 c arg3 harg3 arg4 harg4 arg7 x0 x1
  | 13 => v819 c arg3 harg3 arg4 harg4 arg7 x0 x1
  | 14 => v879 c arg3 harg3 arg4 harg4 arg7 x0 x1
  | _ => v929 c arg3 harg3 arg4 harg4 arg7 x0 x1

open kernelRun0_A.sl in
/-- The scores of half 1 as the body reads them back, by chunk. -/
def tiles1 : ℕ → FVec Ideal S1x512x512 .f32
  | 0 => v69 c arg3 harg3 arg4 harg4 arg7 x0 x1
  | 1 => v129 c arg3 harg3 arg4 harg4 arg7 x0 x1
  | 2 => v189 c arg3 harg3 arg4 harg4 arg7 x0 x1
  | 3 => v249 c arg3 harg3 arg4 harg4 arg7 x0 x1
  | 4 => v309 c arg3 harg3 arg4 harg4 arg7 x0 x1
  | 5 => v369 c arg3 harg3 arg4 harg4 arg7 x0 x1
  | 6 => v429 c arg3 harg3 arg4 harg4 arg7 x0 x1
  | 7 => v489 c arg3 harg3 arg4 harg4 arg7 x0 x1
  | 8 => v549 c arg3 harg3 arg4 harg4 arg7 x0 x1
  | 9 => v609 c arg3 harg3 arg4 harg4 arg7 x0 x1
  | 10 => v669 c arg3 harg3 arg4 harg4 arg7 x0 x1
  | 11 => v729 c arg3 harg3 arg4 harg4 arg7 x0 x1
  | 12 => v789 c arg3 harg3 arg4 harg4 arg7 x0 x1
  | 13 => v849 c arg3 harg3 arg4 harg4 arg7 x0 x1
  | 14 => v909 c arg3 harg3 arg4 harg4 arg7 x0 x1
  | _ => v949 c arg3 harg3 arg4 harg4 arg7 x0 x1

open kernelRun0_A.sl in
/-- The scores are read back as they were stored. -/
theorem tiles0_eq (n : ℕ) (hn : n < 16) :
    tiles0 c arg3 harg3 arg4 harg4 arg7 x0 x1 n = kept (rdK arg4 harg4 x1 n hn) (rdQ arg3 harg3 x0 0 (by norm_num)) := by
  interval_cases n <;>
  · simp (disch := decide) only [tiles0, v39, v99, v159, v219, v279, v339, v399, v459, v519, v579, v639, v699, v759, v819, v879, v929, HS0_3, HS0_4, HS0_5, HS0_6, HS0_7,
    HS0_8, HS0_9, HS0_10, HS0_11, HS0_12, HS0_13, HS0_14, HS0_15, HS0_16, HS0_17, HS0_18, HS0_19, HS0_20, HS0_21, HS0_22, HS0_23,
    HS0_24, HS0_25, HS0_26, HS0_27, HS0_28, HS0_29, HS0_30, HS0_31, HS0_32,
      View.readCov_skip, View.readCov_cons_toLoadRect]
    rfl

open kernelRun0_A.sl in
/-- The scores are read back as they were stored. -/
theorem tiles1_eq (n : ℕ) (hn : n < 16) :
    tiles1 c arg3 harg3 arg4 harg4 arg7 x0 x1 n = kept (rdK arg4 harg4 x1 n hn) (rdQ arg3 harg3 x0 512 (by norm_num)) := by
  interval_cases n <;>
  · simp (disch := decide) only [tiles1, v69, v129, v189, v249, v309, v369, v429, v489, v549, v609, v669, v729, v789, v849, v909, v949, HS0_3, HS0_4, HS0_5, HS0_6, HS0_7,
    HS0_8, HS0_9, HS0_10, HS0_11, HS0_12, HS0_13, HS0_14, HS0_15, HS0_16, HS0_17, HS0_18, HS0_19, HS0_20, HS0_21, HS0_22, HS0_23,
    HS0_24, HS0_25, HS0_26, HS0_27, HS0_28, HS0_29, HS0_30, HS0_31, HS0_32,
      View.readCov_skip, View.readCov_cons_toLoadRect]
    rfl

/-- The body's sums and weighted sums of half 0 are the recursion's. -/
theorem words0 : kernelRun0_A.sl.r_162 c arg3 harg3 arg4 harg4 arg7 x0 x1
      = sumC arg3 harg3 arg4 harg4 x0 x1 0 (by norm_num) (tiles0 c arg3 harg3 arg4 harg4 arg7 x0 x1) 16 (le_refl _)
    ∧ kernelRun0_A.sl.r_165 c arg3 harg3 arg4 harg4 arg5 harg5 arg7 x0 x1 x2
      = accC arg3 harg3 arg4 harg4 arg5 harg5 x0 x1 x2 0 (by norm_num) (tiles0 c arg3 harg3 arg4 harg4 arg7 x0 x1) 16 (le_refl _) :=
  ⟨rfl, rfl⟩

/-- The body's sums and weighted sums of half 1 are the recursion's. -/
theorem words1 : kernelRun0_A.sl.r_166 c arg3 harg3 arg4 harg4 arg7 x0 x1
      = sumC arg3 harg3 arg4 harg4 x0 x1 512 (by norm_num) (tiles1 c arg3 harg3 arg4 harg4 arg7 x0 x1) 16 (le_refl _)
    ∧ kernelRun0_A.sl.r_167 c arg3 harg3 arg4 harg4 arg5 harg5 arg7 x0 x1 x2
      = accC arg3 harg3 arg4 harg4 arg5 harg5 x0 x1 x2 512 (by norm_num) (tiles1 c arg3 harg3 arg4 harg4 arg7 x0 x1) 16 (le_refl _) :=
  ⟨rfl, rfl⟩

/-- The state of half 0 after the last chunk. -/
theorem run0 (s : ℕ → Fin 512 → ℝ) (h : Scores x0 x1 0 (by norm_num) s) :
    ∃ M, Inv s (vals x2) 16 M (kernelRun0_A.sl.r_162 c arg3 harg3 arg4 harg4 arg7 x0 x1)
      (kernelRun0_A.sl.r_165 c arg3 harg3 arg4 harg4 arg5 harg5 arg7 x0 x1 x2) := by
  rw [(words0 c arg3 harg3 arg4 harg4 arg5 harg5 arg7 x0 x1 x2).1, (words0 c arg3 harg3 arg4 harg4 arg5 harg5 arg7 x0 x1 x2).2]
  exact ⟨_, inv_at _ _ _ _ _ _ _ _ _ 0 _ _ (fun n hn => tiles0_eq c arg3 harg3 arg4 harg4 arg7 x0 x1 n hn) s h 16 (le_refl _)⟩

/-- The state of half 1 after the last chunk. -/
theorem run1 (s : ℕ → Fin 512 → ℝ) (h : Scores x0 x1 512 (by norm_num) s) :
    ∃ M, Inv s (vals x2) 16 M (kernelRun0_A.sl.r_166 c arg3 harg3 arg4 harg4 arg7 x0 x1)
      (kernelRun0_A.sl.r_167 c arg3 harg3 arg4 harg4 arg5 harg5 arg7 x0 x1 x2) := by
  rw [(words1 c arg3 harg3 arg4 harg4 arg5 harg5 arg7 x0 x1 x2).1, (words1 c arg3 harg3 arg4 harg4 arg5 harg5 arg7 x0 x1 x2).2]
  exact ⟨_, inv_at _ _ _ _ _ _ _ _ _ 512 _ _ (fun n hn => tiles1_eq c arg3 harg3 arg4 harg4 arg7 x0 x1 n hn) s h 16 (le_refl _)⟩

end

end Cert.AttnIdeal.Chunk

end
-- ==== Proof.Attn.Value.lean ====
/-
  What one grid point leaves in the result's block: the softmax-weighted mean of the values, written with any shift of the scores.
-/
module

public import proofs.«01_k».proof.Proof.Gen.AttnIdeal.Value
public import proofs.«01_k».proof.Proof.Attn.Chunks
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen Cert.AttnIdeal.Chunk Cert.Attention

/-- A sum over eight interleaved classes of keys is the sum over all the keys. -/
theorem sum_classes (f : ℕ → ℝ) (n : ℕ) :
    ∑ r : Fin 8, ∑ k ∈ Finset.range n, f (k * 8 + r.val) = ∑ k ∈ Finset.range (n * 8), f k := by
  induction n with
  | zero => simp
  | succ n ih =>
    rw [show (n + 1) * 8 = n * 8 + 8 by ring, Finset.sum_range_add, ← ih]
    simp only [Finset.sum_range_succ _ n, Finset.sum_add_distrib]
    rw [Finset.sum_range]

/-- From the state after the last chunk to the quotient that is stored. -/
theorem quotient {s : ℕ → Fin 512 → ℝ} {x2 : Vec Ideal S1x1x128x8192 .bf16} {M : FVec Ideal S1x512 .f32} {L : FVec Ideal S8x512 .f32}
    {A : FVec Ideal S128x512 .f32} (h : Inv s (vals x2) 16 M L A) (d : Fin 128) (j : Fin 512) :
    ∃ μ : ℝ, Ideal.div (A (ix2 d j)) (∑ r : Fin 8, L (ix2 r j))
      = Ideal.div (∑ k : Fin 8192, x2 (ix4 0 0 d k) * (pw (s k.val j - μ) : EReal)) ((∑ k : Fin 8192, pw (s k.val j - μ) : ℝ) : EReal) := by
  obtain ⟨μ, -, hL, hA⟩ := h
  refine ⟨μ j, ?_⟩
  have h1 : ∑ r : Fin 8, L (ix2 r j) = ((∑ k : Fin 8192, pw (s k.val j - μ j) : ℝ) : EReal) := by
    simp only [hL]
    rw [← coe_sum, sum_classes (fun k => pw (s k j - μ j)), Finset.sum_range]
  have h2 : A (ix2 d j) = ∑ k : Fin 8192, x2 (ix4 0 0 d k) * (pw (s k.val j - μ j) : EReal) := by
    rw [hA, Finset.sum_range]
    refine Finset.sum_congr rfl fun k _ => ?_
    rw [vals, dif_pos k.isLt]
  rw [h1, h2]

/-- The quotient that is stored for half 0. -/
theorem pay1_at (L A) (q : Fin 512) (d : Fin 128) :
    k0_pay1 (F := Ideal) L A (ix3 0 q d) = Ideal.div (A (ix2 d q)) (∑ r : Fin 8, L (ix2 r q)) := by
  pointwise [k0_pay1]
/-- The quotient that is stored for half 1. -/
theorem pay2_at (L A) (q : Fin 512) (d : Fin 128) :
    k0_pay2 (F := Ideal) L A (ix3 0 q d) = Ideal.div (A (ix2 d q)) (∑ r : Fin 8, L (ix2 r q)) := by
  pointwise [k0_pay2]

/-- What a grid point's body leaves in the result's block, at one query and feature. -/
theorem out_at (c : Dev nD) (i : grid0.Coords) (arg3 : Memref sig .tc .vmem S1x1x192x1024 .bf16) (harg3 : arg3.IsWhole)
    (arg4 : Memref sig .tc .vmem S1x1x8192x192 .bf16) (harg4 : arg4.IsWhole) (arg5 : Memref sig .tc .vmem S1x1x128x8192 .bf16) (harg5 : arg5.IsWhole)
    (arg6 : Memref sig .tc .vmem S1x1024x128 .bf16) (harg6 : arg6.IsWhole) (arg7 : Memref sig .tc .vmem S2x512x1024 .f32) (harg7 : arg7.IsWhole)
    (x0 : Vec Ideal S1x1x192x1024 .bf16) (x1 : Vec Ideal S1x1x8192x192 .bf16) (x2 : Vec Ideal S1x1x128x8192 .bf16)
    (s : Fin 1024 → ℕ → ℝ)
    (hs : ∀ (q : Fin 1024) (k : Fin 8192), ∑ d : Fin 192, x1 (ix4 0 0 k d) * x0 (ix4 0 0 d q) = (s q k.val : EReal))
    (y : S1x1024x128.Idx) (q : Fin 1024) (d : Fin 128) (hq : (y 1).val = q.val) (hd : (y 2).val = d.val) :
    ∃ μ : ℝ, out0_A_3 c i arg3 harg3 arg4 harg4 arg5 harg5 arg6 harg6 arg7 harg7 x0 x1 x2 y
      = Ideal.div (∑ k : Fin 8192, x2 (ix4 0 0 d k) * (pw (s q k.val - μ) : EReal)) ((∑ k : Fin 8192, pw (s q k.val - μ) : ℝ) : EReal) := by
  obtain ⟨M0, h0⟩ := run0 c arg3 harg3 arg4 harg4 arg5 harg5 arg7 x0 x1 x2 (fun k j => s ⟨j.val, by omega⟩ k) (fun k j => by
    rw [← hs ⟨j.val, by omega⟩ k]
    simp only [Nat.zero_add])
  obtain ⟨M1, h1⟩ := run1 c arg3 harg3 arg4 harg4 arg5 harg5 arg7 x0 x1 x2 (fun k j => s ⟨512 + j.val, by omega⟩ k) (fun k j => hs ⟨512 + j.val, by omega⟩ k)
  choose μ0 e0 using quotient h0
  choose μ1 e1 using quotient h1
  refine ⟨if h : q.val < 512 then μ0 d ⟨q.val, h⟩ else μ1 d ⟨q.val - 512, by omega⟩, ?_⟩
  unfold out0_A_3
  rw [View.read_writes_junk_eq_canon]
  show View.canon [(⟨Rect.unit (s := S1x1024x128) ![0, 512, 0] ![1, 512, 128] _, k0_pay2 (kernelRun0_A.sl.r_166 c arg3 harg3 arg4 harg4 arg7 x0 x1) (kernelRun0_A.sl.r_167 c arg3 harg3 arg4 harg4 arg5 harg5 arg7 x0 x1 x2)⟩ : View.Piece (Elt Ideal) S1x1024x128 .bf16),
    ⟨Rect.unit (s := S1x1024x128) ![0, 0, 0] ![1, 512, 128] _, k0_pay1 (kernelRun0_A.sl.r_162 c arg3 harg3 arg4 harg4 arg7 x0 x1) (kernelRun0_A.sl.r_165 c arg3 harg3 arg4 harg4 arg5 harg5 arg7 x0 x1 x2)⟩] y = _
  canon_tiles x h
  · have hx : x = ix3 0 (⟨q.val - 512, by omega⟩ : Fin 512) d := by blk_ext
    rw [dif_neg (by omega)]
    refine (congrArg (k0_pay2 _ _) hx).trans ?_
    rw [pay2_at, e1]
    have hi : (⟨512 + (q.val - 512), by omega⟩ : Fin 1024) = q := Fin.ext (by simp only; omega)
    simp only [hi]
  · have hx : x = ix3 0 (⟨q.val, by omega⟩ : Fin 512) d := by blk_ext
    rw [dif_pos (by omega)]
    refine (congrArg (k0_pay1 _ _) hx).trans ?_
    rw [pay1_at, e0]

variable (m : (ℓ : Loc nD τ sig) → Buf (Elt Ideal) ℓ)

/-- The blocks each grid point reads and writes. -/
theorem idx : ∀ t : Fin cfg0.N, win0_0.index t = ![(grid0.coords t 0).val, (grid0.coords t 1).val, 0, (grid0.coords t 2).val]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 2).val, (grid0.coords t 1).val] :=
  (by decide +kernel : ∀ t : Fin grid0.N, _)

/-- A grid point's batch. -/
def bt (t : Fin cfg0.N) : Fin 2 := ⟨(grid0.coords t 0).val, (grid0.coords t 0).isLt⟩
/-- A grid point's head. -/
def ht (t : Fin cfg0.N) : Fin 16 := ⟨(grid0.coords t 1).val, (grid0.coords t 1).isLt⟩
/-- The query at place `j` of a grid point's tile. -/
def qt (t : Fin cfg0.N) (j : Fin 1024) : Fin 8192 :=
  ⟨(grid0.coords t 2).val * 1024 + j.val, by have : (grid0.coords t 2).val < 8 := (grid0.coords t 2).isLt; omega⟩

/-- The block of the queries, from the kernel's arguments. -/
theorem queries_at (c : Dev nD) (t : Fin cfg0.N) (e : Fin 192) (j : Fin 1024) :
    iblk m c 0 t (ix4 0 0 e j) = m ((c : Thread nD τ).loc main_arg0) (ix4 (bt t) (ht t) e (qt t j)) := by
  obtain ⟨e0, e1, e2, e3⟩ := idx t
  blk_ext [iblk, V, e0, bt, ht, qt]

/-- The block of the keys, from the kernel's arguments. -/
theorem keys_at (c : Dev nD) (t : Fin cfg0.N) (k : Fin 8192) (e : Fin 192) :
    iblk m c 1 t (ix4 0 0 k e) = m ((c : Thread nD τ).loc main_arg1) (ix4 (bt t) (ht t) k e) := by
  obtain ⟨e0, e1, e2, e3⟩ := idx t
  blk_ext [iblk, V, e1, bt, ht]

/-- The block of the values, from the kernel's arguments. -/
theorem values_at (c : Dev nD) (t : Fin cfg0.N) (d : Fin 128) (k : Fin 8192) :
    iblk m c 2 t (ix4 0 0 d k) = m ((c : Thread nD τ).loc main_arg2) (ix4 (bt t) (ht t) d k) := by
  obtain ⟨e0, e1, e2, e3⟩ := idx t
  blk_ext [iblk, V, e2, bt, ht]

end Cert.AttnIdeal.Value

end
-- ==== Proof.Attn.Final.lean ====
/-
  The result array after the run: every block is the softmax-weighted mean that `out_at` states, and the blocks cover the array.
-/
module

public import proofs.«01_k».proof.Proof.Attn.Value

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen Cert.Attention

variable (m : (ℓ : Loc nD τ sig) → Buf (Elt Ideal) ℓ)

/-- The score of key `k` for query `q`, in reals. -/
def sc (X0 : S2x16x192x8192.Idx → ℝ) (X1 : S2x16x8192x192.Idx → ℝ) (b : Fin 2) (h : Fin 16) (q k : Fin 8192) : ℝ :=
  ∑ e : Fin 192, X1 (ix4 b h k e) * X0 (ix4 b h e q)

/-- The mean of feature `d` of the values, weighted by the powers of the scores, shifted by `μ`. -/
def mean (X0 : S2x16x192x8192.Idx → ℝ) (X1 : S2x16x8192x192.Idx → ℝ) (X2 : Vec Ideal S2x16x128x8192 .bf16)
    (b : Fin 2) (h : Fin 16) (q : Fin 8192) (d : Fin 128) (μ : ℝ) : EReal :=
  Ideal.div (∑ k : Fin 8192, X2 (ix4 b h d k) * (pw (sc X0 X1 b h q k - μ) : EReal)) ((∑ k : Fin 8192, pw (sc X0 X1 b h q k - μ) : ℝ) : EReal)

/-- What a grid point stores in its block: at each of its queries and features, the reference's result. -/
theorem block_at (c : Dev nD) (t : Fin cfg0.N)
    (X0 : S2x16x192x8192.Idx → ℝ) (X1 : S2x16x8192x192.Idx → ℝ) (X2 : Vec Ideal S2x16x128x8192 .bf16)
    (h0 : ∀ b h e q, m ((c : Thread nD τ).loc main_arg0) (ix4 b h e q) = (X0 (ix4 b h e q) : EReal))
    (h1 : ∀ b h k e, m ((c : Thread nD τ).loc main_arg1) (ix4 b h k e) = (X1 (ix4 b h k e) : EReal))
    (h2 : ∀ b h d k, m ((c : Thread nD τ).loc main_arg2) (ix4 b h d k) = X2 (ix4 b h d k))
    (y : S1x1024x128.Idx) (j : Fin 1024) (d : Fin 128) (hj : (y 1).val = j.val) (hd : (y 2).val = d.val) :
    ∃ μ, outsAt0 m c t y = mean X0 X1 X2 (bt t) (ht t) (qt t j) d μ := by
  obtain ⟨μ, hμ⟩ := out_at c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) (iblk m c 2 t)
    (fun j k => if hk : k < 8192 then sc X0 X1 (bt t) (ht t) (qt t j) ⟨k, hk⟩ else 0)
    (fun j k => by
      rw [dif_pos k.isLt, sc, coe_sum]
      refine Finset.sum_congr rfl fun e _ => ?_
      rw [EReal.coe_mul, ← h0, ← h1, queries_at, keys_at])
    y j d hj hd
  refine ⟨μ, hμ.trans ?_⟩
  simp only [values_at, h2, Fin.is_lt, dif_pos, Fin.eta]
  rfl

/-- The kernel's result, from any `G` that is the softmax-weighted mean at every index. -/
theorem final (c : Dev nD) (G : S2x8192x2048.Idx → EReal)
    (X0 : S2x16x192x8192.Idx → ℝ) (X1 : S2x16x8192x192.Idx → ℝ) (X2 : Vec Ideal S2x16x128x8192 .bf16)
    (h0 : ∀ b h e q, m ((c : Thread nD τ).loc main_arg0) (ix4 b h e q) = (X0 (ix4 b h e q) : EReal))
    (h1 : ∀ b h k e, m ((c : Thread nD τ).loc main_arg1) (ix4 b h k e) = (X1 (ix4 b h k e) : EReal))
    (h2 : ∀ b h d k, m ((c : Thread nD τ).loc main_arg2) (ix4 b h d k) = X2 (ix4 b h d k))
    (hG : ∀ (b : Fin 2) (h : Fin 16) (q : Fin 8192) (d : Fin 128) (e : Fin 2048) (he : e.val = h.val * 128 + d.val) (μ : ℝ),
      G (ix3 b q e) = mean X0 X1 X2 b h q d μ) :
    (dats m 0 c).arrAt 3 cfg0.N = G := by
  refine (dats m 0 c).arrAt_eq_of_covers 3 _ (by decide +kernel) fun t _ y => ?_
  blk_simp
  rw [after0_3]
  have hy1 : (y 1).val < 1024 := (y 1).isLt
  have hy2 : (y 2).val < 128 := (y 2).isLt
  obtain ⟨μ, hμ⟩ := block_at m c t X0 X1 X2 h0 h1 h2 y ⟨(y 1).val, hy1⟩ ⟨(y 2).val, hy2⟩ rfl rfl
  refine hμ.trans ?_
  have hh := (ht t).isLt
  rw [← hG (bt t) (ht t) (qt t ⟨(y 1).val, hy1⟩) ⟨(y 2).val, hy2⟩ ⟨(ht t).val * 128 + (y 2).val, by omega⟩ rfl μ]
  obtain ⟨e0, e1, e2, e3⟩ := idx t
  blk_ext [e3, bt, ht, qt]

end Cert.AttnIdeal.Value

end
-- ==== Proof.Attn.Ref.lean ====
/-
  The reference's result, read at one index, for real queries and keys: the softmax of the scores times log 2, which is the
  mean weighted by the powers of two of the scores, with any shift.
-/
module

public import proofs.«01_k».proof.Proof.Gen.AttnRefIdeal.Run
public import proofs.«01_k».proof.Proof.Attn.Final
public import Idealize.ShloMosaic.Lib.Pointwise

@[expose] public section

set_option maxRecDepth 16384

noncomputable section

open Idealize.ShloMosaic Idealize.ShloMosaic.TcCoe Idealize.SL.Sem

namespace Cert.AttnRefIdeal.Value

open Cert.AttnRefIdeal Cert.AttnRefIdeal.Gen Cert.Attention Cert.AttnIdeal.Value

variable (m : (ℓ : Loc nD τ sig) → Buf (Elt Ideal) ℓ)

/-- The float word of -∞. -/
theorem ofBits_bot : Ideal.ofBits .f32 0xFF800000#32 = ⊥ := by simp [Ideal.ofBits, Ideal.ieee]
/-- The float word of 2. -/
theorem ofBits_two : Ideal.ofBits .f32 0x40000000#32 = ((2 : ℝ) : EReal) := by
  simp [Ideal.ofBits, Ideal.ieee, -EReal.coe_mul]; norm_num
/-- The logarithm of 2. -/
theorem log_two : Ideal.log ((2 : ℝ) : EReal) = (Real.log 2 : EReal) := by
  rw [Ideal.log_coe, if_neg (by norm_num)]

/-- A sum over 192 features is the sum over the first 128 and the last 64. -/
theorem sum_split (f g : Fin 192 → ℝ) :
    ∑ x : Fin 128, (f ⟨x.val, by omega⟩ : EReal) * (g ⟨x.val, by omega⟩ : EReal) + ∑ x : Fin 64, (f ⟨128 + x.val, by omega⟩ : EReal) * (g ⟨128 + x.val, by omega⟩ : EReal)
      = ((∑ e : Fin 192, g e * f e : ℝ) : EReal) := by
  have h : ∑ e : Fin 192, g e * f e = ∑ x : Fin 128, g ⟨x.val, by omega⟩ * f ⟨x.val, by omega⟩ + ∑ x : Fin 64, g ⟨128 + x.val, by omega⟩ * f ⟨128 + x.val, by omega⟩ :=
    Fin.sum_univ_add (a := 128) (b := 64) fun e : Fin 192 => g e * f e
  rw [h, EReal.coe_add, coe_sum, coe_sum]
  simp only [EReal.coe_mul, mul_comm]

/-- The reference's scaled scores. -/
def scores (X0 : FVec Ideal S2x16x192x8192 .bf16) (X1 : FVec Ideal S2x16x8192x192 .bf16) : FVec Ideal S2x16x8192x8192 .f32 :=
  mulf (extf .f32 (addf (truncf .bf16 (Host.dotGeneral dot_S2x16x128x8192_S2x16x8192x128_S2x16x8192x8192_2_3_3_2_01_01 none (extractStridedSlice S2x16x128x8192 ![0, 0, 0, 0] X0 slices_S2x16x192x8192_S2x16x128x8192_0_0_0_0) (extractStridedSlice S2x16x8192x128 ![0, 0, 0, 0] X1 slices_S2x16x8192x192_S2x16x8192x128_0_0_0_0)) bitsLt_bf16_f32) (truncf .bf16 (Host.dotGeneral dot_S2x16x64x8192_S2x16x8192x64_S2x16x8192x8192_2_3_3_2_01_01 none (extractStridedSlice S2x16x64x8192 ![0, 0, 128, 0] X0 slices_S2x16x192x8192_S2x16x64x8192_0_0_128_0) (extractStridedSlice S2x16x8192x64 ![0, 0, 0, 128] X1 slices_S2x16x8192x192_S2x16x8192x64_0_0_0_128)) bitsLt_bf16_f32)) bitsLt_bf16_f32) (broadcastInDim S2x16x8192x8192 ![] bcast_S_S2x16x8192x8192 (Host.log (constant S_ .f32 0x40000000#32)))

/-- The largest of each row of scores. -/
def rowmax (S : FVec Ideal S2x16x8192x8192 .f32) : FVec Ideal S2x16x8192 .f32 :=
  Host.reduce FloatOps.maximumf S (constant S_ .f32 0xFF800000#32) reducesTo_S2x16x8192x8192_S2x16x8192_d3 h_S_

/-- A row's number (at least the least float) spread over the row. -/
def spread (U : FVec Ideal S2x16x8192 .f32) : FVec Ideal S2x16x8192x8192 .f32 :=
  broadcastInDim S2x16x8192x8192 ![0, 1, 2, 3] bcast_S2x16x8192x1_S2x16x8192x8192_0_1_2_3 (broadcastInDim S2x16x8192x1 ![0, 1, 2] bcast_S2x16x8192_S2x16x8192x1_0_1_2 (maximumf (broadcastInDim S2x16x8192 ![] bcast_S_S2x16x8192 (constant S_ .f32 0xFF800000#32)) U))

/-- The reference's softmax of scores `S`, less `T` in the exponent, and its product with the values. -/
def weighted (S T : FVec Ideal S2x16x8192x8192 .f32) (X2 : FVec Ideal S2x16x128x8192 .bf16) : FVec Ideal S2x8192x2048 .bf16 :=
  shapeCast S2x8192x2048 (truncf .bf16 (transpose S2x8192x16x128 [0, 3, 1, 2] (Host.dotGeneral dot_S2x16x128x8192_S2x16x8192x8192_S2x16x128x8192_3_3_2_2_01_01 none X2 (truncf .bf16 (Host.divf (Host.exp (subf S T)) (broadcastInDim S2x16x8192x8192 ![0, 1, 2, 3] bcast_S2x16x8192x1_S2x16x8192x8192_0_1_2_3 (broadcastInDim S2x16x8192x1 ![0, 1, 2] bcast_S2x16x8192_S2x16x8192x1_0_1_2 (Host.reduceAdd (Host.exp (subf S T)) (constant S_ .f32 0x00000000#32) reducesTo_S2x16x8192x8192_S2x16x8192_d3 h_S_)))) bitsLt_bf16_f32)) transposes_S2x16x128x8192_S2x8192x16x128_0_3_1_2) bitsLt_bf16_f32) shapeCasts_S2x8192x16x128_S2x8192x2048

/-- The reference's result over its arguments. -/
def whole (X0 : FVec Ideal S2x16x192x8192 .bf16) (X1 : FVec Ideal S2x16x8192x192 .bf16) (X2 : FVec Ideal S2x16x128x8192 .bf16) :
    FVec Ideal S2x8192x2048 .bf16 := weighted (scores X0 X1) (spread (rowmax (scores X0 X1))) X2

/-- The scaled score of key `k` for query `q`: the two parts of the features apart, as the reference has them. -/
theorem scores_at (X0 : FVec Ideal S2x16x192x8192 .bf16) (X1 : FVec Ideal S2x16x8192x192 .bf16) (b : Fin 2) (h : Fin 16) (q k : Fin 8192) :
    scores X0 X1 (ix4 b h q k)
      = (∑ x : Fin 128, X0 (ix4 b h ⟨x.val, by omega⟩ q) * X1 (ix4 b h k ⟨x.val, by omega⟩)
          + ∑ x : Fin 64, X0 (ix4 b h ⟨128 + x.val, by omega⟩ q) * X1 (ix4 b h k ⟨128 + x.val, by omega⟩)) * Ideal.log (Ideal.ofBits .f32 0x40000000#32) := by
  pointwise [scores]

/-- The largest score of a row is the fold of `max` over the row, from -∞. -/
theorem rowmax_at (S : FVec Ideal S2x16x8192x8192 .f32) (b : Fin 2) (h : Fin 16) (q : Fin 8192) :
    rowmax S (ix3 b h q) = Finset.univ.fold max (⊥ : EReal) fun l : Fin 8192 => S (ix4 b h q l) := by
  rw [← ofBits_bot]
  pointwise [rowmax]

/-- Every entry of a spread row is the row's number. -/
theorem spread_at (U : FVec Ideal S2x16x8192 .f32) (b : Fin 2) (h : Fin 16) (q k : Fin 8192) :
    spread U (ix4 b h q k) = U (ix3 b h q) := by
  refine Eq.trans ?_ (max_eq_right (bot_le (a := U (ix3 b h q))))
  rw [← ofBits_bot]
  pointwise [spread]

/-- The softmax with any shift `T`, times the values, read at an index. -/
theorem weighted_at (S T : FVec Ideal S2x16x8192x8192 .f32) (X2 : FVec Ideal S2x16x128x8192 .bf16) (b : Fin 2) (q : Fin 8192) (e : Fin 2048) :
    weighted S T X2 (ix3 b q e)
      = ∑ k : Fin 8192, X2 (ix4 b ⟨e.val / 128, by omega⟩ ⟨e.val % 128, by omega⟩ k)
          * Ideal.div (Ideal.exp (S (ix4 b ⟨e.val / 128, by omega⟩ q k) - T (ix4 b ⟨e.val / 128, by omega⟩ q k)))
            (∑ k : Fin 8192, Ideal.exp (S (ix4 b ⟨e.val / 128, by omega⟩ q k) - T (ix4 b ⟨e.val / 128, by omega⟩ q k))) := by
  pointwise [weighted]

/-- Finite queries and keys have real scores. -/
theorem scores_real (X0 : FVec Ideal S2x16x192x8192 .bf16) (X1 : FVec Ideal S2x16x8192x192 .bf16)
    (x0 : S2x16x192x8192.Idx → ℝ) (x1 : S2x16x8192x192.Idx → ℝ) (h0 : ∀ b h e q, X0 (ix4 b h e q) = (x0 (ix4 b h e q) : EReal))
    (h1 : ∀ b h k e, X1 (ix4 b h k e) = (x1 (ix4 b h k e) : EReal)) (b : Fin 2) (h : Fin 16) (q k : Fin 8192) :
    scores X0 X1 (ix4 b h q k) = ((sc x0 x1 b h q k * Real.log 2 : ℝ) : EReal) := by
  rw [scores_at]
  simp only [h0, h1]
  rw [ofBits_two, log_two, EReal.coe_mul]
  exact congrArg (· * _) (sum_split (fun e => x0 (ix4 b h e q)) (fun e => x1 (ix4 b h k e)))

/-- The reference's result at one index, with any shift of the scores. -/
theorem ref_at (X0 : FVec Ideal S2x16x192x8192 .bf16) (X1 : FVec Ideal S2x16x8192x192 .bf16) (X2 : FVec Ideal S2x16x128x8192 .bf16)
    (x0 : S2x16x192x8192.Idx → ℝ) (x1 : S2x16x8192x192.Idx → ℝ) (h0 : ∀ b h e q, X0 (ix4 b h e q) = (x0 (ix4 b h e q) : EReal))
    (h1 : ∀ b h k e, X1 (ix4 b h k e) = (x1 (ix4 b h k e) : EReal))
    (b : Fin 2) (h : Fin 16) (q : Fin 8192) (d : Fin 128) (e : Fin 2048) (he : e.val = h.val * 128 + d.val) (μ : ℝ) :
    whole X0 X1 X2 (ix3 b q e) = mean x0 x1 X2 b h q d μ := by
  have e1 : (⟨e.val / 128, by omega⟩ : Fin 16) = h := Fin.ext (by simp only; omega)
  have e2 : (⟨e.val % 128, by omega⟩ : Fin 128) = d := Fin.ext (by simp only; omega)
  rw [whole, weighted_at, e1, e2]
  simp only [spread_at, rowmax_at, scores_real X0 X1 x0 x1 h0 h1]
  obtain ⟨M, hM⟩ := fold_max_coe Finset.univ (fun k : Fin 8192 => sc x0 x1 b h q k * Real.log 2) ⟨0, Finset.mem_univ _⟩
  rw [hM]
  have := softmax_eq (n := 8192) (by norm_num) (fun k => X2 (ix4 b h d k)) (fun k => sc x0 x1 b h q k) M μ
  rw [zero_add] at this
  exact this

/-- The reference's result, as its run leaves it, is `whole` of its arguments. -/
theorem res_eq (m : (ℓ : Loc nD τ sig) → Buf (Elt Ideal) ℓ) (c : Dev nD) :
    res_main_v28 m c = whole (m ((c.tc : Thread nD τ).loc main_arg0)) (m ((c.tc : Thread nD τ).loc main_arg1)) (m ((c.tc : Thread nD τ).loc main_arg2)) :=
  rfl

end Cert.AttnRefIdeal.Value

end
-- ==== Proof.Attn.Finite.lean ====
/-
  What the claim's condition says: every entry of the queries and of the keys is a real number.
-/
module

public import proofs.«01_k».proof.Defs
public import proofs.«01_k».proof.Proof.Gen.Pre_finite_qk
public import Idealize.ShloMosaic.Lib.Pointwise

@[expose] public section

set_option maxRecDepth 16384

noncomputable section

open Idealize.ShloMosaic

namespace Cert.Pre_finite_qk

open Cert.Pre_finite_qk.Gen

/-- The condition's bound is infinity. -/
theorem ofBits_top : Ideal.ofBits .f32 0x7F800000#32 = ⊤ := by simp [Ideal.ofBits, Ideal.ieee]

/-- An extended real whose absolute value is below infinity is a real number. -/
theorem real_of_abs_lt (x : EReal) (h : BitVec.ofBool (decide (max x (-x) < ⊤)) = 1#1) : x = ((x.toReal : ℝ) : EReal) := by
  induction x with
  | bot => exact absurd h (by simp)
  | coe r => rfl
  | top => exact absurd h (by simp)

/-- Under the condition an entry of the queries is a real number. -/
theorem query_real (X0 : FVec Ideal S2x16x192x8192 .bf16) (X1 : FVec Ideal S2x16x8192x192 .bf16) (X2 : FVec Ideal S2x16x128x8192 .bf16)
    (h : (fn X0 X1 X2).1 = fun _ => 1#1) (i : S2x16x192x8192.Idx) : X0 i = ((X0 i : EReal).toReal : EReal) := by
  have := congrFun h i
  pointwise [fn] at this
  rw [ofBits_top] at this
  exact real_of_abs_lt _ this

/-- Under the condition an entry of the keys is a real number. -/
theorem key_real (X0 : FVec Ideal S2x16x192x8192 .bf16) (X1 : FVec Ideal S2x16x8192x192 .bf16) (X2 : FVec Ideal S2x16x128x8192 .bf16)
    (h : (fn X0 X1 X2).2 = fun _ => 1#1) (i : S2x16x8192x192.Idx) : X1 i = ((X1 i : EReal).toReal : EReal) := by
  have := congrFun h i
  pointwise [fn] at this
  rw [ofBits_top] at this
  exact real_of_abs_lt _ this

end Cert.Pre_finite_qk

end
-- ==== Proof.Proj.Value.lean ====
/-
  The state-space layer's input projection, block by block: the rows of x, kept in a scratch for a whole row of blocks, times the
  columns of the weights.
-/
module

public import proofs.«01_k».proof.Proof.Gen.ProjIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- The stored block is the product of the kept rows and the columns. -/
theorem pay2_at (v w) (r : Fin 1024) (e : Fin 2048) :
    k0_pay2 (F := Ideal) v w (ix2 r e) = ∑ k : Fin 2048, v (ix2 r k) * w (ix2 k e) := by
  pointwise [k0_pay2]

/-- The kept rows are the rows of x. -/
theorem pay1_at (v) (r : Fin 1024) (e : Fin 2048) : k0_pay1 (F := Ideal) v (ix2 r e) = v (ix2 r e) := by
  pointwise [k0_pay1]

/-- The blocks each grid point reads and writes. -/
theorem idx : ∀ t : Fin cfg0.N, win0_0.index t = ![t.val / 5, 0]
    ∧ win0_1.index t = ![0, t.val % 5]
    ∧ win0_2.index t = ![t.val / 5, t.val % 5] :=
  (by decide +kernel : ∀ t : Fin grid0.N, _)

/-- The row of x at row `r` of the grid point's row of blocks, and the column of the weights. -/
def row (n : ℕ) (hn : n < cfg0.N) (r : Fin 1024) : Fin 16384 := ⟨n / 5 * 1024 + r.val, by have h : n < 80 := hn; omega⟩
/-- The column of the weights at column `e` of the grid point's block. -/
def col (n : ℕ) (hn : n < cfg0.N) (e : Fin 2048) : Fin 10368 := ⟨n % 5 * 2048 + e.val, by omega⟩

/-- The block of x at a grid point. -/
theorem rows_at (c : Dev nD) (t : Fin cfg0.N) (r : Fin 1024) (k : Fin 2048) :
    iblk m c 0 t (ix2 r k) = m ((c : Thread nD τ).loc main_arg0) (ix2 (row t.val t.isLt r) k) := by
  obtain ⟨e0, e1, e2⟩ := idx t
  blk_ext [iblk, V, e0, row]

/-- The block of the weights at a grid point. -/
theorem cols_at (c : Dev nD) (t : Fin cfg0.N) (k : Fin 2048) (e : Fin 2048) :
    X0_1 m c t (ix2 k e) = m ((c : Thread nD τ).loc main_arg1) (ix2 k (col t.val t.isLt e)) := by
  obtain ⟨e0, e1, e2⟩ := idx t
  unfold X0_1 Pipeline.Window.fill
  rw [dif_pos (moved0_1 t _)]
  blk_ext [iblk, V, e1, col]

/-- The first point of a row of blocks keeps the rows it reads. -/
theorem kept_A (c i arg2 harg2 arg3 harg3 arg4 harg4 arg5 harg5 hc0) (x0 x1) (y) :
    sout0_A_0 (F := Ideal) c i arg2 harg2 arg3 harg3 arg4 harg4 arg5 harg5 hc0 x0 x1 y = k0_pay1 x0 y := by
  unfold sout0_A_0
  frame_out

/-- The first point of a row of blocks stores the product of the rows it has just kept. -/
theorem out_A (c i arg2 harg2 arg3 harg3 arg4 harg4 arg5 harg5 hc0) (x0 x1) (y) :
    out0_A_2 (F := Ideal) c i arg2 harg2 arg3 harg3 arg4 harg4 arg5 harg5 hc0 x0 x1 y = k0_pay2 (k0_pay1 x0) x1 y := by
  unfold out0_A_2
  frame_out

/-- A later point stores the product of the rows it finds kept. -/
theorem out_B (c i arg2 harg2 arg3 harg3 arg4 harg4 arg5 harg5 hc0) (x0 x1 xs) (y) :
    out0_B_2 (F := Ideal) c i arg2 harg2 arg3 harg3 arg4 harg4 arg5 harg5 hc0 x0 x1 xs y = k0_pay2 xs x1 y := by
  unfold out0_B_2
  frame_out

/-- At every grid point the scratch holds the rows of x of the point's row of blocks. -/
theorem kept_at (c : Dev nD) : ∀ (n : ℕ) (hn : n < cfg0.N) (r : Fin 1024) (k : Fin 2048),
    (outsAt0 m c n hn).2 (ix2 r k) = m ((c : Thread nD τ).loc main_arg0) (ix2 (row n hn r) k)
  | n, hn, r, k => by
    by_cases h : n % 5 = 0
    · have e : (outsAt0 m c n hn).2 = _ := congrArg Prod.snd (outsAt0_A m c ⟨n, hn⟩ h)
      rw [e]
      dsimp only
      rw [kept_A, pay1_at, rows_at m c ⟨n, hn⟩]
    · have e : (outsAt0 m c n hn).2 = _ := congrArg Prod.snd (outsAt0_B m c ⟨n, hn⟩ h)
      have hr : row n hn r = row (n - 1) (by omega) r := Fin.ext (by simp only [row]; omega)
      rw [e, hr]
      dsimp only
      unfold sout0_B_0
      exact kept_at c (n - 1) (by omega) r k

/-- Row `r` of `X` times column `e` of `W`. -/
def dotAt (X : FVec Ideal S16384x2048 .f32) (W : FVec Ideal S2048x10368 .bf16) (r : Fin 16384) (e : Fin 10368) : EReal :=
  ∑ k : Fin 2048, X (ix2 r k) * W (ix2 k e)

/-- The block stored at grid point `t`: the rows times the columns. -/
theorem block_at (c : Dev nD) (t : Fin cfg0.N) (r : Fin 1024) (e : Fin 2048) :
    (outsAt0 m c t.val t.isLt).1 (ix2 r e) = dotAt (m ((c : Thread nD τ).loc main_arg0)) (m ((c : Thread nD τ).loc main_arg1)) (row t.val t.isLt r) (col t.val t.isLt e) := by
  by_cases h : t.val % 5 = 0
  · rw [outsAt0_A m c t h]
    dsimp only
    rw [out_A, pay2_at]
    simp only [pay1_at, rows_at, cols_at, dotAt]
  · have hr : row t.val t.isLt r = row (t.val - 1) (by omega) r := Fin.ext (by simp only [row]; omega)
    rw [outsAt0_B m c t h, hr]
    dsimp only
    rw [out_B, pay2_at]
    simp only [kept_at, cols_at, dotAt]

/-- The kernel's result, from any `G` which at each index is the sum of products. -/
theorem final (c : Dev nD) (G : S16384x10240.Idx → EReal)
    (hG : ∀ (r : Fin 16384) (e : Fin 10240), G (ix2 r e) = dotAt (m ((c : Thread nD τ).loc main_arg0)) (m ((c : Thread nD τ).loc main_arg1)) r ⟨e.val, by omega⟩) :
    (dats m 0 c).arrAt 2 cfg0.N = G := by
  refine (dats m 0 c).arrAt_eq_of_covers 2 _ (by decide +kernel) fun t _ y => ?_
  blk_simp
  rw [after0_2]
  have hy0 : (y 0).val < 1024 := (y 0).isLt
  have hy1 : (y 1).val < 2048 := (y 1).isLt
  have hy : y = ix2 ⟨(y 0).val, hy0⟩ ⟨(y 1).val, hy1⟩ := by ext a; fin_cases a <;> rfl
  refine (congrArg _ hy).trans ((block_at m c t _ _).trans ?_)
  refine (hG (row t.val t.isLt ⟨(y 0).val, hy0⟩) ⟨t.val % 5 * 2048 + (y 1).val, by omega⟩).symm.trans ?_
  obtain ⟨e0, e1, e2⟩ := idx t
  blk_ext [e2, row]

end Cert.ProjIdeal.Value

end
-- ==== Proof.Proj.Ref.lean ====
/-
  The reference's result for the input projection, read at one index.
-/
module

public import proofs.«01_k».proof.Proof.Gen.ProjRefIdeal.Run
public import Idealize.ShloMosaic.Lib.Pointwise

@[expose] public section

set_option maxRecDepth 16384

noncomputable section

open Idealize.ShloMosaic Idealize.ShloMosaic.TcCoe Idealize.SL.Sem

namespace Cert.ProjRefIdeal.Value

open Cert.ProjRefIdeal Cert.ProjRefIdeal.Gen

/-- The reference's result over its arguments. -/
def whole (X : FVec Ideal S16384x2048 .f32) (W : FVec Ideal S2048x10368 .bf16) : FVec Ideal S16384x10240 .bf16 :=
  truncf .bf16 (extractStridedSlice S16384x10240 ![0, 0] (Host.dotGeneral dot_S16384x2048_S2048x10368_S16384x10368_1_0_0_1_n_n none X (extf .f32 W bitsLt_bf16_f32)) slices_S16384x10368_S16384x10240_0_0) bitsLt_bf16_f32

/-- Each element of the reference's result is a sum of products. -/
theorem whole_at (X W) (r : Fin 16384) (e : Fin 10240) :
    whole X W (ix2 r e) = ∑ k : Fin 2048, X (ix2 r k) * W (ix2 k ⟨e.val, by omega⟩) := by
  pointwise [whole]

end Cert.ProjRefIdeal.Value

end
-- ==== Proof.MOut.Norm.lean ====
/-
  The end of a layer for one row, over the extended reals: the layer norm of a row, and the gated embedding added to it.
-/
module

public import Idealize.ShloMosaic.PureOps.Ideal.Laws
public import Idealize.ShloMosaic.Lib.Pointwise

@[expose] public section

noncomputable section

open Idealize.ShloMosaic

namespace Cert.LayerEnd

/-- The mean of a row of 2048. -/
def mean (v : Fin 2048 → EReal) : EReal := Ideal.div (∑ k, v k) (Ideal.ofBits .f32 0x45000000#32)

/-- A row less its mean. -/
def centred (v : Fin 2048 → EReal) (e : Fin 2048) : EReal := v e - mean v

/-- The reciprocal root of the variance (plus the norm's epsilon). -/
def scale (v : Fin 2048 → EReal) : EReal :=
  Ideal.rsqrt (mean (fun k => centred v k * centred v k) + Ideal.ofBits .f32 0x3727C5AC#32)

/-- The layer norm of a row with its gain and bias. -/
def norm (v g b : Fin 2048 → EReal) (e : Fin 2048) : EReal := centred v e * scale v * g e + b e

/-- A row plus its embedding, gated by the row. -/
def embed (y : Fin 2048 → EReal) (p : Fin 256 → EReal) (we : Fin 256 → Fin 2048 → EReal) (wg : Fin 2048 → Fin 2048 → EReal) (e : Fin 2048) : EReal :=
  y e + (∑ k, p k * we k e) * Ideal.logistic (∑ k, y k * wg k e)

/-- The sum of the layer's input, scaled, and its branch. -/
def joined (x h : Fin 2048 → EReal) (e : Fin 2048) : EReal := Ideal.ofBits .f32 0x3FB504F3#32 * x e + h e

/-- The constant one. -/
theorem ofBits_one : Ideal.ofBits .f32 0x3F800000#32 = 1 := by
  simp [Ideal.ofBits, Ideal.ieee, -EReal.coe_mul]; norm_num

end Cert.LayerEnd

end
-- ==== Proof.MOut.Value.lean ====
/-
  The attention layer's output, block by block: each row of the result from the same row of the kernel's arguments.
-/
module

public import proofs.«01_k».proof.Proof.Gen.MOutIdeal.Value
public import proofs.«01_k».proof.Proof.MOut.Norm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MOutIdeal.Value

open Cert.MOutIdeal Cert.MOutIdeal.Gen Cert.LayerEnd

variable (m : (ℓ : Loc nD τ sig) → Buf (Elt Ideal) ℓ)

/-- The row before the norm: the scaled input plus the gated attention times its output weights. -/
def pre (o g : Fin 2048 → EReal) (x : Fin 2048 → EReal) (wo : Fin 2048 → Fin 2048 → EReal) : Fin 2048 → EReal :=
  joined x fun e => ∑ k, o k * g k * wo k e

/-- The rows of the embedding are read as they are. -/
theorem pay2_at (v9) (r : Fin 512) (e : Fin 256) : k0_pay2 (F := Ideal) v9 (ix2 r e) = v9 (ix3 0 r e) := by
  pointwise [k0_pay2]

/-- The first stage leaves the rows less their means. -/
theorem pay3_at (v0 v2 v6 v8) (r : Fin 512) (e : Fin 2048) :
    k0_pay3 (F := Ideal) v0 v2 v6 v8 (ix2 r e)
      = centred (pre (fun k => v0 (ix2 r k)) (fun k => v2 (ix2 r k)) (fun k => v8 (ix2 r k)) fun k e => v6 (ix2 k e)) e := by
  pointwise [k0_pay3, centred, mean, pre, joined]

/-- The second stage leaves each row's scale. -/
theorem pay4_at (v0 v2 v6 v8) (r : Fin 512) (e : Fin 2048) :
    k0_pay4 (F := Ideal) v0 v2 v6 v8 (ix2 r e)
      = scale (pre (fun k => v0 (ix2 r k)) (fun k => v2 (ix2 r k)) (fun k => v8 (ix2 r k)) fun k e => v6 (ix2 k e)) := by
  pointwise [k0_pay4, scale, mean, pay3_at]

/-- The stored rows: the norm's gain and bias, and the gated embedding. -/
theorem pay1_at (v10 v11 v12 v13 v14 v23 v32) (r : Fin 512) (e : Fin 2048) :
    k0_pay1 (F := Ideal) v10 v11 v12 v13 v14 v23 v32 (ix2 r e)
      = embed (fun e => v23 (ix2 r e) * v32 (ix2 r e) * v11 (ix2 0 e) + v12 (ix2 0 e)) (fun k => v10 (ix2 r k))
          (fun k e => v13 (ix2 k e)) (fun k e => v14 (ix2 k e)) e := by
  pointwise [k0_pay1, embed]

/-- One element of a row of the attention layer's output. -/
def outRow (o g x : Fin 2048 → EReal) (p : Fin 256 → EReal) (wo : Fin 2048 → Fin 2048 → EReal) (lg lb : Fin 2048 → EReal)
    (we : Fin 256 → Fin 2048 → EReal) (wg : Fin 2048 → Fin 2048 → EReal) : Fin 2048 → EReal :=
  embed (norm (pre o g x wo) lg lb) p we wg

/-- One element of the output from the arrays. -/
def outAt (O G : FVec Ideal S16384x2048 .bf16) (X : FVec Ideal S16384x2048 .f32) (P : FVec Ideal S2x16384x256 .f32)
    (WO : FVec Ideal S2048x2048 .bf16) (LG LB : FVec Ideal S1x2048 .f32) (WE : FVec Ideal S256x2048 .bf16) (WG : FVec Ideal S2048x2048 .bf16)
    (r : Fin 16384) (e : Fin 2048) : EReal :=
  outRow (fun k => O (ix2 r k)) (fun k => G (ix2 r k)) (fun k => X (ix2 r k)) (fun k => P (ix3 0 r k)) (fun k e => WO (ix2 k e))
    (fun e => LG (ix2 0 e)) (fun e => LB (ix2 0 e)) (fun k e => WE (ix2 k e)) (fun k e => WG (ix2 k e)) e

/-- What the body leaves in the output's buffer, from the blocks it reads. -/
theorem out_at (x0 x1 x2 x3 x4 x5 x6 x7 x8) (y : S512x2048.Idx) (r : Fin 512) (e : Fin 2048) (hy : y = ix2 r e) :
    out0_9 (F := Ideal) x0 x1 x2 x3 x4 x5 x6 x7 x8 y
      = outRow (fun k => x0 (ix2 r k)) (fun k => x1 (ix2 r k)) (fun k => x2 (ix2 r k)) (fun k => x3 (ix3 0 r k)) (fun k e => x4 (ix2 k e))
          (fun e => x5 (ix2 0 e)) (fun e => x6 (ix2 0 e)) (fun k e => x7 (ix2 k e)) (fun k e => x8 (ix2 k e)) e := by
  subst hy
  have h : out0_9 (F := Ideal) x0 x1 x2 x3 x4 x5 x6 x7 x8 (ix2 r e)
      = k0_pay1 (k0_pay2 x3) x5 x6 x7 x8 (k0_pay3 x0 x1 x4 x2) (k0_pay4 x0 x1 x4 x2) (ix2 r e) := by
    unfold out0_9
    frame_out
  rw [h, pay1_at]
  simp only [pay2_at, pay3_at, pay4_at]
  rfl

/-- The blocks each grid point reads and writes. -/
theorem idx : ∀ t : Fin cfg0.N, win0_0.index t = ![t.val, 0] ∧ win0_1.index t = ![t.val, 0] ∧ win0_2.index t = ![t.val, 0]
    ∧ win0_3.index t = ![0, t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The row of the arrays at row `r` of the grid point's blocks. -/
def row (t : Fin cfg0.N) (r : Fin 512) : Fin 16384 := ⟨t.val * 512 + r.val, by have h : t.val < 32 := t.isLt; omega⟩

/-- Every block read, from the kernel's arguments. -/
theorem blocks_at (c : Dev nD) (t : Fin cfg0.N) :
    (∀ r k, iblk m c 0 t (ix2 r k) = m ((c : Thread nD τ).loc main_arg0) (ix2 (row t r) k))
    ∧ (∀ r k, iblk m c 1 t (ix2 r k) = m ((c : Thread nD τ).loc main_arg1) (ix2 (row t r) k))
    ∧ (∀ r k, iblk m c 2 t (ix2 r k) = m ((c : Thread nD τ).loc main_arg2) (ix2 (row t r) k))
    ∧ (∀ r k, iblk m c 3 t (ix3 (0 : Fin 1) r k) = m ((c : Thread nD τ).loc main_arg3) (ix3 (0 : Fin 2) (row t r) k))
    ∧ (∀ k e, iblk m c 4 t (ix2 k e) = m ((c : Thread nD τ).loc main_arg4) (ix2 k e))
    ∧ (∀ e, iblk m c 5 t (ix2 (0 : Fin 1) e) = m ((c : Thread nD τ).loc main_arg5) (ix2 (0 : Fin 1) e))
    ∧ (∀ e, iblk m c 6 t (ix2 (0 : Fin 1) e) = m ((c : Thread nD τ).loc main_arg6) (ix2 (0 : Fin 1) e))
    ∧ (∀ k e, iblk m c 7 t (ix2 k e) = m ((c : Thread nD τ).loc main_arg7) (ix2 k e))
    ∧ (∀ k e, iblk m c 8 t (ix2 k e) = m ((c : Thread nD τ).loc main_arg8) (ix2 k e)) := by
  obtain ⟨e0, e1, e2, e3, e4, e5, e6, e7, e8, e9⟩ := idx t
  refine ⟨fun r k => ?_, fun r k => ?_, fun r k => ?_, fun r k => ?_, fun k e => ?_, fun e => ?_, fun e => ?_, fun k e => ?_, fun k e => ?_⟩
  · blk_ext [iblk, V, e0, row]
  · blk_ext [iblk, V, e1, row]
  · blk_ext [iblk, V, e2, row]
  · blk_ext [iblk, V, e3, row]
  · blk_ext [iblk, V, e4]
  · blk_ext [iblk, V, e5]
  · blk_ext [iblk, V, e6]
  · blk_ext [iblk, V, e7]
  · blk_ext [iblk, V, e8]

/-- The kernel's result, from any `G` which is `outAt` of the arguments at each index. -/
theorem final (c : Dev nD) (G : S16384x2048.Idx → EReal)
    (hG : ∀ (r : Fin 16384) (e : Fin 2048), G (ix2 r e) = outAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) r e) :
    (dats m 0 c).arrAt 9 cfg0.N = G := by
  refine (dats m 0 c).arrAt_eq_of_covers 9 _ (by decide +kernel) fun t _ y => ?_
  blk_simp
  rw [after0_9]
  have hy0 : (y 0).val < 512 := (y 0).isLt
  have hy1 : (y 1).val < 2048 := (y 1).isLt
  have hy : y = ix2 ⟨(y 0).val, hy0⟩ ⟨(y 1).val, hy1⟩ := by ext a; fin_cases a <;> rfl
  refine (out_at _ _ _ _ _ _ _ _ _ y _ _ hy).trans ?_
  obtain ⟨b0, b1, b2, b3, b4, b5, b6, b7, b8⟩ := blocks_at m c t
  simp only [b0, b1, b2, b3, b4, b5, b6, b7, b8]
  refine (hG (row t ⟨(y 0).val, hy0⟩) ⟨(y 1).val, hy1⟩).symm.trans ?_
  obtain ⟨e0, e1, e2, e3, e4, e5, e6, e7, e8, e9⟩ := idx t
  blk_ext [e9, row]

end Cert.MOutIdeal.Value

end
-- ==== Proof.MOut.Ref.lean ====
/-
  The reference's result for the end of the attention layer, read at one index.
-/
module

public import proofs.«01_k».proof.Proof.Gen.MOutRefIdeal.Run
public import proofs.«01_k».proof.Proof.MOut.Value

@[expose] public section

set_option maxRecDepth 16384

noncomputable section

open Idealize.ShloMosaic Idealize.ShloMosaic.TcCoe Idealize.SL.Sem

namespace Cert.MOutRefIdeal.Value

open Cert.MOutRefIdeal Cert.MOutRefIdeal.Gen Cert.LayerEnd Cert.MOutIdeal.Value

/-- The scaled input plus the branch. -/
def added (X H : FVec Ideal S16384x2048 .f32) : FVec Ideal S16384x2048 .f32 :=
  addf (mulf (broadcastInDim S16384x2048 ![] bcast_S_S16384x2048 (constant S_ .f32 0x3FB504F3#32)) X) H

/-- The branch: the gated attention times its output weights. -/
def branch (O G : FVec Ideal S16384x2048 .bf16) (WO : FVec Ideal S2048x2048 .bf16) : FVec Ideal S16384x2048 .f32 :=
  Host.dotGeneral dot_S16384x2048_S2048x2048_S16384x2048_1_0_0_1_n_n none (mulf (extf .f32 O bitsLt_bf16_f32) (extf .f32 G bitsLt_bf16_f32)) (extf .f32 WO bitsLt_bf16_f32)

/-- Each row's mean, as a column. -/
def means (V : FVec Ideal S16384x2048 .f32) : FVec Ideal S16384x1 .f32 :=
  Host.divf (broadcastInDim S16384x1 ![0] bcast_S16384_S16384x1_0 (Host.reduceAdd V (constant S_ .f32 0x00000000#32) reducesTo_S16384x2048_S16384_d1 h_S_)) (broadcastInDim S16384x1 ![] bcast_S_S16384x1 (constant S_ .f32 0x45000000#32))

/-- Each row less its mean. -/
def less (V : FVec Ideal S16384x2048 .f32) : FVec Ideal S16384x2048 .f32 :=
  subf V (broadcastInDim S16384x2048 ![0, 1] bcast_S16384x1_S16384x2048_0_1 (means V))

/-- The layer norm of rows `C` less their means, with gain and bias. -/
def normed (C : FVec Ideal S16384x2048 .f32) (LG LB : FVec Ideal S1x2048 .f32) : FVec Ideal S16384x2048 .f32 :=
  addf (mulf (mulf C (broadcastInDim S16384x2048 ![0, 1] bcast_S16384x1_S16384x2048_0_1 (Host.rsqrt (addf (means (mulf C C)) (broadcastInDim S16384x1 ![] bcast_S_S16384x1 (constant S_ .f32 0x3727C5AC#32)))))) (broadcastInDim S16384x2048 ![0, 1] bcast_S1x2048_S16384x2048_0_1 LG)) (broadcastInDim S16384x2048 ![0, 1] bcast_S1x2048_S16384x2048_0_1 LB)

/-- Rows `Y` with the embedding of rows `P`, gated. -/
def embedded (Y : FVec Ideal S16384x2048 .f32) (P : FVec Ideal S16384x256 .f32) (WE : FVec Ideal S256x2048 .bf16) (WG : FVec Ideal S2048x2048 .bf16) :
    FVec Ideal S16384x2048 .f32 :=
  addf Y (mulf (Host.dotGeneral dot_S16384x256_S256x2048_S16384x2048_1_0_0_1_n_n none P (extf .f32 WE bitsLt_bf16_f32)) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (Host.dotGeneral dot_S16384x2048_S2048x2048_S16384x2048_1_0_0_1_n_n none Y (extf .f32 WG bitsLt_bf16_f32)))))))

/-- The end of a layer, from the layer's input, its branch and one layer's rows of the embedding. -/
def layerEnd (X H : FVec Ideal S16384x2048 .f32) (P : FVec Ideal S16384x256 .f32) (LG LB : FVec Ideal S1x2048 .f32)
    (WE : FVec Ideal S256x2048 .bf16) (WG : FVec Ideal S2048x2048 .bf16) : FVec Ideal S16384x2048 .f32 :=
  embedded (normed (less (added X H)) LG LB) P WE WG

/-- The reference's result over its arguments. -/
def whole (O G : FVec Ideal S16384x2048 .bf16) (X : FVec Ideal S16384x2048 .f32) (P : FVec Ideal S2x16384x256 .f32)
    (WO : FVec Ideal S2048x2048 .bf16) (LG LB : FVec Ideal S1x2048 .f32) (WE : FVec Ideal S256x2048 .bf16) (WG : FVec Ideal S2048x2048 .bf16) :
    FVec Ideal S16384x2048 .f32 :=
  layerEnd X (branch O G WO) (shapeCast _ (extractStridedSlice S1x16384x256 ![0, 0, 0] P slices_S2x16384x256_S1x16384x256_0_0_0) shapeCasts_S1x16384x256_S16384x256) LG LB WE WG

/-- The branch, read at one index. -/
theorem branch_at (O G WO) (r : Fin 16384) (e : Fin 2048) :
    branch O G WO (ix2 r e) = ∑ k : Fin 2048, O (ix2 r k) * G (ix2 r k) * WO (ix2 k e) := by
  pointwise [branch]

/-- The scaled input plus the branch, read at one index. -/
theorem added_at (X H) (r : Fin 16384) (e : Fin 2048) :
    added X H (ix2 r e) = joined (fun k => X (ix2 r k)) (fun k => H (ix2 r k)) e := by
  pointwise [added, joined]

/-- A row's mean. -/
theorem means_at (V) (r : Fin 16384) : means V (ix2 r 0) = mean (fun k => V (ix2 r k)) := by
  pointwise [means, mean]

/-- A row less its mean, read at one index. -/
theorem less_at (V) (r : Fin 16384) (e : Fin 2048) : less V (ix2 r e) = centred (fun k => V (ix2 r k)) e := by
  pointwise [less, means_at, centred]

/-- The layer norm, read at one index. -/
theorem normed_at (C LG LB) (v : Fin 2048 → EReal) (r : Fin 16384) (hC : ∀ k, C (ix2 r k) = centred v k) (e : Fin 2048) :
    normed C LG LB (ix2 r e) = norm v (fun e => LG (ix2 0 e)) (fun e => LB (ix2 0 e)) e := by
  have h : normed C LG LB (ix2 r e) = C (ix2 r e) * Ideal.rsqrt (mean (fun k => C (ix2 r k) * C (ix2 r k)) + Ideal.ofBits .f32 0x3727C5AC#32) * LG (ix2 0 e) + LB (ix2 0 e) := by
    pointwise [normed, means_at]
  rw [h]
  simp only [hC]
  rfl

/-- The embedding added, read at one index. -/
theorem embedded_at (Y P WE WG) (r : Fin 16384) (e : Fin 2048) :
    embedded Y P WE WG (ix2 r e) = embed (fun k => Y (ix2 r k)) (fun k => P (ix2 r k)) (fun k e => WE (ix2 k e)) (fun k e => WG (ix2 k e)) e := by
  pointwise [embedded, embed, Ideal.logistic, ofBits_one]

/-- The end of a layer, read at one index. -/
theorem layerEnd_at (X H P LG LB WE WG) (r : Fin 16384) (e : Fin 2048) :
    layerEnd X H P LG LB WE WG (ix2 r e) = embed (norm (joined (fun k => X (ix2 r k)) (fun k => H (ix2 r k))) (fun e => LG (ix2 0 e)) (fun e => LB (ix2 0 e)))
      (fun k => P (ix2 r k)) (fun k e => WE (ix2 k e)) (fun k e => WG (ix2 k e)) e := by
  have h : ∀ k, normed (less (added X H)) LG LB (ix2 r k) = _ := fun k => normed_at _ LG LB (joined (fun k => X (ix2 r k)) (fun k => H (ix2 r k))) r (fun k => by
    rw [less_at]; simp only [added_at]) k
  rw [layerEnd, embedded_at]
  simp only [h]

/-- The reference's result at one index is the kernel's. -/
theorem whole_at (O G X P WO LG LB WE WG) (r : Fin 16384) (e : Fin 2048) :
    whole O G X P WO LG LB WE WG (ix2 r e) = outAt O G X P WO LG LB WE WG r e := by
  have hp : ∀ k : Fin 256, (shapeCast S16384x256 (extractStridedSlice S1x16384x256 ![0, 0, 0] P slices_S2x16384x256_S1x16384x256_0_0_0) shapeCasts_S1x16384x256_S16384x256 : FVec Ideal S16384x256 .f32) (ix2 r k) = P (ix3 0 r k) := by
    intro k
    pointwise []
  rw [whole, layerEnd_at]
  simp only [branch_at, hp]
  rfl

/-- The reference's result, as its run leaves it, is `whole` of its arguments. -/
theorem res_eq (m : (ℓ : Loc nD τ sig) → Buf (Elt Ideal) ℓ) (c : Dev nD) :
    res_main_v43 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) :=
  rfl

end Cert.MOutRefIdeal.Value

end
-- ==== Proof.SOut.Rms.lean ====
/-
  The root-mean-square norm of one row over the extended reals: the scale may be taken out of the product with the weights.
-/
module

public import proofs.«01_k».proof.Proof.Attn.Math
public import proofs.«01_k».proof.Proof.MOut.Norm

@[expose] public section

noncomputable section

open Idealize.ShloMosaic

namespace Cert.LayerEnd

/-- The gated sum of the two scans and the skip, at one channel. -/
def gated (f b x d z : Fin 4096 → EReal) (k : Fin 4096) : EReal := (f k + b k + x k * d k) * (z k * Ideal.logistic (z k))

/-- The sum of squares of a row. -/
def squares (u : Fin 4096 → EReal) : EReal := ∑ k, u k * u k

/-- The branch with the norm's scale taken out of the product. -/
def branchOut (u w : Fin 4096 → EReal) (wo : Fin 4096 → Fin 2048 → EReal) (e : Fin 2048) : EReal :=
  (∑ k, u k * w k * wo k e) * Ideal.rsqrt (squares u * Ideal.ofBits .f32 0x39800000#32 + Ideal.ofBits .f32 0x358637BD#32)

/-- The branch with the norm's scale inside the product. -/
def branchIn (u w : Fin 4096 → EReal) (wo : Fin 4096 → Fin 2048 → EReal) (e : Fin 2048) : EReal :=
  ∑ k, u k * Ideal.rsqrt (Ideal.div (squares u) (Ideal.ofBits .f32 0x45800000#32) + Ideal.ofBits .f32 0x358637BD#32) * w k * wo k e

/-- The count 4096. -/
theorem ofBits_4096 : Ideal.ofBits .f32 0x45800000#32 = ((4096 : ℝ) : EReal) := by
  simp [Ideal.ofBits, Ideal.ieee, -EReal.coe_mul]; norm_num

/-- The reciprocal of 4096. -/
theorem ofBits_inv4096 : Ideal.ofBits .f32 0x39800000#32 = ((1 / 4096 : ℝ) : EReal) := by
  simp [Ideal.ofBits, Ideal.ieee, -EReal.coe_mul]; norm_num

/-- The epsilon is a positive real. -/
theorem eps_pos : ∃ ε : ℝ, 0 < ε ∧ Ideal.ofBits .f32 0x358637BD#32 = (ε : EReal) := by
  refine ⟨8796093 / 2 ^ 43, by norm_num, ?_⟩
  simp [Ideal.ofBits, Ideal.ieee, -EReal.coe_mul]
  norm_num [← EReal.coe_mul, ← EReal.coe_div]

/-- The square of an extended real is not negative. -/
theorem square_nonneg (x : EReal) : 0 ≤ x * x := by
  rw [EReal.mul_nonneg_iff]
  rcases le_total 0 x with h | h
  · exact .inl ⟨h, h⟩
  · exact .inr ⟨h, h⟩

/-- The reciprocal root of a positive extended real is a nonnegative real. -/
theorem rsqrt_real (x : EReal) (h : 0 < x) : ∃ r : ℝ, 0 ≤ r ∧ Ideal.rsqrt x = (r : EReal) := by
  induction x with
  | bot => exact absurd h (by simp)
  | top => exact ⟨0, le_refl _, rfl⟩
  | coe y =>
    have hy : 0 < y := by exact_mod_cast h
    refine ⟨(Real.sqrt y)⁻¹, by positivity, ?_⟩
    show (if y < 0 then ⊥ else if y = 0 then ⊤ else (((Real.sqrt y)⁻¹ : ℝ) : EReal)) = _
    rw [if_neg (not_lt.mpr hy.le), if_neg hy.ne']

/-- The scale of a row may be applied before the product with the weights or after it. -/
theorem branch_eq (u w : Fin 4096 → EReal) (wo : Fin 4096 → Fin 2048 → EReal) (e : Fin 2048) : branchIn u w wo e = branchOut u w wo e := by
  have hs : 0 ≤ squares u := Finset.sum_nonneg fun k _ => square_nonneg (u k)
  have hd : Ideal.div (squares u) (Ideal.ofBits .f32 0x45800000#32) = squares u * Ideal.ofBits .f32 0x39800000#32 := by
    rw [ofBits_4096, ofBits_inv4096, Ideal.div, if_neg (by norm_num), ← EReal.coe_inv]
    norm_num
  obtain ⟨ε, hε, he⟩ := eps_pos
  obtain ⟨r, hr, hq⟩ := rsqrt_real (squares u * Ideal.ofBits .f32 0x39800000#32 + Ideal.ofBits .f32 0x358637BD#32) (by
    rw [he, ofBits_inv4096]
    exact lt_of_lt_of_le (by exact_mod_cast hε : (0 : EReal) < (ε : EReal)) (le_add_of_nonneg_left (EReal.mul_nonneg hs (by exact_mod_cast (by norm_num : (0 : ℝ) ≤ 1 / 4096)))))
  unfold branchIn branchOut
  rw [hd, hq, mul_comm _ (r : EReal), Attention.coe_mul_sum _ r hr]
  refine Finset.sum_congr rfl fun k _ => ?_
  rw [mul_comm (u k) (r : EReal), mul_assoc, mul_assoc, mul_assoc]

/-- A row's numbers by natural positions, zero beyond the row. -/
def nat (f : Fin 4096 → EReal) (k : ℕ) : EReal := if h : k < 4096 then f ⟨k, h⟩ else 0

/-- One more chunk of 256 in a sum. -/
theorem sum_chunk (f : Fin 4096 → EReal) (n : ℕ) (hn : n < 16) :
    ∑ k ∈ Finset.range ((n + 1) * 256), nat f k = ∑ k ∈ Finset.range (n * 256), nat f k + ∑ j : Fin 256, f ⟨n * 256 + j.val, by omega⟩ := by
  rw [Nat.succ_mul, Finset.sum_range_add, Finset.sum_range fun j => nat f (n * 256 + j)]
  refine congrArg _ (Finset.sum_congr rfl fun j _ => ?_)
  rw [nat, dif_pos (by omega)]

/-- The sixteen chunks are the row. -/
theorem sum_all (f : Fin 4096 → EReal) : ∑ k ∈ Finset.range (16 * 256), nat f k = ∑ k, f k := by
  rw [Finset.sum_range]
  refine Finset.sum_congr rfl fun j _ => ?_
  rw [nat, dif_pos j.isLt]

end Cert.LayerEnd

end
-- ==== Proof.SOut.Value.lean ====
/-
  The state-space layer's output, block by block: the sixteen chunks of the gated channels, their squares and their product with the
  weights, and the end of the layer for each row.
-/
module

public import proofs.«01_k».proof.Proof.Gen.SOutIdeal.Value
public import proofs.«01_k».proof.Proof.SOut.Rms
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.SOutIdeal.Value

open Cert.SOutIdeal Cert.SOutIdeal.Gen Cert.LayerEnd

/-- Chunk `n` of the columns is inside a block of rows. -/
theorem inbA (n : ℕ) (hn : n < 16) : ∀ a, (![0, n * 256] : Fin 2 → ℕ) a + S256x256.size a ≤ S256x4096.size a := by
  intro a; fin_cases a
  · show 0 + 256 ≤ 256; omega
  · show n * 256 + 256 ≤ 4096; omega
/-- Chunk `n` is inside a row vector. -/
theorem inbR (n : ℕ) (hn : n < 16) : ∀ a, (![0, n * 256] : Fin 2 → ℕ) a + S1x256.size a ≤ S1x4096.size a := by
  intro a; fin_cases a
  · show 0 + 1 ≤ 1; omega
  · show n * 256 + 256 ≤ 4096; omega
/-- Chunk `n` of the rows is inside the weights. -/
theorem inbW (n : ℕ) (hn : n < 16) : ∀ a, (![n * 256, 0] : Fin 2 → ℕ) a + S256x2048.size a ≤ S4096x2048.size a := by
  intro a; fin_cases a
  · show n * 256 + 256 ≤ 4096; omega
  · show 0 + 2048 ≤ 2048; omega

/-- The `n`-th chunk of 256 columns of a buffer of rows. -/
def rdA (a : Memref sig .tc .vmem S256x4096 .bf16) (h : a.IsWhole) (x : Vec Ideal S256x4096 .bf16) (n : ℕ) (hn : n < 16) : Vec Ideal S256x256 .bf16 :=
  View.readAt (Elt Ideal) a.view (Rect.unit (s := S256x4096) ![0, n * 256] S256x256.size (inbA n hn)).toLoadRect (h.unread x)
/-- The `n`-th chunk of a row vector. -/
def rdR (a : Memref sig .tc .vmem S1x4096 .f32) (h : a.IsWhole) (x : Vec Ideal S1x4096 .f32) (n : ℕ) (hn : n < 16) : Vec Ideal S1x256 .f32 :=
  View.readAt (Elt Ideal) a.view (Rect.unit (s := S1x4096) ![0, n * 256] S1x256.size (inbR n hn)).toLoadRect (h.unread x)
/-- The `n`-th chunk of 256 rows of the weights. -/
def rdW (a : Memref sig .tc .vmem S4096x2048 .bf16) (h : a.IsWhole) (x : Vec Ideal S4096x2048 .bf16) (n : ℕ) (hn : n < 16) : Vec Ideal S256x2048 .bf16 :=
  View.readAt (Elt Ideal) a.view (Rect.unit (s := S4096x2048) ![n * 256, 0] S256x2048.size (inbW n hn)).toLoadRect (h.unread x)

/-- A chunk of columns, read. -/
theorem rdA_at (a h x n hn) (r j : Fin 256) : rdA a h x n hn (ix2 r j) = x (ix2 r ⟨n * 256 + j.val, by omega⟩) := by
  unfold rdA
  rw [Memref.IsWhole.readAt_unread]
  exact View.ld_unit_apply_of x _ _ (inbA n hn) _ _ fun a => by fin_cases a <;> simp
/-- A chunk of a row vector, read. -/
theorem rdR_at (a h x n hn) (j : Fin 256) : rdR a h x n hn (ix2 (0 : Fin 1) j) = x (ix2 (0 : Fin 1) ⟨n * 256 + j.val, by omega⟩) := by
  unfold rdR
  rw [Memref.IsWhole.readAt_unread]
  exact View.ld_unit_apply_of x _ _ (inbR n hn) _ _ fun a => by fin_cases a <;> simp
/-- A chunk of the weights, read. -/
theorem rdW_at (a h x n hn) (k : Fin 256) (e : Fin 2048) : rdW a h x n hn (ix2 k e) = x (ix2 ⟨n * 256 + k.val, by omega⟩ e) := by
  unfold rdW
  rw [Memref.IsWhole.readAt_unread]
  exact View.ld_unit_apply_of x _ _ (inbW n hn) _ _ fun a => by fin_cases a <;> simp

section
variable (a1 : Memref sig .tc .vmem S256x4096 .bf16) (h1 : a1.IsWhole) (a2 : Memref sig .tc .vmem S256x4096 .bf16) (h2 : a2.IsWhole)
  (a3 : Memref sig .tc .vmem S256x4096 .bf16) (h3 : a3.IsWhole) (a4 : Memref sig .tc .vmem S256x4096 .bf16) (h4 : a4.IsWhole)
  (a7 : Memref sig .tc .vmem S1x4096 .f32) (h7 : a7.IsWhole) (a8 : Memref sig .tc .vmem S1x4096 .f32) (h8 : a8.IsWhole)
  (a9 : Memref sig .tc .vmem S4096x2048 .bf16) (h9 : a9.IsWhole)
  (x0 x1 x2 x3 : Vec Ideal S256x4096 .bf16) (x6 x7 : Vec Ideal S1x4096 .f32) (x8 : Vec Ideal S4096x2048 .bf16)

/-- The gated sum over the `n`-th chunk. -/
def uC (n : ℕ) (hn : n < 16) : FVec Ideal S256x256 .f32 :=
  k0_pay2 (rdA a1 h1 x0 n hn) (rdA a2 h2 x1 n hn) (rdA a3 h3 x2 n hn) (rdR a7 h7 x6 n hn) (rdA a4 h4 x3 n hn)

/-- The sum of squares over the first `n` chunks. -/
def sC : (n : ℕ) → n ≤ 16 → FVec Ideal S256x1 .f32
  | 0, _ => broadcast S256x1 (Scalar.ofBits .f32 0x00000000#32)
  | n + 1, hn => addf (sC n (by omega)) (shapeCast S256x1 (multiReduction .add [1] S256 (mulf (uC a1 h1 a2 h2 a3 h3 a4 h4 a7 h7 x0 x1 x2 x3 x6 n hn) (uC a1 h1 a2 h2 a3 h3 a4 h4 a7 h7 x0 x1 x2 x3 x6 n hn)) 0x00000000#32 reduces_S256x256_S256 (.inl rfl) rfl) shapeCasts_S256_S256x1)

/-- The product with the weights over the first `n` chunks. -/
def hC : (n : ℕ) → n ≤ 16 → FVec Ideal S256x2048 .f32
  | 0, _ => broadcast S256x2048 (Scalar.ofBits .f32 0x00000000#32)
  | n + 1, hn => addf (hC n (by omega)) (matmul dot_S256x256_S256x2048_S256x2048_1_0_0_1_n_n none (φ₂ := .bf16) (truncf .bf16 (mulf (uC a1 h1 a2 h2 a3 h3 a4 h4 a7 h7 x0 x1 x2 x3 x6 n hn) (broadcastTo S256x256 (rdR a8 h8 x7 n hn) broadcasts_S1x256_S256x256)) bitsLt_bf16_f32) (rdW a9 h9 x8 n hn) (constant S256x2048 .f32 0x00000000#32))

/-- The product, scaled. -/
def scaled (s : FVec Ideal S256x1 .f32) (h : FVec Ideal S256x2048 .f32) : FVec Ideal S256x2048 .f32 :=
  mulf h (broadcastTo S256x2048 (rsqrt (addf (mulf s (broadcast S256x1 (Scalar.ofBits .f32 0x39800000#32))) (broadcast S256x1 (Scalar.ofBits .f32 0x358637BD#32)))) broadcasts_S256x1_S256x2048)

/-- The kernel's sixteen chunks are the recursion's. -/
theorem run_branch (c : Dev nD) :
    kernelRun0_A.sl.r_35 c a1 h1 a2 h2 a3 h3 a4 h4 a7 h7 a8 h8 a9 h9 x0 x1 x2 x3 x6 x7 x8
      = scaled (sC a1 h1 a2 h2 a3 h3 a4 h4 a7 h7 x0 x1 x2 x3 x6 16 (le_refl _)) (hC a1 h1 a2 h2 a3 h3 a4 h4 a7 h7 a8 h8 a9 h9 x0 x1 x2 x3 x6 x7 x8 16 (le_refl _)) := by
  rfl

/-- The gated sum at row `r` of a block. -/
def urow (r : Fin 256) : Fin 4096 → EReal :=
  gated (fun k => x0 (ix2 r k)) (fun k => x1 (ix2 r k)) (fun k => x2 (ix2 r k)) (fun k => x6 (ix2 (0 : Fin 1) k)) (fun k => x3 (ix2 r k))

/-- A chunk of the gated sum, read. -/
theorem uC_at (n : ℕ) (hn : n < 16) (r j : Fin 256) :
    uC a1 h1 a2 h2 a3 h3 a4 h4 a7 h7 x0 x1 x2 x3 x6 n hn (ix2 r j) = urow x0 x1 x2 x3 x6 r ⟨n * 256 + j.val, by omega⟩ := by
  have h : ∀ (v2 v4 v7 v9 v13), k0_pay2 (F := Ideal) v2 v4 v7 v9 v13 (ix2 r j)
      = (v2 (ix2 r j) + v4 (ix2 r j) + v7 (ix2 r j) * v9 (ix2 (0 : Fin 1) j)) * (v13 (ix2 r j) * Ideal.logistic (v13 (ix2 r j))) := by
    intro v2 v4 v7 v9 v13
    pointwise [k0_pay2]
  rw [uC, h, rdA_at, rdA_at, rdA_at, rdA_at, rdR_at]
  rfl

/-- One chunk's squares added to a column. -/
theorem sstep_at (s : FVec Ideal S256x1 .f32) (u : FVec Ideal S256x256 .f32) (r : Fin 256) :
    addf s (shapeCast S256x1 (multiReduction .add [1] S256 (mulf u u) 0x00000000#32 reduces_S256x256_S256 (.inl rfl) rfl) shapeCasts_S256_S256x1) (ix2 r 0)
      = s (ix2 r 0) + ∑ j : Fin 256, u (ix2 r j) * u (ix2 r j) := by
  pointwise []

/-- One chunk's product added to the rows. -/
theorem hstep_at (h : FVec Ideal S256x2048 .f32) (u : FVec Ideal S256x256 .f32) (w : FVec Ideal S1x256 .f32) (wo : FVec Ideal S256x2048 .bf16) (r : Fin 256) (e : Fin 2048) :
    addf h (matmul dot_S256x256_S256x2048_S256x2048_1_0_0_1_n_n none (φ₂ := .bf16) (truncf .bf16 (mulf u (broadcastTo S256x256 w broadcasts_S1x256_S256x256)) bitsLt_bf16_f32) wo (constant S256x2048 .f32 0x00000000#32)) (ix2 r e)
      = h (ix2 r e) + ∑ j : Fin 256, u (ix2 r j) * w (ix2 (0 : Fin 1) j) * wo (ix2 j e) := by
  pointwise []

/-- The sum of squares over the first `n` chunks. -/
theorem sC_at (r : Fin 256) : ∀ (n : ℕ) (hn : n ≤ 16),
    sC a1 h1 a2 h2 a3 h3 a4 h4 a7 h7 x0 x1 x2 x3 x6 n hn (ix2 r 0)
      = ∑ k ∈ Finset.range (n * 256), nat (fun k => urow x0 x1 x2 x3 x6 r k * urow x0 x1 x2 x3 x6 r k) k
  | 0, _ => by
    simp only [Nat.zero_mul, Finset.range_zero, Finset.sum_empty]
    show Ideal.ofBits .f32 0x00000000#32 = 0
    simp [Ideal.ofBits, Ideal.ieee]
  | n + 1, hn => by
    rw [sum_chunk _ n (by omega), ← sC_at r n (by omega), sC, sstep_at]
    simp only [uC_at]

/-- The product over the first `n` chunks. -/
theorem hC_at (r : Fin 256) (e : Fin 2048) : ∀ (n : ℕ) (hn : n ≤ 16),
    hC a1 h1 a2 h2 a3 h3 a4 h4 a7 h7 a8 h8 a9 h9 x0 x1 x2 x3 x6 x7 x8 n hn (ix2 r e)
      = ∑ k ∈ Finset.range (n * 256), nat (fun k => urow x0 x1 x2 x3 x6 r k * x7 (ix2 (0 : Fin 1) k) * x8 (ix2 k e)) k
  | 0, _ => by
    simp only [Nat.zero_mul, Finset.range_zero, Finset.sum_empty]
    show Ideal.ofBits .f32 0x00000000#32 = 0
    simp [Ideal.ofBits, Ideal.ieee]
  | n + 1, hn => by
    rw [sum_chunk _ n (by omega), ← hC_at r e n (by omega), hC, hstep_at]
    simp only [uC_at, rdR_at, rdW_at]

/-- The branch of a row: the product with the weights, scaled by the reciprocal root of the mean square. -/
theorem branch_at (c : Dev nD) (r : Fin 256) (e : Fin 2048) :
    kernelRun0_A.sl.r_35 c a1 h1 a2 h2 a3 h3 a4 h4 a7 h7 a8 h8 a9 h9 x0 x1 x2 x3 x6 x7 x8 (ix2 r e)
      = branchOut (urow x0 x1 x2 x3 x6 r) (fun k => x7 (ix2 (0 : Fin 1) k)) (fun k e => x8 (ix2 k e)) e := by
  have h : ∀ (s : FVec Ideal S256x1 .f32) (h : FVec Ideal S256x2048 .f32), scaled s h (ix2 r e)
      = h (ix2 r e) * Ideal.rsqrt (s (ix2 r 0) * Ideal.ofBits .f32 0x39800000#32 + Ideal.ofBits .f32 0x358637BD#32) := by
    intro s h
    pointwise [scaled]
  rw [run_branch, h, sC_at, hC_at, sum_all, sum_all]
  rfl
end

/-- The rows' embedding is read as it is. -/
theorem pay49_at (v) (r : Fin 256) (e : Fin 256) : k0_pay49 (F := Ideal) v (ix2 r e) = v (ix3 0 r e) := by
  pointwise [k0_pay49]

/-- The layer norm of the rows and their gated embedding. -/
theorem pay1_at (v440 v441 v443 v444 v445 v446 v447) (r : Fin 256) (e : Fin 2048) :
    k0_pay1 (F := Ideal) v440 v441 v443 v444 v445 v446 v447 (ix2 r e)
      = embed (norm (joined (fun k => v441 (ix2 r k)) (fun k => v440 (ix2 r k))) (fun e => v444 (ix2 0 e)) (fun e => v445 (ix2 0 e)))
          (fun k => v443 (ix2 r k)) (fun k e => v446 (ix2 k e)) (fun k e => v447 (ix2 k e)) e := by
  pointwise [k0_pay1, embed, LayerEnd.norm, centred, scale, mean, joined]

/-- One row of the state-space layer's output. -/
def outRow (f b x z : Fin 4096 → EReal) (i : Fin 2048 → EReal) (p : Fin 256 → EReal) (d w : Fin 4096 → EReal)
    (wo : Fin 4096 → Fin 2048 → EReal) (lg lb : Fin 2048 → EReal) (we : Fin 256 → Fin 2048 → EReal) (wg : Fin 2048 → Fin 2048 → EReal) : Fin 2048 → EReal :=
  embed (norm (joined i (branchOut (gated f b x d z) w wo)) lg lb) p we wg

/-- One element of the output from the arrays. -/
def outAt (YF YB : FVec Ideal S16384x4096 .bf16) (XBC : FVec Ideal S16384x6144 .bf16) (ZX : FVec Ideal S16384x10240 .bf16) (X : FVec Ideal S16384x2048 .f32)
    (P : FVec Ideal S2x16384x256 .f32) (D W : FVec Ideal S1x4096 .f32) (WO : FVec Ideal S4096x2048 .bf16) (LG LB : FVec Ideal S1x2048 .f32)
    (WE : FVec Ideal S256x2048 .bf16) (WG : FVec Ideal S2048x2048 .bf16) (r : Fin 16384) (e : Fin 2048) : EReal :=
  outRow (fun k => YF (ix2 r k)) (fun k => YB (ix2 r k)) (fun k => XBC (ix2 r ⟨k.val, by omega⟩)) (fun k => ZX (ix2 r ⟨k.val, by omega⟩))
    (fun k => X (ix2 r k)) (fun k => P (ix3 1 r k)) (fun k => D (ix2 0 k)) (fun k => W (ix2 0 k)) (fun k e => WO (ix2 k e))
    (fun e => LG (ix2 0 e)) (fun e => LB (ix2 0 e)) (fun k e => WE (ix2 k e)) (fun k e => WG (ix2 k e)) e

/-- What the body leaves in the output's buffer, from the blocks it reads. -/
theorem out_at (c i a1 h1 a2 h2 a3 h3 a4 h4 a5 h5 a6 h6 a7 h7 a8 h8 a9 h9 a10 h10 a11 h11 a12 h12 a13 h13 a14 h14)
    (x0 x1 x2 x3 x4 x5 x6 x7 x8 x9 x10 x11 x12) (y : S256x2048.Idx) (r : Fin 256) (e : Fin 2048) (hy : y = ix2 r e) :
    out0_A_13 (F := Ideal) c i a1 h1 a2 h2 a3 h3 a4 h4 a5 h5 a6 h6 a7 h7 a8 h8 a9 h9 a10 h10 a11 h11 a12 h12 a13 h13 a14 h14 x0 x1 x2 x3 x4 x5 x6 x7 x8 x9 x10 x11 x12 y
      = outRow (fun k => x0 (ix2 r k)) (fun k => x1 (ix2 r k)) (fun k => x2 (ix2 r k)) (fun k => x3 (ix2 r k)) (fun k => x4 (ix2 r k))
          (fun k => x5 (ix3 0 r k)) (fun k => x6 (ix2 0 k)) (fun k => x7 (ix2 0 k)) (fun k e => x8 (ix2 k e))
          (fun e => x9 (ix2 0 e)) (fun e => x10 (ix2 0 e)) (fun k e => x11 (ix2 k e)) (fun k e => x12 (ix2 k e)) e := by
  subst hy
  have h : out0_A_13 (F := Ideal) c i a1 h1 a2 h2 a3 h3 a4 h4 a5 h5 a6 h6 a7 h7 a8 h8 a9 h9 a10 h10 a11 h11 a12 h12 a13 h13 a14 h14 x0 x1 x2 x3 x4 x5 x6 x7 x8 x9 x10 x11 x12 (ix2 r e)
      = k0_pay1 (kernelRun0_A.sl.r_35 c a1 h1 a2 h2 a3 h3 a4 h4 a7 h7 a8 h8 a9 h9 x0 x1 x2 x3 x6 x7 x8) x4 (k0_pay49 x5) x9 x10 x11 x12 (ix2 r e) := by
    have e5 : kernelRun0_A.sl.r_36 c a5 h5 x4 = x4 := by unfold kernelRun0_A.sl.r_36; frame_out
    have e6 : kernelRun0_A.sl.r_37 c a6 h6 x5 = k0_pay49 x5 := by unfold kernelRun0_A.sl.r_37; frame_out
    have e10 : kernelRun0_A.sl.r_38 c a10 h10 x9 = x9 := by unfold kernelRun0_A.sl.r_38; frame_out
    have e11 : kernelRun0_A.sl.r_39 c a11 h11 x10 = x10 := by unfold kernelRun0_A.sl.r_39; frame_out
    have e12 : kernelRun0_A.sl.r_40 c a12 h12 x11 = x11 := by unfold kernelRun0_A.sl.r_40; frame_out
    unfold out0_A_13
    rw [View.read_writes_junk_eq_canon]
    unfold kernelRun0_A
    dsimp only
    rw [e5, e6, e10, e11, e12]
    generalize kernelRun0_A.sl.r_35 c a1 h1 a2 h2 a3 h3 a4 h4 a7 h7 a8 h8 a9 h9 x0 x1 x2 x3 x6 x7 x8 = B
    frame_out
  rw [h, pay1_at]
  simp only [branch_at, pay49_at]
  rfl

/-- The blocks each grid point reads and writes. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![1, t.val, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![t.val, 0] :=
  (by decide +kernel : ∀ t : Fin grid0.N, _)

/-- The row of the arrays at row `r` of the grid point's blocks. -/
def row (t : Fin cfg0.N) (r : Fin 256) : Fin 16384 := ⟨t.val * 256 + r.val, by have h : t.val < 64 := t.isLt; omega⟩

variable (m : (ℓ : Loc nD τ sig) → Buf (Elt Ideal) ℓ)

/-- The blocks of rows read, from the kernel's arguments. -/
theorem rows_at (c : Dev nD) (t : Fin cfg0.N) :
    (∀ r k, iblk m c 0 t (ix2 r k) = m ((c : Thread nD τ).loc main_arg0) (ix2 (row t r) k))
    ∧ (∀ r k, iblk m c 1 t (ix2 r k) = m ((c : Thread nD τ).loc main_arg1) (ix2 (row t r) k))
    ∧ (∀ (r : Fin 256) (k : Fin 4096), X0_2 m c t (ix2 r k) = m ((c : Thread nD τ).loc main_arg2) (ix2 (row t r) (⟨k.val, by omega⟩ : Fin 6144)))
    ∧ (∀ (r : Fin 256) (k : Fin 4096), X0_3 m c t (ix2 r k) = m ((c : Thread nD τ).loc main_arg3) (ix2 (row t r) (⟨k.val, by omega⟩ : Fin 10240)))
    ∧ (∀ r k, iblk m c 4 t (ix2 r k) = m ((c : Thread nD τ).loc main_arg4) (ix2 (row t r) k))
    ∧ (∀ r k, iblk m c 5 t (ix3 (0 : Fin 1) r k) = m ((c : Thread nD τ).loc main_arg5) (ix3 (1 : Fin 2) (row t r) k)) := by
  obtain ⟨e0, e1, e2, e3, e4, e5, e⟩ := idx t
  refine ⟨fun r k => ?_, fun r k => ?_, fun r k => ?_, fun r k => ?_, fun r k => ?_, fun r k => ?_⟩
  · blk_ext [iblk, V, e0, row]
  · blk_ext [iblk, V, e1, row]
  · unfold X0_2 Pipeline.Window.fill
    rw [dif_pos (moved0_2 t _)]
    blk_ext [iblk, V, e2, row]
  · unfold X0_3 Pipeline.Window.fill
    rw [dif_pos (moved0_3 t _)]
    blk_ext [iblk, V, e3, row]
  · blk_ext [iblk, V, e4, row]
  · blk_ext [iblk, V, e5, row]

/-- The arrays read whole, from the kernel's arguments. -/
theorem arrays_at (c : Dev nD) (t : Fin cfg0.N) :
    (∀ k, iblk m c 6 t (ix2 (0 : Fin 1) k) = m ((c : Thread nD τ).loc main_arg6) (ix2 (0 : Fin 1) k))
    ∧ (∀ k, iblk m c 7 t (ix2 (0 : Fin 1) k) = m ((c : Thread nD τ).loc main_arg7) (ix2 (0 : Fin 1) k))
    ∧ (∀ k e, iblk m c 8 t (ix2 k e) = m ((c : Thread nD τ).loc main_arg8) (ix2 k e))
    ∧ (∀ e, iblk m c 9 t (ix2 (0 : Fin 1) e) = m ((c : Thread nD τ).loc main_arg9) (ix2 (0 : Fin 1) e))
    ∧ (∀ e, iblk m c 10 t (ix2 (0 : Fin 1) e) = m ((c : Thread nD τ).loc main_arg10) (ix2 (0 : Fin 1) e))
    ∧ (∀ k e, iblk m c 11 t (ix2 k e) = m ((c : Thread nD τ).loc main_arg11) (ix2 k e))
    ∧ (∀ k e, iblk m c 12 t (ix2 k e) = m ((c : Thread nD τ).loc main_arg12) (ix2 k e)) := by
  obtain ⟨e0, e1, e2, e3, e4, e5, e6, e7, e8, e9, e10, e11, e12, e13⟩ := idx t
  refine ⟨fun k => ?_, fun k => ?_, fun k e => ?_, fun e => ?_, fun e => ?_, fun k e => ?_, fun k e => ?_⟩
  · blk_ext [iblk, V, e6]
  · blk_ext [iblk, V, e7]
  · blk_ext [iblk, V, e8]
  · blk_ext [iblk, V, e9]
  · blk_ext [iblk, V, e10]
  · blk_ext [iblk, V, e11]
  · blk_ext [iblk, V, e12]

/-- The kernel's result, from any `G` which is `outAt` of the arguments at each index. -/
theorem final (c : Dev nD) (G : S16384x2048.Idx → EReal)
    (hG : ∀ (r : Fin 16384) (e : Fin 2048), G (ix2 r e) = outAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) r e) :
    (dats m 0 c).arrAt 13 cfg0.N = G := by
  refine (dats m 0 c).arrAt_eq_of_covers 13 _ (by decide +kernel) fun t _ y => ?_
  blk_simp
  rw [after0_13]
  have hy0 : (y 0).val < 256 := (y 0).isLt
  have hy1 : (y 1).val < 2048 := (y 1).isLt
  have hy : y = ix2 ⟨(y 0).val, hy0⟩ ⟨(y 1).val, hy1⟩ := by ext a; fin_cases a <;> rfl
  unfold outsAt0
  refine (out_at _ _ _ _ _ _ _ _ _ _ _ _ _ _ _ _ _ _ _ _ _ _ _ _ _ _ _ _ _ _ _ _ _ _ _ _ _ _ _ _ _ _ _ y _ _ hy).trans ?_
  obtain ⟨b0, b1, b2, b3, b4, b5⟩ := rows_at m c t
  obtain ⟨b6, b7, b8, b9, b10, b11, b12⟩ := arrays_at m c t
  simp only [b0, b1, b2, b3, b4, b5, b6, b7, b8, b9, b10, b11, b12]
  refine (hG (row t ⟨(y 0).val, hy0⟩) ⟨(y 1).val, hy1⟩).symm.trans ?_
  obtain ⟨e0, e1, e2, e3, e4, e5, e6, e7, e8, e9, e10, e11, e12, e13⟩ := idx t
  blk_ext [e13, row]

end Cert.SOutIdeal.Value

end
-- ==== Proof.SOut.Ref.lean ====
/-
  The reference's result for the end of the state-space layer, read at one index.
-/
module

public import proofs.«01_k».proof.Proof.Gen.SOutRefIdeal.Run
public import proofs.«01_k».proof.Proof.MOut.Ref
public import proofs.«01_k».proof.Proof.SOut.Value

@[expose] public section

set_option maxRecDepth 16384

noncomputable section

open Idealize.ShloMosaic Idealize.ShloMosaic.TcCoe Idealize.SL.Sem

namespace Cert.SOutRefIdeal.Value

open Cert.SOutRefIdeal Cert.SOutRefIdeal.Gen Cert.LayerEnd Cert.SOutIdeal.Value
open Cert.MOutRefIdeal.Value (layerEnd layerEnd_at)

/-- The first 4096 columns of the projection: the gate. -/
def gate (ZX : FVec Ideal S16384x10240 .bf16) : FVec Ideal S16384x4096 .f32 :=
  extf .f32 (extractStridedSlice S16384x4096 ![0, 0] ZX slices_S16384x10240_S16384x4096_0_0) bitsLt_bf16_f32

/-- The gate's silu. -/
def silu (Z : FVec Ideal S16384x4096 .f32) : FVec Ideal S16384x4096 .f32 :=
  mulf Z (Host.divf (broadcastInDim S16384x4096 ![] bcast_S_S16384x4096 (constant S_ .f32 0x3F800000#32)) (addf (broadcastInDim S16384x4096 ![] bcast_S_S16384x4096 (constant S_ .f32 0x3F800000#32)) (Host.exp (Host.negf Z))))

/-- The two scans and the skip, gated. -/
def gatedRows (YF YB : FVec Ideal S16384x4096 .bf16) (XBC : FVec Ideal S16384x6144 .bf16) (ZX : FVec Ideal S16384x10240 .bf16) (D : FVec Ideal S1x4096 .f32) :
    FVec Ideal S16384x4096 .f32 :=
  mulf (addf (addf (extf .f32 YF bitsLt_bf16_f32) (extf .f32 YB bitsLt_bf16_f32)) (mulf (extf .f32 (extractStridedSlice S16384x4096 ![0, 0] XBC slices_S16384x6144_S16384x4096_0_0) bitsLt_bf16_f32) (broadcastInDim S16384x4096 ![0, 1] bcast_S1x4096_S16384x4096_0_1 D))) (silu (gate ZX))

/-- Each row's scale: the reciprocal root of its mean square. -/
def scales (U : FVec Ideal S16384x4096 .f32) : FVec Ideal S16384x1 .f32 :=
  Host.rsqrt (addf (Host.divf (broadcastInDim S16384x1 ![0] bcast_S16384_S16384x1_0 (Host.reduceAdd (mulf U U) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))

/-- The branch: the scaled rows times the norm's weights, times the output weights. -/
def branch (U : FVec Ideal S16384x4096 .f32) (W : FVec Ideal S1x4096 .f32) (WO : FVec Ideal S4096x2048 .bf16) : FVec Ideal S16384x2048 .f32 :=
  Host.dotGeneral dot_S16384x4096_S4096x2048_S16384x2048_1_0_0_1_n_n none (mulf (mulf U (broadcastInDim S16384x4096 ![0, 1] bcast_S16384x1_S16384x4096_0_1 (scales U))) (broadcastInDim S16384x4096 ![0, 1] bcast_S1x4096_S16384x4096_0_1 W)) (extf .f32 WO bitsLt_bf16_f32)

/-- The reference's result over its arguments. -/
def whole (YF YB : FVec Ideal S16384x4096 .bf16) (XBC : FVec Ideal S16384x6144 .bf16) (ZX : FVec Ideal S16384x10240 .bf16) (X : FVec Ideal S16384x2048 .f32)
    (P : FVec Ideal S2x16384x256 .f32) (D W : FVec Ideal S1x4096 .f32) (WO : FVec Ideal S4096x2048 .bf16) (LG LB : FVec Ideal S1x2048 .f32)
    (WE : FVec Ideal S256x2048 .bf16) (WG : FVec Ideal S2048x2048 .bf16) : FVec Ideal S16384x2048 .f32 :=
  layerEnd X (branch (gatedRows YF YB XBC ZX D) W WO) (shapeCast _ (extractStridedSlice S1x16384x256 ![1, 0, 0] P slices_S2x16384x256_S1x16384x256_1_0_0) shapeCasts_S1x16384x256_S16384x256) LG LB WE WG

/-- The gate, read at one index. -/
theorem gate_at (ZX) (r : Fin 16384) (k : Fin 4096) : gate ZX (ix2 r k) = ZX (ix2 r ⟨k.val, by omega⟩) := by
  pointwise [gate]

/-- The silu, read at one index. -/
theorem silu_at (Z) (r : Fin 16384) (k : Fin 4096) : silu Z (ix2 r k) = Z (ix2 r k) * Ideal.logistic (Z (ix2 r k)) := by
  pointwise [silu, Ideal.logistic, ofBits_one]

/-- The gated rows, read at one index. -/
theorem gatedRows_at (YF YB XBC ZX D) (r : Fin 16384) (k : Fin 4096) :
    gatedRows YF YB XBC ZX D (ix2 r k) = gated (fun k => YF (ix2 r k)) (fun k => YB (ix2 r k)) (fun k => XBC (ix2 r ⟨k.val, by omega⟩)) (fun k => D (ix2 0 k)) (fun k => ZX (ix2 r ⟨k.val, by omega⟩)) k := by
  pointwise [gatedRows, silu_at, gate_at, gated]

/-- A row's scale. -/
theorem scales_at (U) (r : Fin 16384) :
    scales U (ix2 r 0) = Ideal.rsqrt (Ideal.div (squares fun k => U (ix2 r k)) (Ideal.ofBits .f32 0x45800000#32) + Ideal.ofBits .f32 0x358637BD#32) := by
  pointwise [scales, squares]

/-- The branch, read at one index, with the scale inside the product. -/
theorem branch_at (U W WO) (r : Fin 16384) (e : Fin 2048) :
    branch U W WO (ix2 r e) = branchIn (fun k => U (ix2 r k)) (fun k => W (ix2 0 k)) (fun k e => WO (ix2 k e)) e := by
  pointwise [branch, scales_at, branchIn]

/-- The reference's result at one index is the kernel's. -/
theorem whole_at (YF YB XBC ZX X P D W WO LG LB WE WG) (r : Fin 16384) (e : Fin 2048) :
    whole YF YB XBC ZX X P D W WO LG LB WE WG (ix2 r e) = outAt YF YB XBC ZX X P D W WO LG LB WE WG r e := by
  have hp : ∀ k : Fin 256, (shapeCast S16384x256 (extractStridedSlice S1x16384x256 ![1, 0, 0] P slices_S2x16384x256_S1x16384x256_1_0_0) shapeCasts_S1x16384x256_S16384x256 : FVec Ideal S16384x256 .f32) (ix2 r k) = P (ix3 1 r k) := by
    intro k
    pointwise []
  have hb : ∀ k, branch (gatedRows YF YB XBC ZX D) W WO (ix2 r k) = _ := fun k => (branch_at _ _ _ r k).trans (branch_eq _ _ _ k)
  rw [whole, layerEnd_at]
  simp only [hb, hp, gatedRows_at]
  rfl

/-- The reference's result, as its run leaves it, is `whole` of its arguments. -/
theorem res_eq (m : (ℓ : Loc nD τ sig) → Buf (Elt Ideal) ℓ) (c : Dev nD) :
    res_main_v64 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) :=
  rfl

end Cert.SOutRefIdeal.Value

end
-- ==== Proof.MIn.Tables.lean ====
/-
  What the claim's condition says of the rotary tables: where they repeat the cosines and the sines, and where they hold zeros.
-/
module

public import proofs.«01_k».proof.Defs
public import proofs.«01_k».proof.Proof.Gen.Pre_rope_tables
public import Idealize.ShloMosaic.Lib.Pointwise

@[expose] public section

set_option maxRecDepth 16384

noncomputable section

open Idealize.ShloMosaic

namespace Cert.Pre_rope_tables

open Cert.Pre_rope_tables.Gen

/-- A comparison for equality which came out true. -/
theorem eq_of_true (x y : EReal) (h : BitVec.ofBool (decide (x = y)) = 1#1) : x = y := by
  by_contra hn
  simp [hn] at h

variable (X0 : FVec Ideal S16384x2048 .f32) (X1 : FVec Ideal S2048x1152 .bf16) (X2 : FVec Ideal S2048x2048 .bf16)
  (X3 X4 : FVec Ideal S1x512 .f32) (A S B : FVec Ideal S16384x128 .f32)

/-- The cosines stand in the first 32 columns and again in the next 32. -/
theorem cos_again (h : (fn X0 X1 X2 X3 X4 A S B).1 = fun _ => 1#1) (r : Fin 16384) (j : Fin 32) :
    A (ix2 r ⟨32 + j.val, by omega⟩) = A (ix2 r ⟨j.val, by omega⟩) := by
  have := congrFun h (ix2 r j)
  pointwise [fn] at this
  exact eq_of_true _ _ this

/-- The cosines' table ends in zeros. -/
theorem cos_zero (h : (fn X0 X1 X2 X3 X4 A S B).2.1 = fun _ => 1#1) (r : Fin 16384) (j : Fin 64) :
    A (ix2 r ⟨64 + j.val, by omega⟩) = 0 := by
  have := congrFun h (ix2 r j)
  pointwise [fn] at this
  exact eq_of_true _ _ this

/-- The sines' table begins with zeros. -/
theorem sin_zero (h : (fn X0 X1 X2 X3 X4 A S B).2.2.1 = fun _ => 1#1) (r : Fin 16384) (j : Fin 32) :
    S (ix2 r ⟨j.val, by omega⟩) = 0 := by
  have := congrFun h (ix2 r j)
  pointwise [fn] at this
  exact eq_of_true _ _ this

/-- The sines' table ends in zeros. -/
theorem sin_end (h : (fn X0 X1 X2 X3 X4 A S B).2.2.2.1 = fun _ => 1#1) (r : Fin 16384) (j : Fin 64) :
    S (ix2 r ⟨64 + j.val, by omega⟩) = 0 := by
  have := congrFun h (ix2 r j)
  pointwise [fn] at this
  exact eq_of_true _ _ this

/-- The third table begins with the sines' negatives. -/
theorem sin_neg (h : (fn X0 X1 X2 X3 X4 A S B).2.2.2.2.1 = fun _ => 1#1) (r : Fin 16384) (j : Fin 32) :
    B (ix2 r ⟨j.val, by omega⟩) = -S (ix2 r ⟨32 + j.val, by omega⟩) := by
  have := congrFun h (ix2 r j)
  pointwise [fn] at this
  exact eq_of_true _ _ this

/-- The third table ends in zeros. -/
theorem neg_end (h : (fn X0 X1 X2 X3 X4 A S B).2.2.2.2.2 = fun _ => 1#1) (r : Fin 16384) (j : Fin 96) :
    B (ix2 r ⟨32 + j.val, by omega⟩) = 0 := by
  have := congrFun h (ix2 r j)
  pointwise [fn] at this
  exact eq_of_true _ _ this

end Cert.Pre_rope_tables

end
-- ==== Proof.MIn.Latent.lean ====
/-
  The attention layer's input for one row, over the extended reals: the latent product and its two norms, the rotated key, and the
  output gate.
-/
module

public import proofs.«01_k».proof.Proof.MOut.Norm

@[expose] public section

noncomputable section

open Idealize.ShloMosaic

namespace Cert.LayerStart

/-- A row of 2048 times one column of the latent weights. -/
def latent (x : Fin 2048 → EReal) (w : Fin 2048 → Fin 1152 → EReal) (j : Fin 1152) : EReal := ∑ k, x k * w k j

/-- The root-mean-square norm of a row of 512 with its gain. -/
def rms (u g : Fin 512 → EReal) (e : Fin 512) : EReal :=
  u e * Ideal.rsqrt (Ideal.div (∑ k, u k * u k) (Ideal.ofBits .f32 0x44000000#32) + Ideal.ofBits .f32 0x358637BD#32) * g e

/-- The output gate: a product passed through `z ↦ z * logistic z`. -/
def gate (x : Fin 2048 → EReal) (w : Fin 2048 → Fin 2048 → EReal) (e : Fin 2048) : EReal :=
  (∑ k, x k * w k e) * Ideal.logistic (∑ k, x k * w k e)

/-- The rotated key as three products: with the row itself, and with the row rolled by 32 and by 96 columns. -/
def rolled (u a s b : Fin 128 → EReal) (j : Fin 128) : EReal := u j * a j + u (j - 32) * s j + u (j - 96) * b j

/-- The rotated key as the rotation of two halves of 32 columns by the angles' cosines and sines, with zeros after them. -/
def rotated (u : Fin 128 → EReal) (c s : Fin 32 → EReal) (j : Fin 128) : EReal :=
  if h : j.val < 32 then u ⟨j.val, j.isLt⟩ * c ⟨j.val, h⟩ - u ⟨32 + j.val, by omega⟩ * s ⟨j.val, h⟩
  else if h : j.val - 32 < 32 then u ⟨32 + (j.val - 32), by omega⟩ * c ⟨j.val - 32, h⟩ + u ⟨j.val - 32, by omega⟩ * s ⟨j.val - 32, h⟩
  else 0

/-- With tables that hold the cosines twice, the sines in the second 32 columns of one table and their negatives in the first 32 of the
    other, and zeros elsewhere, the three products are the rotation of two halves. -/
theorem rolled_eq (u a s b : Fin 128 → EReal) (c n : Fin 32 → EReal)
    (ha0 : ∀ j : Fin 32, a ⟨j.val, by omega⟩ = c j) (ha1 : ∀ j : Fin 32, a ⟨32 + j.val, by omega⟩ = c j)
    (ha2 : ∀ j : Fin 64, a ⟨64 + j.val, by omega⟩ = 0)
    (hs0 : ∀ j : Fin 32, s ⟨j.val, by omega⟩ = 0) (hs1 : ∀ j : Fin 32, s ⟨32 + j.val, by omega⟩ = n j)
    (hs2 : ∀ j : Fin 64, s ⟨64 + j.val, by omega⟩ = 0)
    (hb0 : ∀ j : Fin 32, b ⟨j.val, by omega⟩ = -n j) (hb1 : ∀ j : Fin 96, b ⟨32 + j.val, by omega⟩ = 0) (j : Fin 128) :
    rolled u a s b j = rotated u c n j := by
  unfold rolled rotated
  by_cases h : j.val < 32
  · have e0 : a j = c ⟨j.val, h⟩ := ha0 ⟨j.val, h⟩
    have e1 : s j = 0 := hs0 ⟨j.val, h⟩
    have e2 : b j = -n ⟨j.val, h⟩ := hb0 ⟨j.val, h⟩
    have e3 : j - 96 = ⟨32 + j.val, by omega⟩ := by ext; simp [Fin.sub_def]; omega
    rw [dif_pos h, e0, e1, e2, e3, mul_zero, add_zero, mul_neg]
    rfl
  · by_cases h' : j.val - 32 < 32
    · have e0 : a j = c ⟨j.val - 32, by omega⟩ := by
        rw [← ha1]; congr 1; ext; simp; omega
      have e1 : s j = n ⟨j.val - 32, by omega⟩ := by
        rw [← hs1]; congr 1; ext; simp; omega
      have e2 : b j = 0 := by
        rw [← hb1 ⟨j.val - 32, by omega⟩]; congr 1; ext; simp; omega
      have e3 : j - 32 = ⟨j.val - 32, by omega⟩ := by ext; simp [Fin.sub_def]; omega
      have e4 : (⟨32 + (j.val - 32), by omega⟩ : Fin 128) = j := by ext; simp; omega
      rw [dif_neg h, dif_pos h', e0, e1, e2, e3, e4, mul_zero, add_zero]
    · have e0 : a j = 0 := by
        rw [← ha2 ⟨j.val - 64, by omega⟩]; congr 1; ext; simp; omega
      have e1 : s j = 0 := by
        rw [← hs2 ⟨j.val - 64, by omega⟩]; congr 1; ext; simp; omega
      have e2 : b j = 0 := by
        rw [← hb1 ⟨j.val - 32, by omega⟩]; congr 1; ext; simp; omega
      rw [dif_neg h, dif_neg h', e0, e1, e2]
      simp

end Cert.LayerStart

end
-- ==== Proof.MIn.Value.lean ====
/-
  The attention layer's input, block by block: each row of the four results from the same row of the kernel's arguments.
-/
module

public import proofs.«01_k».proof.Proof.Gen.MInIdeal.Value
public import proofs.«01_k».proof.Proof.MIn.Latent
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MInIdeal.Value

open Cert.MInIdeal Cert.MInIdeal.Gen Cert.LayerStart

variable (m : (ℓ : Loc nD τ sig) → Buf (Elt Ideal) ℓ)

/-- The first 512 columns of the latent row: the queries' part. -/
def lq (x : Fin 2048 → EReal) (w : Fin 2048 → Fin 1152 → EReal) (e : Fin 512) : EReal := latent x w ⟨e.val, by omega⟩

/-- The next 512 columns: the part of the keys and values. -/
def lkv (x : Fin 2048 → EReal) (w : Fin 2048 → Fin 1152 → EReal) (e : Fin 512) : EReal := latent x w ⟨512 + e.val, by omega⟩

/-- The last 128 columns: the key to be rotated. -/
def lr (x : Fin 2048 → EReal) (w : Fin 2048 → Fin 1152 → EReal) (e : Fin 128) : EReal := latent x w ⟨1024 + e.val, by omega⟩

/-- The latent product, read at one index. -/
theorem pay4_at (v0 v2) (r : Fin 512) (j : Fin 1152) :
    k0_pay4 (F := Ideal) v0 v2 (ix2 r j) = latent (fun k => v0 (ix2 r k)) (fun k e => v2 (ix2 k e)) j := by
  pointwise [k0_pay4, k0_pay3, latent]

/-- The first stored block: the queries' latent rows, normed and transposed. -/
theorem pay5_at (v0 v2 v5) (e : Fin 512) (r : Fin 512) :
    k0_pay5 (F := Ideal) v0 v2 v5 (ix2 e r) = rms (lq (fun k => v0 (ix2 r k)) fun k e => v2 (ix2 k e)) (fun e => v5 (ix2 0 e)) e := by
  pointwise [k0_pay5, pay4_at, rms, lq]

/-- The second stored block: the keys' and values' latent rows, normed. -/
theorem pay6_at (v0 v2 v22) (r : Fin 512) (e : Fin 512) :
    k0_pay6 (F := Ideal) v0 v2 v22 (ix2 r e) = rms (lkv (fun k => v0 (ix2 r k)) fun k e => v2 (ix2 k e)) (fun e => v22 (ix2 0 e)) e := by
  pointwise [k0_pay6, pay4_at, rms, lkv]

/-- The columns to be rotated. -/
theorem pay7_at (v0 v2) (r : Fin 512) (j : Fin 128) :
    k0_pay7 (F := Ideal) v0 v2 (ix2 r j) = lr (fun k => v0 (ix2 r k)) (fun k e => v2 (ix2 k e)) j := by
  pointwise [k0_pay7, pay4_at, lr]

/-- The third stored block: the rotated key as three products. -/
theorem pay1_at (v37 v38 v39 v40) (r : Fin 512) (j : Fin 128) :
    k0_pay1 (F := Ideal) v37 v38 v39 v40 (ix2 r j)
      = rolled (fun j => v37 (ix2 r j)) (fun j => v38 (ix2 r j)) (fun j => v39 (ix2 r j)) (fun j => v40 (ix2 r j)) j := by
  have h32 : j - 32 = ⟨(j.val + 128 - 32) % 128, Nat.mod_lt _ (by decide)⟩ := by ext; simp [Fin.sub_def]; omega
  have h96 : j - 96 = ⟨(j.val + 128 - 96) % 128, Nat.mod_lt _ (by decide)⟩ := by ext; simp [Fin.sub_def]; omega
  unfold rolled
  rw [h32, h96]
  pointwise [k0_pay1]

/-- The fourth stored block: the output gate. -/
theorem pay2_at (v0 v50) (r : Fin 512) (e : Fin 2048) :
    k0_pay2 (F := Ideal) (k0_pay3 v0) v50 (ix2 r e) = gate (fun k => v0 (ix2 r k)) (fun k e => v50 (ix2 k e)) e := by
  pointwise [k0_pay2, k0_pay3, gate]

/-- The blocks each grid point reads and writes. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![0, t.val] ∧ win0_9.index t = ![t.val, 0] ∧ win0_10.index t = ![t.val, 0]
    ∧ win0_11.index t = ![t.val, 0] :=
  (by decide +kernel : ∀ t : Fin grid0.N, _)

/-- The row of the arrays at row `r` of the grid point's blocks. -/
def row (t : Fin cfg0.N) (r : Fin 512) : Fin 16384 := ⟨t.val * 512 + r.val, by have h : t.val < 32 := t.isLt; omega⟩

/-- Every block read, from the kernel's arguments. -/
theorem blocks_at (c : Dev nD) (t : Fin cfg0.N) :
    (∀ r k, iblk m c 0 t (ix2 r k) = m ((c : Thread nD τ).loc main_arg0) (ix2 (row t r) k))
    ∧ (∀ k e, iblk m c 1 t (ix2 k e) = m ((c : Thread nD τ).loc main_arg1) (ix2 k e))
    ∧ (∀ k e, iblk m c 2 t (ix2 k e) = m ((c : Thread nD τ).loc main_arg2) (ix2 k e))
    ∧ (∀ e, iblk m c 3 t (ix2 (0 : Fin 1) e) = m ((c : Thread nD τ).loc main_arg3) (ix2 (0 : Fin 1) e))
    ∧ (∀ e, iblk m c 4 t (ix2 (0 : Fin 1) e) = m ((c : Thread nD τ).loc main_arg4) (ix2 (0 : Fin 1) e))
    ∧ (∀ r k, iblk m c 5 t (ix2 r k) = m ((c : Thread nD τ).loc main_arg5) (ix2 (row t r) k))
    ∧ (∀ r k, iblk m c 6 t (ix2 r k) = m ((c : Thread nD τ).loc main_arg6) (ix2 (row t r) k))
    ∧ (∀ r k, iblk m c 7 t (ix2 r k) = m ((c : Thread nD τ).loc main_arg7) (ix2 (row t r) k)) := by
  obtain ⟨e0, e1, e2, e3, e4, e5, e6, e7, e8, e9, e10, e11⟩ := idx t
  refine ⟨fun r k => ?_, fun k e => ?_, fun k e => ?_, fun e => ?_, fun e => ?_, fun r k => ?_, fun r k => ?_, fun r k => ?_⟩
  · blk_ext [iblk, V, e0, row]
  · blk_ext [iblk, V, e1]
  · blk_ext [iblk, V, e2]
  · blk_ext [iblk, V, e3]
  · blk_ext [iblk, V, e4]
  · blk_ext [iblk, V, e5, row]
  · blk_ext [iblk, V, e6, row]
  · blk_ext [iblk, V, e7, row]

/-- One element of the queries' latent rows from the arrays. -/
def cqAt (X : FVec Ideal S16384x2048 .f32) (W : FVec Ideal S2048x1152 .bf16) (G : FVec Ideal S1x512 .f32) (r : Fin 16384) (e : Fin 512) : EReal :=
  rms (lq (fun k => X (ix2 r k)) fun k e => W (ix2 k e)) (fun e => G (ix2 0 e)) e

/-- One element of the keys' and values' latent rows from the arrays. -/
def ckvAt (X : FVec Ideal S16384x2048 .f32) (W : FVec Ideal S2048x1152 .bf16) (G : FVec Ideal S1x512 .f32) (r : Fin 16384) (e : Fin 512) : EReal :=
  rms (lkv (fun k => X (ix2 r k)) fun k e => W (ix2 k e)) (fun e => G (ix2 0 e)) e

/-- One element of the rotated key from the arrays. -/
def krAt (X : FVec Ideal S16384x2048 .f32) (W : FVec Ideal S2048x1152 .bf16) (A S B : FVec Ideal S16384x128 .f32) (r : Fin 16384) (j : Fin 128) : EReal :=
  rolled (lr (fun k => X (ix2 r k)) fun k e => W (ix2 k e)) (fun j => A (ix2 r j)) (fun j => S (ix2 r j)) (fun j => B (ix2 r j)) j

/-- One element of the output gate from the arrays. -/
def gateAt (X : FVec Ideal S16384x2048 .f32) (W : FVec Ideal S2048x2048 .bf16) (r : Fin 16384) (e : Fin 2048) : EReal :=
  gate (fun k => X (ix2 r k)) (fun k e => W (ix2 k e)) e

/-- What the body leaves in the first result's buffer. -/
theorem out8_at (x0 x1 x2 x3 x4 x5 x6 x7) (y : S512x512.Idx) (e r : Fin 512) (hy : y = ix2 e r) :
    out0_8 (F := Ideal) x0 x1 x2 x3 x4 x5 x6 x7 y = rms (lq (fun k => x0 (ix2 r k)) fun k e => x1 (ix2 k e)) (fun e => x3 (ix2 0 e)) e := by
  subst hy
  have h : out0_8 (F := Ideal) x0 x1 x2 x3 x4 x5 x6 x7 (ix2 e r) = k0_pay5 x0 x1 x3 (ix2 e r) := by
    unfold out0_8
    frame_out
  rw [h, pay5_at]

/-- What the body leaves in the second result's buffer. -/
theorem out9_at (x0 x1 x2 x3 x4 x5 x6 x7) (y : S512x512.Idx) (r e : Fin 512) (hy : y = ix2 r e) :
    out0_9 (F := Ideal) x0 x1 x2 x3 x4 x5 x6 x7 y = rms (lkv (fun k => x0 (ix2 r k)) fun k e => x1 (ix2 k e)) (fun e => x4 (ix2 0 e)) e := by
  subst hy
  have h : out0_9 (F := Ideal) x0 x1 x2 x3 x4 x5 x6 x7 (ix2 r e) = k0_pay6 x0 x1 x4 (ix2 r e) := by
    unfold out0_9
    frame_out
  rw [h, pay6_at]

/-- What the body leaves in the third result's buffer. -/
theorem out10_at (x0 x1 x2 x3 x4 x5 x6 x7) (y : S512x128.Idx) (r : Fin 512) (j : Fin 128) (hy : y = ix2 r j) :
    out0_10 (F := Ideal) x0 x1 x2 x3 x4 x5 x6 x7 y = rolled (lr (fun k => x0 (ix2 r k)) fun k e => x1 (ix2 k e))
      (fun j => x5 (ix2 r j)) (fun j => x6 (ix2 r j)) (fun j => x7 (ix2 r j)) j := by
  subst hy
  have h : out0_10 (F := Ideal) x0 x1 x2 x3 x4 x5 x6 x7 (ix2 r j) = k0_pay1 (k0_pay7 x0 x1) x5 x6 x7 (ix2 r j) := by
    unfold out0_10
    frame_out
  rw [h, pay1_at]
  simp only [pay7_at]

/-- What the body leaves in the fourth result's buffer. -/
theorem out11_at (x0 x1 x2 x3 x4 x5 x6 x7) (y : S512x2048.Idx) (r : Fin 512) (e : Fin 2048) (hy : y = ix2 r e) :
    out0_11 (F := Ideal) x0 x1 x2 x3 x4 x5 x6 x7 y = gate (fun k => x0 (ix2 r k)) (fun k e => x2 (ix2 k e)) e := by
  subst hy
  have h : out0_11 (F := Ideal) x0 x1 x2 x3 x4 x5 x6 x7 (ix2 r e) = k0_pay2 (k0_pay3 x0) x2 (ix2 r e) := by
    unfold out0_11
    frame_out
  rw [h, pay2_at]

/-- The first result, from any `G` which is `cqAt` of the arguments, transposed, at each index. -/
theorem final8 (c : Dev nD) (G : S512x16384.Idx → EReal)
    (hG : ∀ (e : Fin 512) (r : Fin 16384), G (ix2 e r) = cqAt (m ((c : Thread nD τ).loc main_arg0)) (m ((c : Thread nD τ).loc main_arg1))
      (m ((c : Thread nD τ).loc main_arg3)) r e) :
    (dats m 0 c).arrAt 8 cfg0.N = G := by
  refine (dats m 0 c).arrAt_eq_of_covers 8 _ (by decide +kernel) fun t _ y => ?_
  blk_simp
  rw [after0_8]
  have hy0 : (y 0).val < 512 := (y 0).isLt
  have hy1 : (y 1).val < 512 := (y 1).isLt
  have hy : y = ix2 ⟨(y 0).val, hy0⟩ ⟨(y 1).val, hy1⟩ := by ext a; fin_cases a <;> rfl
  refine (out8_at _ _ _ _ _ _ _ _ y _ _ hy).trans ?_
  obtain ⟨b0, b1, b2, b3, b4, b5, b6, b7⟩ := blocks_at m c t
  simp only [b0, b1, b3]
  refine (hG ⟨(y 0).val, hy0⟩ (row t ⟨(y 1).val, hy1⟩)).symm.trans ?_
  obtain ⟨e0, e1, e2, e3, e4, e5, e6, e7, e8, e9, e10, e11⟩ := idx t
  blk_ext [e8, row]

/-- The second result, from any `G` which is `ckvAt` of the arguments at each index. -/
theorem final9 (c : Dev nD) (G : S16384x512.Idx → EReal)
    (hG : ∀ (r : Fin 16384) (e : Fin 512), G (ix2 r e) = ckvAt (m ((c : Thread nD τ).loc main_arg0)) (m ((c : Thread nD τ).loc main_arg1))
      (m ((c : Thread nD τ).loc main_arg4)) r e) :
    (dats m 0 c).arrAt 9 cfg0.N = G := by
  refine (dats m 0 c).arrAt_eq_of_covers 9 _ (by decide +kernel) fun t _ y => ?_
  blk_simp
  rw [after0_9]
  have hy0 : (y 0).val < 512 := (y 0).isLt
  have hy1 : (y 1).val < 512 := (y 1).isLt
  have hy : y = ix2 ⟨(y 0).val, hy0⟩ ⟨(y 1).val, hy1⟩ := by ext a; fin_cases a <;> rfl
  refine (out9_at _ _ _ _ _ _ _ _ y _ _ hy).trans ?_
  obtain ⟨b0, b1, b2, b3, b4, b5, b6, b7⟩ := blocks_at m c t
  simp only [b0, b1, b4]
  refine (hG (row t ⟨(y 0).val, hy0⟩) ⟨(y 1).val, hy1⟩).symm.trans ?_
  obtain ⟨e0, e1, e2, e3, e4, e5, e6, e7, e8, e9, e10, e11⟩ := idx t
  blk_ext [e9, row]

/-- The third result, from any `G` which is `krAt` of the arguments at each index. -/
theorem final10 (c : Dev nD) (G : S16384x128.Idx → EReal)
    (hG : ∀ (r : Fin 16384) (j : Fin 128), G (ix2 r j) = krAt (m ((c : Thread nD τ).loc main_arg0)) (m ((c : Thread nD τ).loc main_arg1))
      (m ((c : Thread nD τ).loc main_arg5)) (m ((c : Thread nD τ).loc main_arg6)) (m ((c : Thread nD τ).loc main_arg7)) r j) :
    (dats m 0 c).arrAt 10 cfg0.N = G := by
  refine (dats m 0 c).arrAt_eq_of_covers 10 _ (by decide +kernel) fun t _ y => ?_
  blk_simp
  rw [after0_10]
  have hy0 : (y 0).val < 512 := (y 0).isLt
  have hy1 : (y 1).val < 128 := (y 1).isLt
  have hy : y = ix2 ⟨(y 0).val, hy0⟩ ⟨(y 1).val, hy1⟩ := by ext a; fin_cases a <;> rfl
  refine (out10_at _ _ _ _ _ _ _ _ y _ _ hy).trans ?_
  obtain ⟨b0, b1, b2, b3, b4, b5, b6, b7⟩ := blocks_at m c t
  simp only [b0, b1, b5, b6, b7]
  refine (hG (row t ⟨(y 0).val, hy0⟩) ⟨(y 1).val, hy1⟩).symm.trans ?_
  obtain ⟨e0, e1, e2, e3, e4, e5, e6, e7, e8, e9, e10, e11⟩ := idx t
  blk_ext [e10, row]

/-- The fourth result, from any `G` which is `gateAt` of the arguments at each index. -/
theorem final11 (c : Dev nD) (G : S16384x2048.Idx → EReal)
    (hG : ∀ (r : Fin 16384) (e : Fin 2048), G (ix2 r e) = gateAt (m ((c : Thread nD τ).loc main_arg0)) (m ((c : Thread nD τ).loc main_arg2)) r e) :
    (dats m 0 c).arrAt 11 cfg0.N = G := by
  refine (dats m 0 c).arrAt_eq_of_covers 11 _ (by decide +kernel) fun t _ y => ?_
  blk_simp
  rw [after0_11]
  have hy0 : (y 0).val < 512 := (y 0).isLt
  have hy1 : (y 1).val < 2048 := (y 1).isLt
  have hy : y = ix2 ⟨(y 0).val, hy0⟩ ⟨(y 1).val, hy1⟩ := by ext a; fin_cases a <;> rfl
  refine (out11_at _ _ _ _ _ _ _ _ y _ _ hy).trans ?_
  obtain ⟨b0, b1, b2, b3, b4, b5, b6, b7⟩ := blocks_at m c t
  simp only [b0, b2]
  refine (hG (row t ⟨(y 0).val, hy0⟩) ⟨(y 1).val, hy1⟩).symm.trans ?_
  obtain ⟨e0, e1, e2, e3, e4, e5, e6, e7, e8, e9, e10, e11⟩ := idx t
  blk_ext [e11, row]

end Cert.MInIdeal.Value

end
-- ==== Proof.MIn.Ref.lean ====
/-
  The reference's results for the attention layer's input, read at one index.
-/
module

public import proofs.«01_k».proof.Proof.Gen.MInRefIdeal.Run
public import proofs.«01_k».proof.Proof.MIn.Value

@[expose] public section

set_option maxRecDepth 16384

noncomputable section

open Idealize.ShloMosaic Idealize.ShloMosaic.TcCoe Idealize.SL.Sem

namespace Cert.MInRefIdeal.Value

open Cert.MInRefIdeal Cert.MInRefIdeal.Gen Cert.LayerStart Cert.LayerEnd Cert.MInIdeal.Value

/-- The latent product. -/
def lat (X : FVec Ideal S16384x2048 .f32) (W : FVec Ideal S2048x1152 .bf16) : FVec Ideal S16384x1152 .f32 :=
  Host.dotGeneral dot_S16384x2048_S2048x1152_S16384x1152_1_0_0_1_n_n none X (extf .f32 W bitsLt_bf16_f32)

/-- The root-mean-square norm of rows of 512. -/
def normed (U : FVec Ideal S16384x512 .f32) (G : FVec Ideal S1x512 .f32) : FVec Ideal S16384x512 .f32 :=
  mulf (mulf U (broadcastInDim S16384x512 ![0, 1] bcast_S16384x1_S16384x512_0_1 (Host.rsqrt (addf (Host.divf (broadcastInDim S16384x1 ![0] bcast_S16384_S16384x1_0 (Host.reduceAdd (mulf U U) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 G)

/-- The first result: the queries' latent rows, normed and transposed. -/
def wholeQ (X : FVec Ideal S16384x2048 .f32) (W : FVec Ideal S2048x1152 .bf16) (G : FVec Ideal S1x512 .f32) : FVec Ideal S512x16384 .bf16 :=
  truncf .bf16 (transpose S512x16384 [1, 0] (normed (extractStridedSlice S16384x512 ![0, 0] (lat X W) slices_S16384x1152_S16384x512_0_0) G) transposes_S16384x512_S512x16384_1_0) bitsLt_bf16_f32

/-- The second result: the keys' and values' latent rows, normed. -/
def wholeKV (X : FVec Ideal S16384x2048 .f32) (W : FVec Ideal S2048x1152 .bf16) (G : FVec Ideal S1x512 .f32) : FVec Ideal S16384x512 .bf16 :=
  truncf .bf16 (normed (extractStridedSlice S16384x512 ![0, 512] (lat X W) slices_S16384x1152_S16384x512_0_512) G) bitsLt_bf16_f32

/-- The 64 columns to be rotated. -/
def key (X : FVec Ideal S16384x2048 .f32) (W : FVec Ideal S2048x1152 .bf16) : FVec Ideal S16384x64 .f32 :=
  extractStridedSlice S16384x64 ![0, 1024] (lat X W) slices_S16384x1152_S16384x64_0_1024

/-- The rotated halves of the columns `K`, and the zeros after them. -/
def turned (K : FVec Ideal S16384x64 .f32) (A S : FVec Ideal S16384x128 .f32) : FVec Ideal S16384x128 .f32 :=
  concatenate S16384x128 1 [⟨S16384x32, (subf (mulf (extractStridedSlice S16384x32 ![0, 0] K slices_S16384x64_S16384x32_0_0) (extractStridedSlice S16384x32 ![0, 0] A slices_S16384x128_S16384x32_0_0)) (mulf (extractStridedSlice S16384x32 ![0, 32] K slices_S16384x64_S16384x32_0_32) (extractStridedSlice S16384x32 ![0, 32] S slices_S16384x128_S16384x32_0_32)) : FVec Ideal S16384x32 .f32)⟩,
    ⟨S16384x32, (addf (mulf (extractStridedSlice S16384x32 ![0, 32] K slices_S16384x64_S16384x32_0_32) (extractStridedSlice S16384x32 ![0, 0] A slices_S16384x128_S16384x32_0_0)) (mulf (extractStridedSlice S16384x32 ![0, 0] K slices_S16384x64_S16384x32_0_0) (extractStridedSlice S16384x32 ![0, 32] S slices_S16384x128_S16384x32_0_32)) : FVec Ideal S16384x32 .f32)⟩,
    ⟨S16384x64, (broadcastInDim S16384x64 ![] bcast_S_S16384x64 (constant S_ .f32 0x00000000#32) : FVec Ideal S16384x64 .f32)⟩] concatenates_S16384x32_S16384x32_S16384x64_S16384x128_d1

/-- The third result: the rotated key. -/
def wholeR (X : FVec Ideal S16384x2048 .f32) (W : FVec Ideal S2048x1152 .bf16) (A S : FVec Ideal S16384x128 .f32) : FVec Ideal S16384x128 .bf16 :=
  truncf .bf16 (turned (key X W) A S) bitsLt_bf16_f32

/-- A product with the gate's weights. -/
def prod (X : FVec Ideal S16384x2048 .f32) (W : FVec Ideal S2048x2048 .bf16) : FVec Ideal S16384x2048 .f32 :=
  Host.dotGeneral dot_S16384x2048_S2048x2048_S16384x2048_1_0_0_1_n_n none X (extf .f32 W bitsLt_bf16_f32)

/-- The fourth result: the output gate. -/
def wholeG (X : FVec Ideal S16384x2048 .f32) (W : FVec Ideal S2048x2048 .bf16) : FVec Ideal S16384x2048 .bf16 :=
  truncf .bf16 (mulf (prod X W) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (prod X W)))))) bitsLt_bf16_f32

/-- The latent product, read at one index. -/
theorem lat_at (X W) (r : Fin 16384) (j : Fin 1152) : lat X W (ix2 r j) = latent (fun k => X (ix2 r k)) (fun k e => W (ix2 k e)) j := by
  pointwise [lat, latent]

/-- The norm, read at one index. -/
theorem normed_at (U G) (r : Fin 16384) (e : Fin 512) : normed U G (ix2 r e) = rms (fun k => U (ix2 r k)) (fun e => G (ix2 0 e)) e := by
  pointwise [normed, rms]

/-- The first result at one index is the kernel's. -/
theorem wholeQ_at (X W G) (e : Fin 512) (r : Fin 16384) : wholeQ X W G (ix2 e r) = cqAt X W G r e := by
  have h : wholeQ X W G (ix2 e r) = normed (extractStridedSlice S16384x512 ![0, 0] (lat X W) slices_S16384x1152_S16384x512_0_0) G (ix2 r e) := by
    pointwise [wholeQ]
  have hl : ∀ k : Fin 512, extractStridedSlice S16384x512 ![0, 0] (lat X W) slices_S16384x1152_S16384x512_0_0 (ix2 r k)
      = lq (fun k => X (ix2 r k)) (fun k e => W (ix2 k e)) k := by
    intro k
    pointwise [lat_at, lq]
  rw [h, normed_at]
  simp only [hl]
  rfl

/-- The second result at one index is the kernel's. -/
theorem wholeKV_at (X W G) (r : Fin 16384) (e : Fin 512) : wholeKV X W G (ix2 r e) = ckvAt X W G r e := by
  have h : wholeKV X W G (ix2 r e) = normed (extractStridedSlice S16384x512 ![0, 512] (lat X W) slices_S16384x1152_S16384x512_0_512) G (ix2 r e) := by
    pointwise [wholeKV]
  have hl : ∀ k : Fin 512, extractStridedSlice S16384x512 ![0, 512] (lat X W) slices_S16384x1152_S16384x512_0_512 (ix2 r k)
      = lkv (fun k => X (ix2 r k)) (fun k e => W (ix2 k e)) k := by
    intro k
    pointwise [lat_at, lkv]
  rw [h, normed_at]
  simp only [hl]
  rfl

/-- The product with the gate's weights, read at one index. -/
theorem prod_at (X W) (r : Fin 16384) (e : Fin 2048) : prod X W (ix2 r e) = ∑ k : Fin 2048, X (ix2 r k) * W (ix2 k e) := by
  pointwise [prod]

/-- The fourth result at one index is the kernel's. -/
theorem wholeG_at (X W) (r : Fin 16384) (e : Fin 2048) : wholeG X W (ix2 r e) = gateAt X W r e := by
  pointwise [wholeG, prod_at, gateAt, gate, Ideal.logistic, ofBits_one]

/-- The columns to be rotated, read at one index. -/
theorem key_at (X W) (r : Fin 16384) (j : Fin 64) :
    key X W (ix2 r j) = lr (fun k => X (ix2 r k)) (fun k e => W (ix2 k e)) ⟨j.val, by omega⟩ := by
  pointwise [key, lat_at, lr]

/-- The rotation, read at one index. -/
theorem turned_at (K A S) (u : Fin 128 → EReal) (r : Fin 16384) (hK : ∀ j : Fin 64, K (ix2 r j) = u ⟨j.val, by omega⟩) (j : Fin 128) :
    turned K A S (ix2 r j) = rotated u (fun k => A (ix2 r ⟨k.val, by omega⟩)) (fun k => S (ix2 r ⟨32 + k.val, by omega⟩)) j := by
  pointwise [turned, rotated, hK]

/-- The third result at one index is the rotation of the key's two halves. -/
theorem wholeR_at (X W A S) (r : Fin 16384) (j : Fin 128) :
    wholeR X W A S (ix2 r j) = rotated (lr (fun k => X (ix2 r k)) fun k e => W (ix2 k e)) (fun k => A (ix2 r ⟨k.val, by omega⟩))
      (fun k => S (ix2 r ⟨32 + k.val, by omega⟩)) j :=
  turned_at (key X W) A S _ r (key_at X W r) j

/-- With rotary tables laid out as the claim's condition says, the third result at one index is the kernel's. -/
theorem wholeR_eq (X W) (A S B : FVec Ideal S16384x128 .f32) (r : Fin 16384)
    (h0 : ∀ j : Fin 32, A (ix2 r ⟨32 + j.val, by omega⟩) = A (ix2 r ⟨j.val, by omega⟩)) (h1 : ∀ j : Fin 64, A (ix2 r ⟨64 + j.val, by omega⟩) = 0)
    (h2 : ∀ j : Fin 32, S (ix2 r ⟨j.val, by omega⟩) = 0) (h3 : ∀ j : Fin 64, S (ix2 r ⟨64 + j.val, by omega⟩) = 0)
    (h4 : ∀ j : Fin 32, B (ix2 r ⟨j.val, by omega⟩) = -S (ix2 r ⟨32 + j.val, by omega⟩)) (h5 : ∀ j : Fin 96, B (ix2 r ⟨32 + j.val, by omega⟩) = 0)
    (j : Fin 128) : wholeR X W A S (ix2 r j) = krAt X W A S B r j :=
  (wholeR_at X W A S r j).trans (rolled_eq _ (fun j => A (ix2 r j)) (fun j => S (ix2 r j)) (fun j => B (ix2 r j))
    (fun k => A (ix2 r ⟨k.val, by omega⟩)) (fun k => S (ix2 r ⟨32 + k.val, by omega⟩)) (fun _ => rfl) h0 h1 h2 (fun _ => rfl) h3 h4 h5 j).symm

end Cert.MInRefIdeal.Value

end
-- ==== Proof.Up.Heads.lean ====
/-
  One head's query row: its first 128 columns as they are, its last 64 turned by the rotary angles; and the factor that
  commutes with the turning.
-/
module

public import proofs.«01_k».proof.Proof.Attn.Math

@[expose] public section

noncomputable section

open Idealize.ShloMosaic

namespace Cert.Heads

/-- A query of 192 columns with its last 64 turned: columns 128–159 are `a·cos − b·sin`, columns 160–191 are
    `b·cos + a·sin`, with `a` and `b` the two halves of the last 64. -/
def turned (q : Fin 192 → EReal) (c s : Fin 32 → EReal) (d : Fin 192) : EReal :=
  if h : d.val < 128 then q d
  else if h2 : d.val < 160 then q ⟨128 + (d.val - 128), by omega⟩ * c ⟨d.val - 128, by omega⟩ - q ⟨160 + (d.val - 128), by omega⟩ * s ⟨d.val - 128, by omega⟩
  else q ⟨160 + (d.val - 160), by omega⟩ * c ⟨d.val - 160, by omega⟩ + q ⟨128 + (d.val - 160), by omega⟩ * s ⟨d.val - 160, by omega⟩

/-- The first 128 columns are not turned. -/
theorem turned_lo (q : Fin 192 → EReal) (c s : Fin 32 → EReal) (u : Fin 128) : turned q c s ⟨u.val, by omega⟩ = q ⟨u.val, by omega⟩ :=
  dif_pos u.isLt

/-- The first half of the turned columns. -/
theorem turned_mid (q : Fin 192 → EReal) (c s : Fin 32 → EReal) (u : Fin 32) :
    turned q c s ⟨128 + u.val, by omega⟩ = q ⟨128 + u.val, by omega⟩ * c u - q ⟨160 + u.val, by omega⟩ * s u := by
  unfold turned
  rw [dif_neg (by simp), dif_pos (by simp only; omega)]
  simp only [Nat.add_sub_cancel_left]

/-- The second half of the turned columns. -/
theorem turned_hi (q : Fin 192 → EReal) (c s : Fin 32 → EReal) (u : Fin 32) :
    turned q c s ⟨160 + u.val, by omega⟩ = q ⟨160 + u.val, by omega⟩ * c u + q ⟨128 + u.val, by omega⟩ * s u := by
  unfold turned
  rw [dif_neg (by simp only; omega), dif_neg (by simp)]
  simp only [Nat.add_sub_cancel_left]

/-- The same, each column counted from the part it lies in. -/
theorem turned_parts (q : Fin 192 → EReal) (c s : Fin 32 → EReal) (d : Fin 192) :
    turned q c s d = if h : d.val < 128 then q d
      else if h2 : d.val - 128 < 32 then q ⟨128 + (d.val - 128), by omega⟩ * c ⟨d.val - 128, by omega⟩ - q ⟨128 + (32 + (d.val - 128)), by omega⟩ * s ⟨d.val - 128, by omega⟩
      else q ⟨128 + (32 + (d.val - 128 - 32)), by omega⟩ * c ⟨d.val - 128 - 32, by omega⟩ + q ⟨128 + (d.val - 128 - 32), by omega⟩ * s ⟨d.val - 128 - 32, by omega⟩ := by
  have h1 : (d.val - 128 < 32) = (d.val < 160) := propext (by omega)
  have h2 : ∀ n, 128 + (32 + n) = 160 + n := fun n => by omega
  have h3 : d.val - 128 - 32 = d.val - 160 := by omega
  unfold turned
  simp only [h1, h2, h3]

/-- The queries' factor is a positive real. -/
theorem factor_pos : ∃ κ : ℝ, 0 < κ ∧ Ideal.ofBits .f32 0x3DD53B95#32 = (κ : EReal) := by
  refine ⟨13974421 / 2 ^ 27, by norm_num, ?_⟩
  simp [Ideal.ofBits, Ideal.ieee, -EReal.coe_mul]
  norm_num [← EReal.coe_mul, ← EReal.coe_div]

/-- Turning a multiplied row is multiplying the turned row: the factor is a positive real, which distributes over sums
    and differences of extended reals. -/
theorem turned_mul (q : Fin 192 → EReal) (c s : Fin 32 → EReal) (d : Fin 192) :
    turned (fun e => q e * Ideal.ofBits .f32 0x3DD53B95#32) c s d = turned q c s d * Ideal.ofBits .f32 0x3DD53B95#32 := by
  obtain ⟨κ, hκ, e⟩ := factor_pos
  have hn : (0 : EReal) ≤ (κ : EReal) := by exact_mod_cast hκ.le
  have ht : (κ : EReal) ≠ ⊤ := EReal.coe_ne_top κ
  have h1 : ∀ x y : EReal, x * (κ : EReal) * y = x * y * (κ : EReal) := fun x y => mul_right_comm _ _ _
  unfold turned
  simp only [e]
  split_ifs with h h2
  · rfl
  · rw [h1, h1, sub_eq_add_neg, sub_eq_add_neg, EReal.right_distrib_of_nonneg_of_ne_top hn ht, EReal.neg_mul]
  · rw [h1, h1, EReal.right_distrib_of_nonneg_of_ne_top hn ht]

end Cert.Heads

end
-- ==== Proof.Up.Value.lean ====
/-
  The up-projections, block by block: each head's query, key and value from the weights' and the latents' rows.
-/
module

public import proofs.«01_k».proof.Proof.Gen.UpIdeal.Value
public import proofs.«01_k».proof.Proof.Up.Heads
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.UpIdeal.Value

open Cert.UpIdeal Cert.UpIdeal.Gen Cert.Heads

/-! ## One head's stores -/

/-- The queries' product of one head, multiplied by the factor. -/
theorem pay3_at (v2 v4) (d : Fin 192) (t : Fin 1024) :
    k0_pay3 (F := Ideal) v2 v4 (ix2 d t) = (∑ k : Fin 512, v2 (ix3 0 d k) * v4 (ix2 k t)) * Ideal.ofBits .f32 0x3DD53B95#32 := by
  pointwise [k0_pay3]

/-- One head's query row at one column, multiplied by the factor. -/
def scaled (w : Vec Ideal S1x192x512 .bf16) (v : Vec Ideal S512x1024 .bf16) (t : Fin 1024) (d : Fin 192) : EReal :=
  (∑ k : Fin 512, w (ix3 0 d k) * v (ix2 k t)) * Ideal.ofBits .f32 0x3DD53B95#32

/-- The rows stored as they are. -/
theorem pay6_at (v2 v4) (d : Fin 128) (t : Fin 1024) :
    k0_pay6 (F := Ideal) v2 v4 (ix4 0 0 d t) = scaled v2 v4 t ⟨d.val, by omega⟩ := by
  pointwise [k0_pay6, pay3_at, scaled]

/-- The first half of the turned rows. -/
theorem pay7_at (v0 v1 v2 v4) (u : Fin 32) (t : Fin 1024) :
    k0_pay7 (F := Ideal) v0 v1 v2 v4 (ix4 0 0 u t)
      = scaled v2 v4 t ⟨128 + u.val, by omega⟩ * v0 (ix2 u t) - scaled v2 v4 t ⟨160 + u.val, by omega⟩ * v1 (ix2 u t) := by
  pointwise [k0_pay7, k0_pay4, k0_pay5, pay3_at, scaled]

/-- The second half of the turned rows. -/
theorem pay8_at (v0 v1 v2 v4) (u : Fin 32) (t : Fin 1024) :
    k0_pay8 (F := Ideal) v0 v1 v2 v4 (ix4 0 0 u t)
      = scaled v2 v4 t ⟨160 + u.val, by omega⟩ * v0 (ix2 u t) + scaled v2 v4 t ⟨128 + u.val, by omega⟩ * v1 (ix2 u t) := by
  pointwise [k0_pay8, k0_pay4, k0_pay5, pay3_at, scaled]

/-- One head's key and value columns: a row of latents against the weights. -/
def kv (v : Vec Ideal S1024x512 .bf16) (w : Vec Ideal S1x512x256 .bf16) (t : Fin 1024) (n : Fin 256) : EReal :=
  ∑ k : Fin 512, w (ix3 0 k n) * v (ix2 t k)

/-- The product of the latents and one head's weights. -/
theorem pay9_at (v29 v30) (t : Fin 1024) (n : Fin 256) : k0_pay9 (F := Ideal) v29 v30 (ix2 t n) = kv v29 v30 t n := by
  have h : k0_pay9 (F := Ideal) v29 v30 (ix2 t n) = ∑ k : Fin 512, v29 (ix2 t k) * v30 (ix3 0 k n) := by
    pointwise [k0_pay9]
  rw [h, kv]
  exact Finset.sum_congr rfl fun k _ => mul_comm _ _

/-- One head's own key columns. -/
theorem pay10_at (v29 v30) (t : Fin 1024) (n : Fin 128) : k0_pay10 (F := Ideal) v29 v30 (ix4 0 0 t n) = kv v29 v30 t ⟨n.val, by omega⟩ := by
  pointwise [k0_pay10, pay9_at]

/-- The shared key columns. -/
theorem pay11_at (v38) (t : Fin 1024) (n : Fin 64) : k0_pay11 (F := Ideal) v38 (ix4 0 0 t n) = v38 (ix2 t n) := by
  pointwise [k0_pay11]

/-- One head's values, features first. -/
theorem pay12_at (v29 v30) (n : Fin 128) (t : Fin 1024) : k0_pay12 (F := Ideal) v29 v30 (ix4 0 0 n t) = kv v29 v30 t ⟨128 + n.val, by omega⟩ := by
  pointwise [k0_pay12, pay9_at]

/-! ## What a head reads and where it stores -/

/-- Head `j`'s rows of the queries' weights lie in the block. -/
theorem inbQ (j : ℕ) (hj : j < 8) : ∀ a, (![j, 0, 0] : Fin 3 → ℕ) a + S1x192x512.size a ≤ S8x192x512.size a := by
  intro a; fin_cases a <;> simp <;> omega
/-- Head `j`'s rows of the other weights lie in the block. -/
theorem inbW (j : ℕ) (hj : j < 8) : ∀ a, (![j, 0, 0] : Fin 3 → ℕ) a + S1x512x256.size a ≤ S8x512x256.size a := by
  intro a; fin_cases a <;> simp <;> omega
/-- A head's stored query rows lie in the block. -/
theorem inb7 (j o n : ℕ) (hj : j < 8) (ho : o + n ≤ 192) :
    ∀ a, (![0, j, o, 0] : Fin 4 → ℕ) a + (![1, 1, n, 1024] : Fin 4 → ℕ) a ≤ S1x8x192x1024.size a := by
  intro a; fin_cases a <;> simp <;> omega
/-- A head's stored key columns lie in the block. -/
theorem inb8 (j o n : ℕ) (hj : j < 8) (ho : o + n ≤ 192) :
    ∀ a, (![0, j, 0, o] : Fin 4 → ℕ) a + (![1, 1, 1024, n] : Fin 4 → ℕ) a ≤ S1x8x1024x192.size a := by
  intro a; fin_cases a <;> simp <;> omega
/-- A head's stored values lie in the block. -/
theorem inb9 (j : ℕ) (hj : j < 8) :
    ∀ a, (![0, j, 0, 0] : Fin 4 → ℕ) a + (![1, 1, 128, 1024] : Fin 4 → ℕ) a ≤ S1x8x128x1024.size a := by
  intro a; fin_cases a <;> simp <;> omega

section
variable (arg3 : Memref sig .tc .vmem S512x1024 .bf16) (harg3 : arg3.IsWhole) (arg4 : Memref sig .tc .vmem S1024x512 .bf16) (harg4 : arg4.IsWhole)
  (arg5 : Memref sig .tc .vmem S1024x128 .bf16) (harg5 : arg5.IsWhole) (arg6 : Memref sig .tc .vmem S32x1024 .f32) (harg6 : arg6.IsWhole)
  (arg7 : Memref sig .tc .vmem S32x1024 .f32) (harg7 : arg7.IsWhole) (arg8 : Memref sig .tc .vmem S8x192x512 .bf16) (harg8 : arg8.IsWhole)
  (arg9 : Memref sig .tc .vmem S8x512x256 .bf16) (harg9 : arg9.IsWhole)
  (x0 : Vec Ideal S512x1024 .bf16) (x1 : Vec Ideal S1024x512 .bf16) (x2 : Vec Ideal S1024x128 .bf16) (x3 : Vec Ideal S32x1024 .f32)
  (x4 : Vec Ideal S32x1024 .f32) (x5 : Vec Ideal S8x192x512 .bf16) (x6 : Vec Ideal S8x512x256 .bf16)

/-- The queries' latents, read. -/
def rd0 : Vec Ideal S512x1024 .bf16 :=
  View.readAt (Elt Ideal) arg3.view (Rect.unit (s := S512x1024) ![0, 0] S512x1024.size inb_S512x1024_S512x1024_0_0).toLoadRect (harg3.unread x0)
/-- The latents of keys and values, read. -/
def rd1 : Vec Ideal S1024x512 .bf16 :=
  View.readAt (Elt Ideal) arg4.view (Rect.unit (s := S1024x512) ![0, 0] S1024x512.size inb_S1024x512_S1024x512_0_0).toLoadRect (harg4.unread x1)
/-- The shared key's columns, read. -/
def rd2 : Vec Ideal S1024x64 .bf16 :=
  View.readAt (Elt Ideal) arg5.view (Rect.unit (s := S1024x128) ![0, 0] S1024x64.size inb_S1024x128_S1024x64_0_0).toLoadRect (harg5.unread x2)
/-- A table of 32 rows, read. -/
def rdT (a : Memref sig .tc .vmem S32x1024 .f32) (h : a.IsWhole) (x : Vec Ideal S32x1024 .f32) : Vec Ideal S32x1024 .f32 :=
  View.readAt (Elt Ideal) a.view (Rect.unit (s := S32x1024) ![0, 0] S32x1024.size inb_S32x1024_S32x1024_0_0).toLoadRect (h.unread x)
/-- One head's weights of the queries, read. -/
def rd5 (j : ℕ) (hj : j < 8) : Vec Ideal S1x192x512 .bf16 :=
  View.readAt (Elt Ideal) arg8.view (Rect.unit (s := S8x192x512) ![j, 0, 0] S1x192x512.size (inbQ j hj)).toLoadRect (harg8.unread x5)
/-- One head's weights of keys and values, read. -/
def rd6 (j : ℕ) (hj : j < 8) : Vec Ideal S1x512x256 .bf16 :=
  View.readAt (Elt Ideal) arg9.view (Rect.unit (s := S8x512x256) ![j, 0, 0] S1x512x256.size (inbW j hj)).toLoadRect (harg9.unread x6)

/-- The queries' latents read are the block. -/
theorem rd0_at (k : Fin 512) (t : Fin 1024) : rd0 arg3 harg3 x0 (ix2 k t) = x0 (ix2 k t) := by
  unfold rd0
  rw [Memref.IsWhole.readAt_unread]
  exact View.ld_unit_apply_of x0 _ _ inb_S512x1024_S512x1024_0_0 _ _ fun a => by fin_cases a <;> simp
/-- The latents of keys and values read are the block. -/
theorem rd1_at (t : Fin 1024) (k : Fin 512) : rd1 arg4 harg4 x1 (ix2 t k) = x1 (ix2 t k) := by
  unfold rd1
  rw [Memref.IsWhole.readAt_unread]
  exact View.ld_unit_apply_of x1 _ _ inb_S1024x512_S1024x512_0_0 _ _ fun a => by fin_cases a <;> simp
/-- The shared key's columns read are the first 64. -/
theorem rd2_at (t : Fin 1024) (n : Fin 64) : rd2 arg5 harg5 x2 (ix2 t n) = x2 (ix2 t ⟨n.val, by omega⟩) := by
  unfold rd2
  rw [Memref.IsWhole.readAt_unread]
  exact View.ld_unit_apply_of x2 _ _ inb_S1024x128_S1024x64_0_0 _ _ fun a => by fin_cases a <;> simp
/-- A table read is the block. -/
theorem rdT_at (a h x) (u : Fin 32) (t : Fin 1024) : rdT a h x (ix2 u t) = x (ix2 u t) := by
  unfold rdT
  rw [Memref.IsWhole.readAt_unread]
  exact View.ld_unit_apply_of x _ _ inb_S32x1024_S32x1024_0_0 _ _ fun a => by fin_cases a <;> simp
/-- One head's weights of the queries, read at one index. -/
theorem rd5_at (j : ℕ) (hj : j < 8) (d : Fin 192) (k : Fin 512) : rd5 arg8 harg8 x5 j hj (ix3 0 d k) = x5 (ix3 ⟨j, hj⟩ d k) := by
  unfold rd5
  rw [Memref.IsWhole.readAt_unread]
  exact View.ld_unit_apply_of x5 _ _ (inbQ j hj) _ _ fun a => by fin_cases a <;> simp
/-- One head's weights of keys and values, read at one index. -/
theorem rd6_at (j : ℕ) (hj : j < 8) (k : Fin 512) (n : Fin 256) : rd6 arg9 harg9 x6 j hj (ix3 0 k n) = x6 (ix3 ⟨j, hj⟩ k n) := by
  unfold rd6
  rw [Memref.IsWhole.readAt_unread]
  exact View.ld_unit_apply_of x6 _ _ (inbW j hj) _ _ fun a => by fin_cases a <;> simp

/-- Head `j`'s three stores of query rows, the last first. -/
def head7 (j : ℕ) (hj : j < 8) : List (View.Piece (Elt Ideal) S1x8x192x1024 .bf16) :=
  [⟨Rect.unit (s := S1x8x192x1024) ![0, j, 160, 0] ![1, 1, 32, 1024] (inb7 j 160 32 hj (by omega)),
      k0_pay8 (rdT arg6 harg6 x3) (rdT arg7 harg7 x4) (rd5 arg8 harg8 x5 j hj) (rd0 arg3 harg3 x0)⟩,
    ⟨Rect.unit (s := S1x8x192x1024) ![0, j, 128, 0] ![1, 1, 32, 1024] (inb7 j 128 32 hj (by omega)),
      k0_pay7 (rdT arg6 harg6 x3) (rdT arg7 harg7 x4) (rd5 arg8 harg8 x5 j hj) (rd0 arg3 harg3 x0)⟩,
    ⟨Rect.unit (s := S1x8x192x1024) ![0, j, 0, 0] ![1, 1, 128, 1024] (inb7 j 0 128 hj (by omega)),
      k0_pay6 (rd5 arg8 harg8 x5 j hj) (rd0 arg3 harg3 x0)⟩]

/-- Head `j`'s two stores of key columns, the last first. -/
def head8 (j : ℕ) (hj : j < 8) : List (View.Piece (Elt Ideal) S1x8x1024x192 .bf16) :=
  [⟨Rect.unit (s := S1x8x1024x192) ![0, j, 0, 128] ![1, 1, 1024, 64] (inb8 j 128 64 hj (by omega)), k0_pay11 (rd2 arg5 harg5 x2)⟩,
    ⟨Rect.unit (s := S1x8x1024x192) ![0, j, 0, 0] ![1, 1, 1024, 128] (inb8 j 0 128 hj (by omega)),
      k0_pay10 (rd1 arg4 harg4 x1) (rd6 arg9 harg9 x6 j hj)⟩]

/-- Head `j`'s store of values. -/
def head9 (j : ℕ) (hj : j < 8) : List (View.Piece (Elt Ideal) S1x8x128x1024 .bf16) :=
  [⟨Rect.unit (s := S1x8x128x1024) ![0, j, 0, 0] ![1, 1, 128, 1024] (inb9 j hj),
      k0_pay12 (rd1 arg4 harg4 x1) (rd6 arg9 harg9 x6 j hj)⟩]

end

/-- The eight heads' lists, the last head's first. -/
def heads {α : Type} (f : (j : ℕ) → j < 8 → List α) : List α :=
  f 7 (by omega) ++ f 6 (by omega) ++ f 5 (by omega) ++ f 4 (by omega) ++ f 3 (by omega) ++ f 2 (by omega) ++ f 1 (by omega) ++ f 0 (by omega)

/-- What lies in the eight heads' lists lies in one head's. -/
theorem mem_heads {α : Type} (f : (j : ℕ) → j < 8 → List α) (p : α) (h : p ∈ heads f) : ∃ j hj, p ∈ f j hj := by
  simp only [heads, List.mem_append] at h
  rcases h with ((((((h | h) | h) | h) | h) | h) | h) | h <;> exact ⟨_, _, h⟩

section
variable (c : Dev nD) (i : grid0.Coords) (arg3 : Memref sig .tc .vmem S512x1024 .bf16) (harg3 : arg3.IsWhole) (arg4 : Memref sig .tc .vmem S1024x512 .bf16) (harg4 : arg4.IsWhole)
  (arg5 : Memref sig .tc .vmem S1024x128 .bf16) (harg5 : arg5.IsWhole) (arg6 : Memref sig .tc .vmem S32x1024 .f32) (harg6 : arg6.IsWhole)
  (arg7 : Memref sig .tc .vmem S32x1024 .f32) (harg7 : arg7.IsWhole) (arg8 : Memref sig .tc .vmem S8x192x512 .bf16) (harg8 : arg8.IsWhole)
  (arg9 : Memref sig .tc .vmem S8x512x256 .bf16) (harg9 : arg9.IsWhole) (arg10 : Memref sig .tc .vmem S1x8x192x1024 .bf16) (harg10 : arg10.IsWhole)
  (arg11 : Memref sig .tc .vmem S1x8x1024x192 .bf16) (harg11 : arg11.IsWhole) (arg12 : Memref sig .tc .vmem S1x8x128x1024 .bf16) (harg12 : arg12.IsWhole)
  (x0 : Vec Ideal S512x1024 .bf16) (x1 : Vec Ideal S1024x512 .bf16) (x2 : Vec Ideal S1024x128 .bf16) (x3 : Vec Ideal S32x1024 .f32)
  (x4 : Vec Ideal S32x1024 .f32) (x5 : Vec Ideal S8x192x512 .bf16) (x6 : Vec Ideal S8x512x256 .bf16)

/-- The queries' stores are the eight heads'. -/
theorem stores7 : (kernelRun0_A (F := Ideal) c i arg3 harg3 arg4 harg4 arg5 harg5 arg6 harg6 arg7 harg7 arg8 harg8 arg9 harg9 arg10 harg10 arg11 harg11 arg12 harg12 x0 x1 x2 x3 x4 x5 x6).1
    = heads (head7 arg3 harg3 arg6 harg6 arg7 harg7 arg8 harg8 x0 x3 x4 x5) := rfl
/-- The keys' stores are the eight heads'. -/
theorem stores8 : (kernelRun0_A (F := Ideal) c i arg3 harg3 arg4 harg4 arg5 harg5 arg6 harg6 arg7 harg7 arg8 harg8 arg9 harg9 arg10 harg10 arg11 harg11 arg12 harg12 x0 x1 x2 x3 x4 x5 x6).2.1
    = heads (head8 arg4 harg4 arg5 harg5 arg9 harg9 x1 x2 x6) := rfl
/-- The values' stores are the eight heads'. -/
theorem stores9 : (kernelRun0_A (F := Ideal) c i arg3 harg3 arg4 harg4 arg5 harg5 arg6 harg6 arg7 harg7 arg8 harg8 arg9 harg9 arg10 harg10 arg11 harg11 arg12 harg12 x0 x1 x2 x3 x4 x5 x6).2.2.1
    = heads (head9 arg4 harg4 arg9 harg9 x1 x6) := rfl
end

/-! ## A block's outputs -/

/-- A block's queries. -/
def qB (x0 : Vec Ideal S512x1024 .bf16) (x3 x4 : Vec Ideal S32x1024 .f32) (x5 : Vec Ideal S8x192x512 .bf16)
    (j : Fin 8) (d : Fin 192) (t : Fin 1024) : EReal :=
  turned (fun e => (∑ k : Fin 512, x5 (ix3 j e k) * x0 (ix2 k t)) * Ideal.ofBits .f32 0x3DD53B95#32) (fun u => x3 (ix2 u t)) (fun u => x4 (ix2 u t)) d

/-- A block's products of latents and weights. -/
def kvB (x1 : Vec Ideal S1024x512 .bf16) (x6 : Vec Ideal S8x512x256 .bf16) (j : Fin 8) (t : Fin 1024) (n : Fin 256) : EReal :=
  ∑ k : Fin 512, x6 (ix3 j k n) * x1 (ix2 t k)

/-- A block's keys. -/
def keyB (x1 : Vec Ideal S1024x512 .bf16) (x2 : Vec Ideal S1024x128 .bf16) (x6 : Vec Ideal S8x512x256 .bf16)
    (j : Fin 8) (t : Fin 1024) (n : Fin 192) : EReal :=
  if h : n.val < 128 then kvB x1 x6 j t ⟨n.val, by omega⟩ else x2 (ix2 t ⟨n.val - 128, by omega⟩)

section
variable (arg3 : Memref sig .tc .vmem S512x1024 .bf16) (harg3 : arg3.IsWhole) (arg4 : Memref sig .tc .vmem S1024x512 .bf16) (harg4 : arg4.IsWhole)
  (arg5 : Memref sig .tc .vmem S1024x128 .bf16) (harg5 : arg5.IsWhole) (arg6 : Memref sig .tc .vmem S32x1024 .f32) (harg6 : arg6.IsWhole)
  (arg7 : Memref sig .tc .vmem S32x1024 .f32) (harg7 : arg7.IsWhole) (arg8 : Memref sig .tc .vmem S8x192x512 .bf16) (harg8 : arg8.IsWhole)
  (arg9 : Memref sig .tc .vmem S8x512x256 .bf16) (harg9 : arg9.IsWhole)
  (x0 : Vec Ideal S512x1024 .bf16) (x1 : Vec Ideal S1024x512 .bf16) (x2 : Vec Ideal S1024x128 .bf16) (x3 : Vec Ideal S32x1024 .f32)
  (x4 : Vec Ideal S32x1024 .f32) (x5 : Vec Ideal S8x192x512 .bf16) (x6 : Vec Ideal S8x512x256 .bf16)

/-- One head's scaled query, of what the head reads. -/
theorem scaled_rd (j : ℕ) (hj : j < 8) (t : Fin 1024) (e : Fin 192) :
    scaled (rd5 arg8 harg8 x5 j hj) (rd0 arg3 harg3 x0) t e
      = (∑ k : Fin 512, x5 (ix3 ⟨j, hj⟩ e k) * x0 (ix2 k t)) * Ideal.ofBits .f32 0x3DD53B95#32 := by
  simp only [scaled, rd5_at, rd0_at]

/-- One head's products, of what the head reads. -/
theorem kv_rd (j : ℕ) (hj : j < 8) (t : Fin 1024) (n : Fin 256) :
    kv (rd1 arg4 harg4 x1) (rd6 arg9 harg9 x6 j hj) t n = kvB x1 x6 ⟨j, hj⟩ t n := by
  simp only [kv, kvB, rd1_at, rd6_at]

/-- Where one of head `j`'s stores holds an index of the queries' block, it has that index's query. -/
theorem head7_at (j : ℕ) (hj : j < 8) (y : S1x8x192x1024.Idx) (j' : Fin 8) (d : Fin 192) (t : Fin 1024) (hy : y = ix4 0 j' d t) :
    View.AllAt (head7 arg3 harg3 arg6 harg6 arg7 harg7 arg8 harg8 x0 x3 x4 x5 j hj) y (qB x0 x3 x4 x5 j' d t) := by
  have hc : ∀ (o n : ℕ) (x : (⟨4, ![1, 1, n, 1024]⟩ : Shape).Idx), (∀ a, (y a : ℕ) = (![0, j, o, 0] : Fin 4 → ℕ) a + x a) →
      j' = ⟨j, hj⟩ ∧ ∃ u : Fin n, d.val = o + u.val ∧ x = ix4 0 0 u t := by
    intro o n x hx
    subst hy
    have h0 : (x 0).val < 1 := (x 0).isLt
    have h1 := hx 1
    have h1' : (x 1).val < 1 := (x 1).isLt
    have h2 := hx 2
    have h3 := hx 3
    simp only [ix4] at h1 h2 h3
    refine ⟨Fin.ext (by simp at h1; omega), ⟨(x 2).val, (x 2).isLt⟩, by simpa using h2, ?_⟩
    ext a
    fin_cases a
    · simpa using h0
    · simpa using h1'
    · rfl
    · simp at h3 ⊢; omega
  refine View.allAt_cons_unit _ _ _ _ _ ?_ (View.allAt_cons_unit _ _ _ _ _ ?_ (View.allAt_cons_unit _ _ _ _ _ ?_ (View.allAt_nil _ _)))
  · intro x hx
    obtain ⟨rfl, u, hu, rfl⟩ := hc 160 32 x hx
    have hd : d = ⟨160 + u.val, by omega⟩ := Fin.ext hu
    rw [pay8_at, qB, hd, turned_hi]
    simp only [scaled_rd, rdT_at]
  · intro x hx
    obtain ⟨rfl, u, hu, rfl⟩ := hc 128 32 x hx
    have hd : d = ⟨128 + u.val, by omega⟩ := Fin.ext hu
    rw [pay7_at, qB, hd, turned_mid]
    simp only [scaled_rd, rdT_at]
  · intro x hx
    obtain ⟨rfl, u, hu, rfl⟩ := hc 0 128 x hx
    have hd : d = ⟨u.val, by omega⟩ := Fin.ext (by simpa using hu)
    rw [pay6_at, qB, hd, turned_lo]
    simp only [scaled_rd]

/-- Where one of head `j`'s stores holds an index of the keys' block, it has that index's key. -/
theorem head8_at (j : ℕ) (hj : j < 8) (y : S1x8x1024x192.Idx) (j' : Fin 8) (t : Fin 1024) (n : Fin 192) (hy : y = ix4 0 j' t n) :
    View.AllAt (head8 arg4 harg4 arg5 harg5 arg9 harg9 x1 x2 x6 j hj) y (keyB x1 x2 x6 j' t n) := by
  have hc : ∀ (o l : ℕ) (x : (⟨4, ![1, 1, 1024, l]⟩ : Shape).Idx), (∀ a, (y a : ℕ) = (![0, j, 0, o] : Fin 4 → ℕ) a + x a) →
      j' = ⟨j, hj⟩ ∧ ∃ u : Fin l, n.val = o + u.val ∧ x = ix4 0 0 t u := by
    intro o l x hx
    subst hy
    have h0 : (x 0).val < 1 := (x 0).isLt
    have h1 := hx 1
    have h1' : (x 1).val < 1 := (x 1).isLt
    have h2 := hx 2
    have h3 := hx 3
    simp only [ix4] at h1 h2 h3
    refine ⟨Fin.ext (by simp at h1; omega), ⟨(x 3).val, (x 3).isLt⟩, by simpa using h3, ?_⟩
    ext a
    fin_cases a
    · simpa using h0
    · simpa using h1'
    · simp at h2 ⊢; omega
    · rfl
  refine View.allAt_cons_unit _ _ _ _ _ ?_ (View.allAt_cons_unit _ _ _ _ _ ?_ (View.allAt_nil _ _))
  · intro x hx
    obtain ⟨rfl, u, hu, rfl⟩ := hc 128 64 x hx
    rw [pay11_at, rd2_at, keyB, dif_neg (by omega)]
    exact congrArg x2 (congrArg (ix2 t) (Fin.ext (by simp only; omega)))
  · intro x hx
    obtain ⟨rfl, u, hu, rfl⟩ := hc 0 128 x hx
    rw [pay10_at, kv_rd, keyB, dif_pos (by omega)]
    exact congrArg (kvB x1 x6 _ t) (Fin.ext (by simp only; omega))

/-- Where head `j`'s store holds an index of the values' block, it has that index's value. -/
theorem head9_at (j : ℕ) (hj : j < 8) (y : S1x8x128x1024.Idx) (j' : Fin 8) (n : Fin 128) (t : Fin 1024) (hy : y = ix4 0 j' n t) :
    View.AllAt (head9 arg4 harg4 arg9 harg9 x1 x6 j hj) y (kvB x1 x6 j' t ⟨128 + n.val, by omega⟩) := by
  refine View.allAt_cons_unit _ _ _ _ _ ?_ (View.allAt_nil _ _)
  intro x hx
  subst hy
  have h0 : (x 0).val < 1 := (x 0).isLt
  have h1 := hx 1
  have h1' : (x 1).val < 1 := (x 1).isLt
  have h2 := hx 2
  have h3 := hx 3
  simp only [ix4] at h1 h2 h3
  obtain rfl : j' = ⟨j, hj⟩ := Fin.ext (by simp at h1; omega)
  have hx' : x = ix4 0 0 n t := by
    ext a
    fin_cases a
    · simpa using h0
    · simpa using h1'
    · simp at h2 ⊢; omega
    · simp at h3 ⊢; omega
  subst hx'
  rw [pay12_at, kv_rd]

end

/-- What holds of each head's stores holds of all. -/
theorem allAt_heads {S : Shape} {e : EltTy} (f : (j : ℕ) → j < 8 → List (View.Piece (Elt Ideal) S e)) (y : S.Idx) (v : Elt Ideal e)
    (h : ∀ j hj, View.AllAt (f j hj) y v) : View.AllAt (heads f) y v := by
  intro p hp
  obtain ⟨j, hj, hm⟩ := mem_heads f p hp
  exact h j hj p hm

section
variable (c : Dev nD) (i : grid0.Coords) (arg3 : Memref sig .tc .vmem S512x1024 .bf16) (harg3 : arg3.IsWhole) (arg4 : Memref sig .tc .vmem S1024x512 .bf16) (harg4 : arg4.IsWhole)
  (arg5 : Memref sig .tc .vmem S1024x128 .bf16) (harg5 : arg5.IsWhole) (arg6 : Memref sig .tc .vmem S32x1024 .f32) (harg6 : arg6.IsWhole)
  (arg7 : Memref sig .tc .vmem S32x1024 .f32) (harg7 : arg7.IsWhole) (arg8 : Memref sig .tc .vmem S8x192x512 .bf16) (harg8 : arg8.IsWhole)
  (arg9 : Memref sig .tc .vmem S8x512x256 .bf16) (harg9 : arg9.IsWhole) (arg10 : Memref sig .tc .vmem S1x8x192x1024 .bf16) (harg10 : arg10.IsWhole)
  (arg11 : Memref sig .tc .vmem S1x8x1024x192 .bf16) (harg11 : arg11.IsWhole) (arg12 : Memref sig .tc .vmem S1x8x128x1024 .bf16) (harg12 : arg12.IsWhole)
  (x0 : Vec Ideal S512x1024 .bf16) (x1 : Vec Ideal S1024x512 .bf16) (x2 : Vec Ideal S1024x128 .bf16) (x3 : Vec Ideal S32x1024 .f32)
  (x4 : Vec Ideal S32x1024 .f32) (x5 : Vec Ideal S8x192x512 .bf16) (x6 : Vec Ideal S8x512x256 .bf16)

/-- The queries' block after the body. -/
theorem out7_at (y : S1x8x192x1024.Idx) (j : Fin 8) (d : Fin 192) (t : Fin 1024) (hy : y = ix4 0 j d t) :
    out0_A_7 (F := Ideal) c i arg3 harg3 arg4 harg4 arg5 harg5 arg6 harg6 arg7 harg7 arg8 harg8 arg9 harg9 arg10 harg10 arg11 harg11 arg12 harg12 x0 x1 x2 x3 x4 x5 x6 y
      = qB x0 x3 x4 x5 j d t := by
  unfold out0_A_7
  rw [View.read_writes_junk_eq_canon]
  refine View.canon_eq_of_allAt _ y _ (cover0_A_7 c i arg3 harg3 arg4 harg4 arg5 harg5 arg6 harg6 arg7 harg7 arg8 harg8 arg9 harg9 arg10 harg10 arg11 harg11 arg12 harg12 x0 x1 x2 x3 x4 x5 x6 y) ?_
  rw [stores7]
  exact allAt_heads _ y _ fun j' hj' => head7_at arg3 harg3 arg6 harg6 arg7 harg7 arg8 harg8 x0 x3 x4 x5 j' hj' y j d t hy

/-- The keys' block after the body. -/
theorem out8_at (y : S1x8x1024x192.Idx) (j : Fin 8) (t : Fin 1024) (n : Fin 192) (hy : y = ix4 0 j t n) :
    out0_A_8 (F := Ideal) c i arg3 harg3 arg4 harg4 arg5 harg5 arg6 harg6 arg7 harg7 arg8 harg8 arg9 harg9 arg10 harg10 arg11 harg11 arg12 harg12 x0 x1 x2 x3 x4 x5 x6 y
      = keyB x1 x2 x6 j t n := by
  unfold out0_A_8
  rw [View.read_writes_junk_eq_canon]
  refine View.canon_eq_of_allAt _ y _ (cover0_A_8 c i arg3 harg3 arg4 harg4 arg5 harg5 arg6 harg6 arg7 harg7 arg8 harg8 arg9 harg9 arg10 harg10 arg11 harg11 arg12 harg12 x0 x1 x2 x3 x4 x5 x6 y) ?_
  rw [stores8]
  exact allAt_heads _ y _ fun j' hj' => head8_at arg4 harg4 arg5 harg5 arg9 harg9 x1 x2 x6 j' hj' y j t n hy

/-- The values' block after the body. -/
theorem out9_at (y : S1x8x128x1024.Idx) (j : Fin 8) (n : Fin 128) (t : Fin 1024) (hy : y = ix4 0 j n t) :
    out0_A_9 (F := Ideal) c i arg3 harg3 arg4 harg4 arg5 harg5 arg6 harg6 arg7 harg7 arg8 harg8 arg9 harg9 arg10 harg10 arg11 harg11 arg12 harg12 x0 x1 x2 x3 x4 x5 x6 y
      = kvB x1 x6 j t ⟨128 + n.val, by omega⟩ := by
  unfold out0_A_9
  rw [View.read_writes_junk_eq_canon]
  refine View.canon_eq_of_allAt _ y _ (cover0_A_9 c i arg3 harg3 arg4 harg4 arg5 harg5 arg6 harg6 arg7 harg7 arg8 harg8 arg9 harg9 arg10 harg10 arg11 harg11 arg12 harg12 x0 x1 x2 x3 x4 x5 x6 y) ?_
  rw [stores9]
  exact allAt_heads _ y _ fun j' hj' => head9_at arg4 harg4 arg9 harg9 x1 x6 j' hj' y j n t hy

end

/-! ## From blocks to the whole -/

variable (m : (ℓ : Loc nD τ sig) → Buf (Elt Ideal) ℓ)

/-- Which block each window is at, at each grid point. -/
theorem idx : ∀ t : Fin cfg0.N, win0_0.index t = ![0, (grid0.coords t 0).val * 8 + (grid0.coords t 1).val]
    ∧ win0_1.index t = ![(grid0.coords t 0).val * 8 + (grid0.coords t 1).val, 0]
    ∧ win0_2.index t = ![(grid0.coords t 0).val * 8 + (grid0.coords t 1).val, 0]
    ∧ win0_3.index t = ![0, (grid0.coords t 0).val * 8 + (grid0.coords t 1).val]
    ∧ win0_4.index t = ![0, (grid0.coords t 0).val * 8 + (grid0.coords t 1).val]
    ∧ win0_5.index t = ![(grid0.coords t 2).val, 0, 0]
    ∧ win0_6.index t = ![(grid0.coords t 2).val, 0, 0]
    ∧ win0_7.index t = ![(grid0.coords t 0).val, (grid0.coords t 2).val, 0, (grid0.coords t 1).val]
    ∧ win0_8.index t = ![(grid0.coords t 0).val, (grid0.coords t 2).val, (grid0.coords t 1).val, 0]
    ∧ win0_9.index t = ![(grid0.coords t 0).val, (grid0.coords t 2).val, 0, (grid0.coords t 1).val] :=
  (by decide +kernel : ∀ t : Fin grid0.N, _)

/-- A grid point's batch. -/
def bt (t : Fin cfg0.N) : Fin 2 := ⟨(grid0.coords t 0).val, (grid0.coords t 0).isLt⟩
/-- Head `j` of a grid point's eight. -/
def ht (t : Fin cfg0.N) (j : Fin 8) : Fin 16 :=
  ⟨(grid0.coords t 2).val * 8 + j.val, by have : (grid0.coords t 2).val < 2 := (grid0.coords t 2).isLt; omega⟩
/-- The token at place `r` of a grid point's tile. -/
def qt (t : Fin cfg0.N) (r : Fin 1024) : Fin 8192 :=
  ⟨(grid0.coords t 1).val * 1024 + r.val, by have : (grid0.coords t 1).val < 8 := (grid0.coords t 1).isLt; omega⟩
/-- A token of a batch among all tokens. -/
def tok (b : Fin 2) (t : Fin 8192) : Fin 16384 := ⟨b.val * 8192 + t.val, by omega⟩

/-- The blocks a grid point reads, from the kernel's arguments. -/
theorem blocks_at (c : Dev nD) (t : Fin cfg0.N) :
    (∀ k r, iblk m c 0 t (ix2 k r) = m ((c : Thread nD τ).loc main_arg0) (ix2 k (tok (bt t) (qt t r))))
    ∧ (∀ r k, iblk m c 1 t (ix2 r k) = m ((c : Thread nD τ).loc main_arg1) (ix2 (tok (bt t) (qt t r)) k))
    ∧ (∀ r k, iblk m c 2 t (ix2 r k) = m ((c : Thread nD τ).loc main_arg2) (ix2 (tok (bt t) (qt t r)) k))
    ∧ (∀ u r, iblk m c 3 t (ix2 u r) = m ((c : Thread nD τ).loc main_arg3) (ix2 u (tok (bt t) (qt t r))))
    ∧ (∀ u r, iblk m c 4 t (ix2 u r) = m ((c : Thread nD τ).loc main_arg4) (ix2 u (tok (bt t) (qt t r))))
    ∧ (∀ j e k, iblk m c 5 t (ix3 j e k) = m ((c : Thread nD τ).loc main_arg5) (ix3 (ht t j) e k))
    ∧ (∀ j k n, iblk m c 6 t (ix3 j k n) = m ((c : Thread nD τ).loc main_arg6) (ix3 (ht t j) k n)) := by
  obtain ⟨e0, e1, e2, e3, e4, e5, e6, e7, e8, e9⟩ := idx t
  refine ⟨fun _ _ => ?_, fun _ _ => ?_, fun _ _ => ?_, fun _ _ => ?_, fun _ _ => ?_, fun _ _ _ => ?_, fun _ _ _ => ?_⟩
  · blk_ext [iblk, V, e0, bt, qt, tok]
  · blk_ext [iblk, V, e1, bt, qt, tok]
  · blk_ext [iblk, V, e2, bt, qt, tok]
  · blk_ext [iblk, V, e3, bt, qt, tok]
  · blk_ext [iblk, V, e4, bt, qt, tok]
  · blk_ext [iblk, V, e5, ht]
  · blk_ext [iblk, V, e6, ht]

/-- The query of head `h` at a token, from whole arrays. -/
def queryAt (A0 : S512x16384.Idx → EReal) (A3 A4 : S32x16384.Idx → EReal) (A5 : S16x192x512.Idx → EReal)
    (b : Fin 2) (h : Fin 16) (d : Fin 192) (t : Fin 8192) : EReal :=
  turned (fun e => (∑ k : Fin 512, A5 (ix3 h e k) * A0 (ix2 k (tok b t))) * Ideal.ofBits .f32 0x3DD53B95#32)
    (fun u => A3 (ix2 u (tok b t))) (fun u => A4 (ix2 u (tok b t))) d

/-- The products of latents and weights of head `h` at a token, from whole arrays. -/
def kvAt (A1 : S16384x512.Idx → EReal) (A6 : S16x512x256.Idx → EReal) (b : Fin 2) (h : Fin 16) (t : Fin 8192) (n : Fin 256) : EReal :=
  ∑ k : Fin 512, A6 (ix3 h k n) * A1 (ix2 (tok b t) k)

/-- The key of head `h` at a token, from whole arrays: its own columns, then the shared ones. -/
def keyAt (A1 : S16384x512.Idx → EReal) (A2 : S16384x128.Idx → EReal) (A6 : S16x512x256.Idx → EReal)
    (b : Fin 2) (h : Fin 16) (t : Fin 8192) (n : Fin 192) : EReal :=
  if hn : n.val < 128 then kvAt A1 A6 b h t ⟨n.val, by omega⟩ else A2 (ix2 (tok b t) ⟨n.val - 128, by omega⟩)

/-- The first result, from any `G` which is `queryAt` of the arguments at each index. -/
theorem final7 (c : Dev nD) (G : S2x16x192x8192.Idx → EReal)
    (hG : ∀ b h d t, G (ix4 b h d t) = queryAt (m ((c : Thread nD τ).loc main_arg0)) (m ((c : Thread nD τ).loc main_arg3))
      (m ((c : Thread nD τ).loc main_arg4)) (m ((c : Thread nD τ).loc main_arg5)) b h d t) :
    (dats m 0 c).arrAt 7 cfg0.N = G := by
  refine (dats m 0 c).arrAt_eq_of_covers 7 _ (by decide +kernel) fun t _ y => ?_
  blk_simp
  rw [after0_7]
  unfold outsAt0
  dsimp only
  have hy1 : (y 1).val < 8 := (y 1).isLt
  have hy2 : (y 2).val < 192 := (y 2).isLt
  have hy3 : (y 3).val < 1024 := (y 3).isLt
  have hy : y = ix4 0 ⟨(y 1).val, hy1⟩ ⟨(y 2).val, hy2⟩ ⟨(y 3).val, hy3⟩ := by
    ext a; fin_cases a
    · exact Nat.lt_one_iff.mp (y 0).isLt
    all_goals rfl
  refine (out7_at c _ _ _ _ _ _ _ _ _ _ _ _ _ _ _ _ _ _ _ _ _ _ _ _ _ _ _ _ y _ _ _ hy).trans ?_
  obtain ⟨b0, b1, b2, b3, b4, b5, b6⟩ := blocks_at m c t
  simp only [qB, b0, b3, b4, b5]
  refine (hG (bt t) (ht t ⟨(y 1).val, hy1⟩) ⟨(y 2).val, hy2⟩ (qt t ⟨(y 3).val, hy3⟩)).symm.trans ?_
  obtain ⟨e0, e1, e2, e3, e4, e5, e6, e7, e8, e9⟩ := idx t
  blk_ext [e7, bt, ht, qt]

/-- The second result, from any `G` which is `keyAt` of the arguments at each index. -/
theorem final8 (c : Dev nD) (G : S2x16x8192x192.Idx → EReal)
    (hG : ∀ b h t n, G (ix4 b h t n) = keyAt (m ((c : Thread nD τ).loc main_arg1)) (m ((c : Thread nD τ).loc main_arg2))
      (m ((c : Thread nD τ).loc main_arg6)) b h t n) :
    (dats m 0 c).arrAt 8 cfg0.N = G := by
  refine (dats m 0 c).arrAt_eq_of_covers 8 _ (by decide +kernel) fun t _ y => ?_
  blk_simp
  rw [after0_8]
  unfold outsAt0
  dsimp only
  have hy1 : (y 1).val < 8 := (y 1).isLt
  have hy2 : (y 2).val < 1024 := (y 2).isLt
  have hy3 : (y 3).val < 192 := (y 3).isLt
  have hy : y = ix4 0 ⟨(y 1).val, hy1⟩ ⟨(y 2).val, hy2⟩ ⟨(y 3).val, hy3⟩ := by
    ext a; fin_cases a
    · exact Nat.lt_one_iff.mp (y 0).isLt
    all_goals rfl
  refine (out8_at c _ _ _ _ _ _ _ _ _ _ _ _ _ _ _ _ _ _ _ _ _ _ _ _ _ _ _ _ y _ _ _ hy).trans ?_
  obtain ⟨b0, b1, b2, b3, b4, b5, b6⟩ := blocks_at m c t
  simp only [keyB, kvB, b1, b2, b6]
  refine (hG (bt t) (ht t ⟨(y 1).val, hy1⟩) (qt t ⟨(y 2).val, hy2⟩) ⟨(y 3).val, hy3⟩).symm.trans ?_
  obtain ⟨e0, e1, e2, e3, e4, e5, e6, e7, e8, e9⟩ := idx t
  blk_ext [e8, bt, ht, qt]

/-- The third result, from any `G` which is the products' last 128 columns, features first. -/
theorem final9 (c : Dev nD) (G : S2x16x128x8192.Idx → EReal)
    (hG : ∀ b h (n : Fin 128) t, G (ix4 b h n t) = kvAt (m ((c : Thread nD τ).loc main_arg1)) (m ((c : Thread nD τ).loc main_arg6)) b h t ⟨128 + n.val, by omega⟩) :
    (dats m 0 c).arrAt 9 cfg0.N = G := by
  refine (dats m 0 c).arrAt_eq_of_covers 9 _ (by decide +kernel) fun t _ y => ?_
  blk_simp
  rw [after0_9]
  unfold outsAt0
  dsimp only
  have hy1 : (y 1).val < 8 := (y 1).isLt
  have hy2 : (y 2).val < 128 := (y 2).isLt
  have hy3 : (y 3).val < 1024 := (y 3).isLt
  have hy : y = ix4 0 ⟨(y 1).val, hy1⟩ ⟨(y 2).val, hy2⟩ ⟨(y 3).val, hy3⟩ := by
    ext a; fin_cases a
    · exact Nat.lt_one_iff.mp (y 0).isLt
    all_goals rfl
  refine (out9_at c _ _ _ _ _ _ _ _ _ _ _ _ _ _ _ _ _ _ _ _ _ _ _ _ _ _ _ _ y _ _ _ hy).trans ?_
  obtain ⟨b0, b1, b2, b3, b4, b5, b6⟩ := blocks_at m c t
  simp only [kvB, b1, b6]
  refine (hG (bt t) (ht t ⟨(y 1).val, hy1⟩) ⟨(y 2).val, hy2⟩ (qt t ⟨(y 3).val, hy3⟩)).symm.trans ?_
  obtain ⟨e0, e1, e2, e3, e4, e5, e6, e7, e8, e9⟩ := idx t
  blk_ext [e9, bt, ht, qt]

end Cert.UpIdeal.Value

end
-- ==== Proof.Up.Ref.lean ====
/-
  The reference's queries, keys and values, read at one index.
-/
module

public import proofs.«01_k».proof.Proof.Gen.UpRefIdeal.Run
public import proofs.«01_k».proof.Proof.Up.Value

@[expose] public section

set_option maxRecDepth 16384

noncomputable section

open Idealize.ShloMosaic Idealize.ShloMosaic.TcCoe Idealize.SL.Sem

namespace Cert.UpRefIdeal.Value

open Cert.UpRefIdeal Cert.UpRefIdeal.Gen Cert.Heads Cert.UpIdeal.Value

/-- The queries before they are turned. -/
def prodQ (A0 : FVec Ideal S512x16384 .bf16) (A5 : FVec Ideal S16x192x512 .bf16) : FVec Ideal S2x16x8192x192 .f32 :=
  transpose S2x16x8192x192 [2, 0, 3, 1] (Host.dotGeneral dot_S16x192x512_S2x8192x512_S16x192x2x8192_2_2_01_01_n_n none (extf .f32 A5 bitsLt_bf16_f32)
    (shapeCast S2x8192x512 (transpose S16384x512 [1, 0] (extf .f32 A0 bitsLt_bf16_f32) transposes_S512x16384_S16384x512_1_0) shapeCasts_S16384x512_S2x8192x512)) transposes_S16x192x2x8192_S2x16x8192x192_2_0_3_1

/-- The columns to be turned. -/
def tailQ (Q : FVec Ideal S2x16x8192x192 .f32) : FVec Ideal S2x16x8192x64 .f32 :=
  extractStridedSlice S2x16x8192x64 ![0, 0, 0, 128] Q slices_S2x16x8192x192_S2x16x8192x64_0_0_0_128

/-- A table for all heads. -/
def table (A : FVec Ideal S32x16384 .f32) : FVec Ideal S2x16x8192x32 .f32 :=
  broadcastInDim S2x16x8192x32 ![0, 1, 2, 3] bcast_S2x1x8192x32_S2x16x8192x32_0_1_2_3
    (shapeCast S2x1x8192x32 (transpose S16384x32 [1, 0] A transposes_S32x16384_S16384x32_1_0) shapeCasts_S16384x32_S2x1x8192x32)

/-- The queries turned. -/
def turnedQ (Q : FVec Ideal S2x16x8192x192 .f32) (A S : FVec Ideal S32x16384 .f32) : FVec Ideal S2x16x8192x192 .f32 :=
  concatenate S2x16x8192x192 3 [⟨S2x16x8192x128, (extractStridedSlice S2x16x8192x128 ![0, 0, 0, 0] Q slices_S2x16x8192x192_S2x16x8192x128_0_0_0_0 : FVec Ideal S2x16x8192x128 .f32)⟩,
    ⟨S2x16x8192x32, (subf (mulf (extractStridedSlice S2x16x8192x32 ![0, 0, 0, 0] (tailQ Q) slices_S2x16x8192x64_S2x16x8192x32_0_0_0_0) (table A))
      (mulf (extractStridedSlice S2x16x8192x32 ![0, 0, 0, 32] (tailQ Q) slices_S2x16x8192x64_S2x16x8192x32_0_0_0_32) (table S)) : FVec Ideal S2x16x8192x32 .f32)⟩,
    ⟨S2x16x8192x32, (addf (mulf (extractStridedSlice S2x16x8192x32 ![0, 0, 0, 32] (tailQ Q) slices_S2x16x8192x64_S2x16x8192x32_0_0_0_32) (table A))
      (mulf (extractStridedSlice S2x16x8192x32 ![0, 0, 0, 0] (tailQ Q) slices_S2x16x8192x64_S2x16x8192x32_0_0_0_0) (table S)) : FVec Ideal S2x16x8192x32 .f32)⟩]
    concatenates_S2x16x8192x128_S2x16x8192x32_S2x16x8192x32_S2x16x8192x192_d3

/-- The first result: the turned queries times the factor, features first. -/
def wholeQ (A0 : FVec Ideal S512x16384 .bf16) (A3 A4 : FVec Ideal S32x16384 .f32) (A5 : FVec Ideal S16x192x512 .bf16) : FVec Ideal S2x16x192x8192 .bf16 :=
  truncf .bf16 (transpose S2x16x192x8192 [0, 1, 3, 2] (mulf (turnedQ (prodQ A0 A5) A3 A4)
    (broadcastInDim S2x16x8192x192 ![] bcast_S_S2x16x8192x192 (constant S_ .f32 0x3DD53B95#32))) transposes_S2x16x8192x192_S2x16x192x8192_0_1_3_2) bitsLt_bf16_f32

/-- The products of the latents and the weights of keys and values. -/
def prodKV (A1 : FVec Ideal S16384x512 .bf16) (A6 : FVec Ideal S16x512x256 .bf16) : FVec Ideal S2x16x8192x256 .f32 :=
  transpose S2x16x8192x256 [2, 0, 3, 1] (Host.dotGeneral dot_S16x512x256_S2x8192x512_S16x256x2x8192_1_2_02_01_n_n none (extf .f32 A6 bitsLt_bf16_f32)
    (shapeCast S2x8192x512 (extf .f32 A1 bitsLt_bf16_f32) shapeCasts_S16384x512_S2x8192x512)) transposes_S16x256x2x8192_S2x16x8192x256_2_0_3_1

/-- The second result: each head's own key columns, then the shared ones. -/
def wholeK (A1 : FVec Ideal S16384x512 .bf16) (A2 : FVec Ideal S16384x128 .bf16) (A6 : FVec Ideal S16x512x256 .bf16) : FVec Ideal S2x16x8192x192 .bf16 :=
  concatenate S2x16x8192x192 3 [⟨S2x16x8192x128, (truncf .bf16 (extractStridedSlice S2x16x8192x128 ![0, 0, 0, 0] (prodKV A1 A6) slices_S2x16x8192x256_S2x16x8192x128_0_0_0_0) bitsLt_bf16_f32 : FVec Ideal S2x16x8192x128 .bf16)⟩,
    ⟨S2x16x8192x64, (broadcastInDim S2x16x8192x64 ![0, 1, 2, 3] bcast_S2x1x8192x64_S2x16x8192x64_0_1_2_3
      (shapeCast S2x1x8192x64 (extractStridedSlice S16384x64 ![0, 0] A2 slices_S16384x128_S16384x64_0_0) shapeCasts_S16384x64_S2x1x8192x64) : FVec Ideal S2x16x8192x64 .bf16)⟩]
    concatenates_S2x16x8192x128_S2x16x8192x64_S2x16x8192x192_d3

/-- The third result: the values, features first. -/
def wholeV (A1 : FVec Ideal S16384x512 .bf16) (A6 : FVec Ideal S16x512x256 .bf16) : FVec Ideal S2x16x128x8192 .bf16 :=
  truncf .bf16 (transpose S2x16x128x8192 [0, 1, 3, 2] (extractStridedSlice S2x16x8192x128 ![0, 0, 0, 128] (prodKV A1 A6) slices_S2x16x8192x256_S2x16x8192x128_0_0_0_128)
    transposes_S2x16x8192x128_S2x16x128x8192_0_1_3_2) bitsLt_bf16_f32

/-- The queries' product, read at one index. -/
theorem prodQ_at (A0 A5) (b : Fin 2) (h : Fin 16) (t : Fin 8192) (d : Fin 192) :
    prodQ A0 A5 (ix4 b h t d) = ∑ k : Fin 512, A5 (ix3 h d k) * A0 (ix2 k (tok b t)) := by
  pointwise [prodQ, tok]

/-- The other product, read at one index. -/
theorem prodKV_at (A1 A6) (b : Fin 2) (h : Fin 16) (t : Fin 8192) (n : Fin 256) :
    prodKV A1 A6 (ix4 b h t n) = kvAt A1 A6 b h t n := by
  pointwise [prodKV, kvAt, tok]

/-- A table for all heads, read at one index. -/
theorem table_at (A) (b : Fin 2) (h : Fin 16) (t : Fin 8192) (u : Fin 32) : table A (ix4 b h t u) = A (ix2 u (tok b t)) := by
  pointwise [table, tok]

/-- The turned queries, read at one index. -/
theorem turnedQ_at (Q A S) (b : Fin 2) (h : Fin 16) (t : Fin 8192) (d : Fin 192) :
    turnedQ Q A S (ix4 b h t d)
      = turned (fun e => Q (ix4 b h t e)) (fun u => A (ix2 u (tok b t))) (fun u => S (ix2 u (tok b t))) d := by
  rw [turned_parts]
  pointwise [turnedQ, tailQ, table_at]

/-- The first result at one index is the kernel's. -/
theorem wholeQ_at (A0 A3 A4 A5) (b : Fin 2) (h : Fin 16) (d : Fin 192) (t : Fin 8192) :
    wholeQ A0 A3 A4 A5 (ix4 b h d t) = queryAt A0 A3 A4 A5 b h d t := by
  have e : wholeQ A0 A3 A4 A5 (ix4 b h d t) = turnedQ (prodQ A0 A5) A3 A4 (ix4 b h t d) * Ideal.ofBits .f32 0x3DD53B95#32 := by
    pointwise [wholeQ]
  rw [e, turnedQ_at, queryAt, turned_mul]
  simp only [prodQ_at]

/-- The second result at one index is the kernel's. -/
theorem wholeK_at (A1 A2 A6) (b : Fin 2) (h : Fin 16) (t : Fin 8192) (n : Fin 192) :
    wholeK A1 A2 A6 (ix4 b h t n) = keyAt A1 A2 A6 b h t n := by
  pointwise [wholeK, prodKV_at, keyAt, tok]

/-- The third result at one index is the kernel's. -/
theorem wholeV_at (A1 A6) (b : Fin 2) (h : Fin 16) (n : Fin 128) (t : Fin 8192) :
    wholeV A1 A6 (ix4 b h n t) = kvAt A1 A6 b h t ⟨128 + n.val, by omega⟩ := by
  pointwise [wholeV, prodKV_at]

end Cert.UpRefIdeal.Value

end
-- ==== Proof.Dt.Value.lean ====
/-
  The step sizes, block by block: each row of the result from the same row of the kernel's first argument.
-/
module

public import proofs.«01_k».proof.Proof.Gen.DtIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DtIdeal.Value

open Cert.DtIdeal Cert.DtIdeal.Gen

variable (m : (ℓ : Loc nD τ sig) → Buf (Elt Ideal) ℓ)

/-- `log (1 + exp x)`, written so that the exponential's argument is never positive. -/
def softplus (x : EReal) : EReal := max x 0 + Ideal.log1p (Ideal.exp (-FloatOps.absf (F := Ideal) (φ := .f32) x))

/-- The stored block, read at one index. -/
theorem pay1_at (v0 v2 v4) (r : Fin 1024) (e : Fin 128) :
    k0_pay1 (F := Ideal) v0 v2 v4 (ix2 r e) = softplus (∑ k : Fin 2048, v0 (ix2 r k) * v2 (ix2 k e) + v4 (ix2 0 e)) := by
  pointwise [k0_pay1, softplus, zero_sub]

/-- The blocks each grid point reads and writes. -/
theorem idx : ∀ t : Fin cfg0.N, win0_0.index t = ![t.val, 0] ∧ win0_1.index t = ![0, 80] ∧ win0_2.index t = ![0, 0]
    ∧ win0_3.index t = ![t.val, 0] :=
  (by decide +kernel : ∀ t : Fin grid0.N, _)

/-- The row of the arrays at row `r` of the grid point's blocks. -/
def row (t : Fin cfg0.N) (r : Fin 1024) : Fin 16384 := ⟨t.val * 1024 + r.val, by have h : t.val < 16 := t.isLt; omega⟩

/-- The column of the weights at column `e` of their last block. -/
def col (e : Fin 128) : Fin 10368 := ⟨10240 + e.val, by omega⟩

/-- Every block read, from the kernel's arguments. -/
theorem blocks_at (c : Dev nD) (t : Fin cfg0.N) :
    (∀ r k, iblk m c 0 t (ix2 r k) = m ((c : Thread nD τ).loc main_arg0) (ix2 (row t r) k))
    ∧ (∀ k e, iblk m c 1 t (ix2 k e) = m ((c : Thread nD τ).loc main_arg1) (ix2 k (col e)))
    ∧ (∀ e, iblk m c 2 t (ix2 (0 : Fin 1) e) = m ((c : Thread nD τ).loc main_arg2) (ix2 (0 : Fin 1) e)) := by
  obtain ⟨e0, e1, e2, e3⟩ := idx t
  refine ⟨fun r k => ?_, fun k e => ?_, fun e => ?_⟩
  · blk_ext [iblk, V, e0, row]
  · blk_ext [iblk, V, e1, col]
  · blk_ext [iblk, V, e2]

/-- One element of the step sizes from the arrays. -/
def stepAt (X : FVec Ideal S16384x2048 .f32) (W : FVec Ideal S2048x10368 .bf16) (B : FVec Ideal S1x128 .f32) (r : Fin 16384) (e : Fin 128) : EReal :=
  softplus (∑ k : Fin 2048, X (ix2 r k) * W (ix2 k (col e)) + B (ix2 0 e))

/-- What the body leaves in the result's buffer. -/
theorem out3_at (x0 x1 x2) (y : S1024x128.Idx) (r : Fin 1024) (e : Fin 128) (hy : y = ix2 r e) :
    out0_3 (F := Ideal) x0 x1 x2 y = softplus (∑ k : Fin 2048, x0 (ix2 r k) * x1 (ix2 k e) + x2 (ix2 0 e)) := by
  subst hy
  have h : out0_3 (F := Ideal) x0 x1 x2 (ix2 r e) = k0_pay1 x0 x1 x2 (ix2 r e) := by
    unfold out0_3
    frame_out
  rw [h, pay1_at]

/-- The result, from any `G` which is `stepAt` of the arguments at each index. -/
theorem final (c : Dev nD) (G : S16384x128.Idx → EReal)
    (hG : ∀ (r : Fin 16384) (e : Fin 128), G (ix2 r e) = stepAt (m ((c : Thread nD τ).loc main_arg0)) (m ((c : Thread nD τ).loc main_arg1))
      (m ((c : Thread nD τ).loc main_arg2)) r e) :
    (dats m 0 c).arrAt 3 cfg0.N = G := by
  refine (dats m 0 c).arrAt_eq_of_covers 3 _ (by decide +kernel) fun t _ y => ?_
  blk_simp
  rw [after0_3]
  have hy0 : (y 0).val < 1024 := (y 0).isLt
  have hy1 : (y 1).val < 128 := (y 1).isLt
  have hy : y = ix2 ⟨(y 0).val, hy0⟩ ⟨(y 1).val, hy1⟩ := by ext a; fin_cases a <;> rfl
  refine (out3_at _ _ _ y _ _ hy).trans ?_
  obtain ⟨b0, b1, b2⟩ := blocks_at m c t
  simp only [b0, b1, b2]
  refine (hG (row t ⟨(y 0).val, hy0⟩) ⟨(y 1).val, hy1⟩).symm.trans ?_
  obtain ⟨e0, e1, e2, e3⟩ := idx t
  blk_ext [e3, row]

end Cert.DtIdeal.Value

end
-- ==== Proof.Dt.Ref.lean ====
/-
  The reference's step sizes, read at one index.
-/
module

public import proofs.«01_k».proof.Proof.Gen.DtRefIdeal.Run
public import proofs.«01_k».proof.Proof.Dt.Value

@[expose] public section

set_option maxRecDepth 16384

noncomputable section

open Idealize.ShloMosaic Idealize.ShloMosaic.TcCoe Idealize.SL.Sem

namespace Cert.DtRefIdeal.Value

open Cert.DtRefIdeal Cert.DtRefIdeal.Gen Cert.DtIdeal.Value

/-- The last 128 columns of the whole input projection, and the bias. -/
def raw (X : FVec Ideal S16384x2048 .f32) (W : FVec Ideal S2048x10368 .bf16) (B : FVec Ideal S1x128 .f32) : FVec Ideal S16384x128 .f32 :=
  addf (extractStridedSlice S16384x128 ![0, 10240] (Host.dotGeneral dot_S16384x2048_S2048x10368_S16384x10368_1_0_0_1_n_n none X (extf .f32 W bitsLt_bf16_f32)) slices_S16384x10368_S16384x128_0_10240)
    (broadcastInDim S16384x128 ![0, 1] bcast_S1x128_S16384x128_0_1 B)

/-- Zeros. -/
def zeros : FVec Ideal S16384x128 .f32 := broadcastInDim S16384x128 ![] bcast_S_S16384x128 (constant S_ .f32 0x00000000#32)

/-- The softplus of a whole array. -/
def plus (H : FVec Ideal S16384x128 .f32) : FVec Ideal S16384x128 .f32 :=
  select (cmpf .une (subf H zeros) (subf H zeros)) (addf H zeros)
    (addf (maximumf H zeros) (Host.log1p (Host.exp (Host.negf (Host.absf (subf H zeros))))))

/-- The reference's result. -/
def whole (X : FVec Ideal S16384x2048 .f32) (W : FVec Ideal S2048x10368 .bf16) (B : FVec Ideal S1x128 .f32) : FVec Ideal S16384x128 .f32 :=
  plus (raw X W B)

/-- The projection's last columns, read at one index. -/
theorem raw_at (X W B) (r : Fin 16384) (e : Fin 128) :
    raw X W B (ix2 r e) = ∑ k : Fin 2048, X (ix2 r k) * W (ix2 k (col e)) + B (ix2 0 e) := by
  pointwise [raw, col]

/-- The softplus, read at one index. -/
theorem plus_at (H) (r : Fin 16384) (e : Fin 128) : plus H (ix2 r e) = softplus (H (ix2 r e)) := by
  have h : plus H (ix2 r e) = if H (ix2 r e) ≠ H (ix2 r e) then H (ix2 r e) else softplus (H (ix2 r e)) := by
    pointwise [plus, zeros, softplus]
  rw [h, if_neg fun hne => hne rfl]

/-- The reference's result at one index is the kernel's. -/
theorem whole_at (X W B) (r : Fin 16384) (e : Fin 128) : whole X W B (ix2 r e) = stepAt X W B r e := by
  unfold whole stepAt
  rw [plus_at, raw_at]

end Cert.DtRefIdeal.Value

end
-- ==== Proof.Conv.Value.lean ====
/-
  The convolution, block by block: what the scratch holds after its stores, and each output tile from seven of its rows.
-/
module

public import proofs.«01_k».proof.Proof.Gen.ConvIdeal.Value
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.ConvIdeal.Value

open Cert.ConvIdeal Cert.ConvIdeal.Gen

/-! ## One tile -/

/-- The bias with the seven products added in order. -/
def acc (b : EReal) (w e : Fin 7 → EReal) : EReal :=
  b + e 0 * w 0 + e 1 * w 1 + e 2 * w 2 + e 3 * w 3 + e 4 * w 4 + e 5 * w 5 + e 6 * w 6

/-- The activation: a number times its logistic value. -/
def silu (y : EReal) : EReal := y * Ideal.logistic y

/-- Sixty-four rows times one tap. -/
def tapV (e : Vec Ideal S1x64x128 .f32) (w : Vec Ideal S1x128 .f32) : FVec Ideal S64x128 .f32 :=
  mulf (shapeCast S64x128 e shapeCasts_S1x64x128_S64x128) (broadcastTo S64x128 w broadcasts_S1x128_S64x128)

/-- A tile before the activation. -/
def accV (b : Vec Ideal S1x128 .f32) (w : Fin 7 → Vec Ideal S1x128 .f32) (e : Fin 7 → Vec Ideal S1x64x128 .f32) : FVec Ideal S64x128 .f32 :=
  addf (addf (addf (addf (addf (addf (addf (broadcastTo S64x128 b broadcasts_S1x128_S64x128) (tapV (e 0) (w 0))) (tapV (e 1) (w 1)))
    (tapV (e 2) (w 2))) (tapV (e 3) (w 3))) (tapV (e 4) (w 4))) (tapV (e 5) (w 5))) (tapV (e 6) (w 6))

/-- A tile as it is stored. -/
def tileV (b : Vec Ideal S1x128 .f32) (w : Fin 7 → Vec Ideal S1x128 .f32) (e : Fin 7 → Vec Ideal S1x64x128 .f32) : FVec Ideal S64x128 .bf16 :=
  truncf .bf16 (mulf (accV b w e) (logistic (accV b w e))) bitsLt_bf16_f32

/-- One product, at one index. -/
theorem tapV_at (e w) (p : Fin 64) (l : Fin 128) : tapV e w (ix2 p l) = e (ix3 0 p l) * w (ix2 0 l) := by
  pointwise [tapV]

/-- A tile before the activation, at one index. -/
theorem accV_at (b w e) (p : Fin 64) (l : Fin 128) :
    accV b w e (ix2 p l) = acc (b (ix2 0 l)) (fun k => w k (ix2 0 l)) (fun k => e k (ix3 0 p l)) := by
  have h : accV b w e (ix2 p l) = b (ix2 0 l) + tapV (e 0) (w 0) (ix2 p l) + tapV (e 1) (w 1) (ix2 p l) + tapV (e 2) (w 2) (ix2 p l)
      + tapV (e 3) (w 3) (ix2 p l) + tapV (e 4) (w 4) (ix2 p l) + tapV (e 5) (w 5) (ix2 p l) + tapV (e 6) (w 6) (ix2 p l) := by
    pointwise [accV]
  rw [h]
  simp only [tapV_at, acc]

/-- A stored tile, at one index. -/
theorem tileV_at (b w e) (p : Fin 64) (l : Fin 128) :
    tileV b w e (ix2 p l) = silu (acc (b (ix2 0 l)) (fun k => w k (ix2 0 l)) (fun k => e k (ix3 0 p l))) := by
  have h : tileV b w e (ix2 p l) = silu (accV b w e (ix2 p l)) := by
    rfl
  rw [h, accV_at]

/-! ## The stores -/

/-- Sixteen lists, one for each group of columns, the last group's first. -/
def groups {α : Type} (f : (j : ℕ) → j < 16 → List α) : List α :=
  f 15 (by omega) ++ f 14 (by omega) ++ f 13 (by omega) ++ f 12 (by omega) ++ f 11 (by omega) ++ f 10 (by omega) ++ f 9 (by omega) ++ f 8 (by omega)
    ++ f 7 (by omega) ++ f 6 (by omega) ++ f 5 (by omega) ++ f 4 (by omega) ++ f 3 (by omega) ++ f 2 (by omega) ++ f 1 (by omega) ++ f 0 (by omega)

/-- What lies in the sixteen lists lies in one of them. -/
theorem mem_groups {α : Type} (f : (j : ℕ) → j < 16 → List α) (p : α) (h : p ∈ groups f) : ∃ j hj, p ∈ f j hj := by
  simp only [groups, List.mem_append] at h
  rcases h with ((((((((((((((h | h) | h) | h) | h) | h) | h) | h) | h) | h) | h) | h) | h) | h) | h) | h <;> exact ⟨_, _, h⟩

/-- A group's columns lie in a block. -/
theorem inbC (R o n ct : ℕ) (hR : o + n ≤ R) (hct : ct < 16) :
    ∀ a, (![o, ct * 128] : Fin 2 → ℕ) a + (![n, 128] : Fin 2 → ℕ) a ≤ (![R, 2048] : Fin 2 → ℕ) a := by
  intro a; fin_cases a <;> simp <;> omega
/-- A group's rows lie in the scratch. -/
theorem inbS (o n ct : ℕ) (ho : o + n ≤ 544) (hct : ct < 16) :
    ∀ a, (![ct, o, 0] : Fin 3 → ℕ) a + (![1, n, 128] : Fin 3 → ℕ) a ≤ S16x544x128.size a := by
  intro a; fin_cases a <;> simp <;> omega

section
variable (c : Dev nD) (i : grid0.Coords) (arg3 : Memref sig .tc .vmem S16x2048 .bf16) (harg3 : arg3.IsWhole) (arg4 : Memref sig .tc .vmem S512x2048 .bf16) (harg4 : arg4.IsWhole)
  (arg5 : Memref sig .tc .vmem S16x2048 .bf16) (harg5 : arg5.IsWhole) (arg6 : Memref sig .tc .vmem S7x2048 .f32) (harg6 : arg6.IsWhole)
  (arg7 : Memref sig .tc .vmem S1x2048 .f32) (harg7 : arg7.IsWhole) (arg8 : Memref sig .tc .vmem S512x2048 .bf16) (harg8 : arg8.IsWhole)
  (arg9 : Memref sig .tc .vmem S16x544x128 .f32) (harg9 : arg9.IsWhole)
  (x0 : Vec Ideal S16x2048 .bf16) (x1 : Vec Ideal S512x2048 .bf16) (x2 : Vec Ideal S16x2048 .bf16) (x3 : Vec Ideal S7x2048 .f32) (x4 : Vec Ideal S1x2048 .f32)

/-- A group's columns of sixteen rows beside the block, read. -/
def rdH (a : Memref sig .tc .vmem S16x2048 .bf16) (h : a.IsWhole) (x : Vec Ideal S16x2048 .bf16) (ct : ℕ) (hct : ct < 16) : Vec Ideal S16x128 .bf16 :=
  View.readAt (Elt Ideal) a.view (Rect.unit (s := S16x2048) ![0, ct * 128] S16x128.size (inbC 16 0 16 ct (by omega) hct)).toLoadRect (h.unread x)
/-- A group's columns of the block, read. -/
def rd1 (ct : ℕ) (hct : ct < 16) : Vec Ideal S512x128 .bf16 :=
  View.readAt (Elt Ideal) arg4.view (Rect.unit (s := S512x2048) ![0, ct * 128] S512x128.size (inbC 512 0 512 ct (by omega) hct)).toLoadRect (harg4.unread x1)
/-- A group's columns of one tap, read. -/
def rd3 (ct : ℕ) (hct : ct < 16) (k : Fin 7) : Vec Ideal S1x128 .f32 :=
  View.readAt (Elt Ideal) arg6.view (Rect.unit (s := S7x2048) ![k.val, ct * 128] S1x128.size (inbC 7 k.val 1 ct (by omega) hct)).toLoadRect (harg6.unread x3)
/-- A group's columns of the bias, read. -/
def rd4 (ct : ℕ) (hct : ct < 16) : Vec Ideal S1x128 .f32 :=
  View.readAt (Elt Ideal) arg7.view (Rect.unit (s := S1x2048) ![0, ct * 128] S1x128.size (inbC 1 0 1 ct (by omega) hct)).toLoadRect (harg7.unread x4)

/-- The rows beside the block read at one index. -/
theorem rdH_at (a h x) (ct : ℕ) (hct : ct < 16) (q : Fin 16) (l : Fin 128) : rdH a h x ct hct (ix2 q l) = x (ix2 q ⟨ct * 128 + l.val, by omega⟩) := by
  unfold rdH
  rw [Memref.IsWhole.readAt_unread]
  exact View.ld_unit_apply_of x _ _ (inbC 16 0 16 ct (by omega) hct) _ _ fun a => by fin_cases a <;> simp
/-- The block read at one index. -/
theorem rd1_at (ct : ℕ) (hct : ct < 16) (q : Fin 512) (l : Fin 128) : rd1 arg4 harg4 x1 ct hct (ix2 q l) = x1 (ix2 q ⟨ct * 128 + l.val, by omega⟩) := by
  unfold rd1
  rw [Memref.IsWhole.readAt_unread]
  exact View.ld_unit_apply_of x1 _ _ (inbC 512 0 512 ct (by omega) hct) _ _ fun a => by fin_cases a <;> simp
/-- One tap read at one index. -/
theorem rd3_at (ct : ℕ) (hct : ct < 16) (k : Fin 7) (l : Fin 128) : rd3 arg6 harg6 x3 ct hct k (ix2 0 l) = x3 (ix2 k ⟨ct * 128 + l.val, by omega⟩) := by
  unfold rd3
  rw [Memref.IsWhole.readAt_unread]
  exact View.ld_unit_apply_of x3 _ _ (inbC 7 k.val 1 ct (by omega) hct) _ _ fun a => by fin_cases a <;> simp
/-- The bias read at one index. -/
theorem rd4_at (ct : ℕ) (hct : ct < 16) (l : Fin 128) : rd4 arg7 harg7 x4 ct hct (ix2 0 l) = x4 (ix2 0 ⟨ct * 128 + l.val, by omega⟩) := by
  unfold rd4
  rw [Memref.IsWhole.readAt_unread]
  exact View.ld_unit_apply_of x4 _ _ (inbC 1 0 1 ct (by omega) hct) _ _ fun a => by fin_cases a <;> simp

/-- A group's three stores into the scratch, the last first. -/
def grpS (ct : ℕ) (hct : ct < 16) : List (View.Piece (Elt Ideal) S16x544x128 .f32) :=
  [⟨Rect.unit (s := S16x544x128) ![ct, 528, 0] S1x16x128.size (inbS 528 16 ct (by omega) hct), k0_pay6 i (rdH arg5 harg5 x2 ct hct)⟩,
    ⟨Rect.unit (s := S16x544x128) ![ct, 16, 0] S1x512x128.size (inbS 16 512 ct (by omega) hct), k0_pay5 (rd1 arg4 harg4 x1 ct hct)⟩,
    ⟨Rect.unit (s := S16x544x128) ![ct, 0, 0] S1x16x128.size (inbS 0 16 ct (by omega) hct), k0_pay4 i (rdH arg3 harg3 x0 ct hct)⟩]

/-- The scratch's stores are the sixteen groups'. -/
theorem storesS : kernelRun0_A.sl.HS0_48 (F := Ideal) c i arg3 harg3 arg4 harg4 arg5 harg5 x0 x1 x2
    = groups (grpS i arg3 harg3 arg4 harg4 arg5 harg5 x0 x1 x2) := rfl

/-- Sixty-four rows of a group of the scratch, read after its stores. -/
def rdE (ct o : ℕ) (hct : ct < 16) (ho : o + 64 ≤ 544) : Vec Ideal S1x64x128 .f32 :=
  arg9.view.readCov (kernelRun0_A.sl.HS0_48 (F := Ideal) c i arg3 harg3 arg4 harg4 arg5 harg5 x0 x1 x2)
    (Rect.unit (s := S16x544x128) ![ct, o, 0] S1x64x128.size (inbS o 64 ct ho hct)).toLoadRect

/-- One tile's store. -/
def tile (ct rb : ℕ) (hct : ct < 16) (hrb : rb < 8) : View.Piece (Elt Ideal) S512x2048 .bf16 :=
  ⟨Rect.unit (s := S512x2048) ![rb * 64, ct * 128] S64x128.size (inbC 512 (rb * 64) 64 ct (by omega) hct),
    tileV (rd4 arg7 harg7 x4 ct hct) (rd3 arg6 harg6 x3 ct hct)
      (fun k => rdE c i arg3 harg3 arg4 harg4 arg5 harg5 arg9 x0 x1 x2 ct (rb * 64 + 13 + k.val) hct (by omega))⟩

/-- A group's eight tiles, the last first. -/
def grpO (ct : ℕ) (hct : ct < 16) : List (View.Piece (Elt Ideal) S512x2048 .bf16) :=
  [tile c i arg3 harg3 arg4 harg4 arg5 harg5 arg6 harg6 arg7 harg7 arg9 x0 x1 x2 x3 x4 ct 7 hct (by omega),
    tile c i arg3 harg3 arg4 harg4 arg5 harg5 arg6 harg6 arg7 harg7 arg9 x0 x1 x2 x3 x4 ct 6 hct (by omega),
    tile c i arg3 harg3 arg4 harg4 arg5 harg5 arg6 harg6 arg7 harg7 arg9 x0 x1 x2 x3 x4 ct 5 hct (by omega),
    tile c i arg3 harg3 arg4 harg4 arg5 harg5 arg6 harg6 arg7 harg7 arg9 x0 x1 x2 x3 x4 ct 4 hct (by omega),
    tile c i arg3 harg3 arg4 harg4 arg5 harg5 arg6 harg6 arg7 harg7 arg9 x0 x1 x2 x3 x4 ct 3 hct (by omega),
    tile c i arg3 harg3 arg4 harg4 arg5 harg5 arg6 harg6 arg7 harg7 arg9 x0 x1 x2 x3 x4 ct 2 hct (by omega),
    tile c i arg3 harg3 arg4 harg4 arg5 harg5 arg6 harg6 arg7 harg7 arg9 x0 x1 x2 x3 x4 ct 1 hct (by omega),
    tile c i arg3 harg3 arg4 harg4 arg5 harg5 arg6 harg6 arg7 harg7 arg9 x0 x1 x2 x3 x4 ct 0 hct (by omega)]

end

end Cert.ConvIdeal.Value

end
-- ==== Proof.Conv.Out.lean ====
/-
  The convolution's result: each element from seven rows of the scratch, and these from the arrays.
-/
module

public import proofs.«01_k».proof.Proof.Conv.Value

@[expose] public section

set_option maxRecDepth 16384

noncomputable section

open Idealize.ShloMosaic Idealize.ShloMosaic.TcCoe Idealize.SL.Sem
open Idealize.ShloMosaic.Pipeline (Dat)

namespace Cert.ConvIdeal.Value

open Cert.ConvIdeal Cert.ConvIdeal.Gen

/-! ## The scratch -/

/-- The word zero as a number. -/
theorem word0 : (FloatOps.scalar.sitofp .f32 (0#32) : Ideal .f32) = (0 : EReal) := by
  change ((((0#32 : BitVec 32).toInt : ℤ) : ℝ) : EReal) = 0
  norm_num
/-- The word one as a number. -/
theorem word1 : (FloatOps.scalar.sitofp .f32 (1#32) : Ideal .f32) = (1 : EReal) := by
  change ((((1#32 : BitVec 32).toInt : ℤ) : ℝ) : EReal) = 1
  norm_num

/-- The factor of the rows before the block: zero in a sequence's first block, else one. -/
theorem pay2_at (i : grid0.Coords) : k0_pay2 (F := Ideal) i = if (i 1).val = 0 then (0 : EReal) else 1 := by
  have h : ∀ n : Fin 16, (Scalar.extui (Scalar.cmpi .sgt (BitVec.ofNat 32 n.val) 0#32) : BitVec 32) = if n.val = 0 then 0#32 else 1#32 := by
    decide +kernel
  have hi : k0_pay2 (F := Ideal) i = FloatOps.scalar.sitofp .f32 (Scalar.extui (Scalar.cmpi .sgt (BitVec.ofNat 32 (i 1).val) 0#32)) := rfl
  rw [hi, h ⟨(i 1).val, (i 1).isLt⟩]
  by_cases h0 : (i 1).val = 0
  · rw [if_pos h0, if_pos h0, word0]
  · rw [if_neg h0, if_neg h0, word1]

/-- The factor of the rows after the block: zero in a sequence's last block, else one. -/
theorem pay3_at (i : grid0.Coords) : k0_pay3 (F := Ideal) i = if (i 1).val = 15 then (0 : EReal) else 1 := by
  have h : ∀ n : Fin 16, (Scalar.extui (Scalar.cmpi .slt (BitVec.ofNat 32 n.val) 15#32) : BitVec 32) = if n.val = 15 then 0#32 else 1#32 := by
    decide +kernel
  have hi : k0_pay3 (F := Ideal) i = FloatOps.scalar.sitofp .f32 (Scalar.extui (Scalar.cmpi .slt (BitVec.ofNat 32 (i 1).val) 15#32)) := rfl
  rw [hi, h ⟨(i 1).val, (i 1).isLt⟩]
  by_cases h0 : (i 1).val = 15
  · rw [if_pos h0, if_pos h0, word0]
  · rw [if_neg h0, if_neg h0, word1]

/-- The stored rows before the block. -/
theorem pay4_at (i v) (q : Fin 16) (l : Fin 128) : k0_pay4 (F := Ideal) i v (ix3 0 q l) = v (ix2 q l) * k0_pay2 (F := Ideal) i := by
  pointwise [k0_pay4]
/-- The stored rows of the block. -/
theorem pay5_at (v) (q : Fin 512) (l : Fin 128) : k0_pay5 (F := Ideal) v (ix3 0 q l) = v (ix2 q l) := by
  pointwise [k0_pay5]
/-- The stored rows after the block. -/
theorem pay6_at (i v) (q : Fin 16) (l : Fin 128) : k0_pay6 (F := Ideal) i v (ix3 0 q l) = v (ix2 q l) * k0_pay3 (F := Ideal) i := by
  pointwise [k0_pay6]

/-- The scratch after its stores: row `q` of column `j` of the rows before, in and after the block. -/
def scr (i : grid0.Coords) (x0 : Vec Ideal S16x2048 .bf16) (x1 : Vec Ideal S512x2048 .bf16) (x2 : Vec Ideal S16x2048 .bf16)
    (q : Fin 544) (j : Fin 2048) : EReal :=
  if h : q.val < 16 then x0 (ix2 ⟨q.val, h⟩ j) * k0_pay2 (F := Ideal) i
  else if h' : q.val < 528 then x1 (ix2 ⟨q.val - 16, by omega⟩ j)
  else x2 (ix2 ⟨q.val - 528, by omega⟩ j) * k0_pay3 (F := Ideal) i

/-- What lies in one of the sixteen lists lies in them all. -/
theorem groups_mem {α : Type} (f : (j : ℕ) → j < 16 → List α) (p : α) (j : ℕ) (hj : j < 16) (h : p ∈ f j hj) : p ∈ groups f := by
  simp only [groups, List.mem_append]
  interval_cases j <;> simp [h]

section
variable (c : Dev nD) (i : grid0.Coords) (arg3 : Memref sig .tc .vmem S16x2048 .bf16) (harg3 : arg3.IsWhole) (arg4 : Memref sig .tc .vmem S512x2048 .bf16) (harg4 : arg4.IsWhole)
  (arg5 : Memref sig .tc .vmem S16x2048 .bf16) (harg5 : arg5.IsWhole) (arg6 : Memref sig .tc .vmem S7x2048 .f32) (harg6 : arg6.IsWhole)
  (arg7 : Memref sig .tc .vmem S1x2048 .f32) (harg7 : arg7.IsWhole) (arg8 : Memref sig .tc .vmem S512x2048 .bf16) (harg8 : arg8.IsWhole)
  (arg9 : Memref sig .tc .vmem S16x544x128 .f32) (harg9 : arg9.IsWhole)
  (x0 : Vec Ideal S16x2048 .bf16) (x1 : Vec Ideal S512x2048 .bf16) (x2 : Vec Ideal S16x2048 .bf16) (x3 : Vec Ideal S7x2048 .f32) (x4 : Vec Ideal S1x2048 .f32)

/-- Where one of a group's stores holds an index of the scratch, it has that index's value. -/
theorem grpS_at (ct : ℕ) (hct : ct < 16) (y : S16x544x128.Idx) (ct' : Fin 16) (q : Fin 544) (l : Fin 128) (hy : y = ix3 ct' q l) :
    View.AllAt (grpS i arg3 harg3 arg4 harg4 arg5 harg5 x0 x1 x2 ct hct) y (scr i x0 x1 x2 q ⟨ct'.val * 128 + l.val, by omega⟩) := by
  have hc : ∀ (o n : ℕ) (x : (⟨3, ![1, n, 128]⟩ : Shape).Idx), (∀ a, (y a : ℕ) = (![ct, o, 0] : Fin 3 → ℕ) a + x a) →
      ct' = ⟨ct, hct⟩ ∧ ∃ u : Fin n, q.val = o + u.val ∧ x = ix3 0 u l := by
    intro o n x hx
    subst hy
    have h0 : (x 0).val < 1 := (x 0).isLt
    have h1 := hx 0
    have h2 := hx 1
    have h3 := hx 2
    simp only [ix3] at h1 h2 h3
    refine ⟨Fin.ext (by simp at h1; omega), ⟨(x 1).val, (x 1).isLt⟩, by simpa using h2, ?_⟩
    ext a
    fin_cases a
    · simpa using h0
    · rfl
    · simp at h3 ⊢; omega
  refine View.allAt_cons_unit _ _ _ _ _ ?_ (View.allAt_cons_unit _ _ _ _ _ ?_ (View.allAt_cons_unit _ _ _ _ _ ?_ (View.allAt_nil _ _)))
  · intro x hx
    obtain ⟨rfl, u, hu, rfl⟩ := hc 528 16 x hx
    rw [pay6_at, rdH_at, scr, dif_neg (by omega), dif_neg (by omega)]
    exact congrArg (fun z => x2 (ix2 z _) * k0_pay3 (F := Ideal) i) (Fin.ext (by simp only; omega))
  · intro x hx
    obtain ⟨rfl, u, hu, rfl⟩ := hc 16 512 x hx
    rw [pay5_at, rd1_at, scr, dif_neg (by omega), dif_pos (by omega)]
    exact congrArg (fun z => x1 (ix2 z _)) (Fin.ext (by simp only; omega))
  · intro x hx
    obtain ⟨rfl, u, hu, rfl⟩ := hc 0 16 x hx
    rw [pay4_at, rdH_at, scr, dif_pos (by omega)]
    exact congrArg (fun z => x0 (ix2 z _) * k0_pay2 (F := Ideal) i) (Fin.ext (by simp only; omega))

/-- Some store of the scratch holds each of its indices. -/
theorem coverS (ct : Fin 16) (q : Fin 544) (l : Fin 128) :
    ∃ p ∈ groups (grpS i arg3 harg3 arg4 harg4 arg5 harg5 x0 x1 x2), (ix3 ct q l : S16x544x128.Idx) ∈ p.1.set := by
  have hl := l.isLt
  by_cases h : q.val < 16
  · refine ⟨_, groups_mem _ _ ct.val ct.isLt (List.mem_cons_of_mem _ (List.mem_cons_of_mem _ List.mem_cons_self)), ?_⟩
    refine (Rect.mem_set_unit (inb := inbS 0 16 ct.val (by omega) ct.isLt)).mpr fun a => ?_
    fin_cases a <;> simp [ix3] <;> omega
  · by_cases h' : q.val < 528
    · refine ⟨_, groups_mem _ _ ct.val ct.isLt (List.mem_cons_of_mem _ List.mem_cons_self), ?_⟩
      refine (Rect.mem_set_unit (inb := inbS 16 512 ct.val (by omega) ct.isLt)).mpr fun a => ?_
      fin_cases a <;> simp [ix3] <;> omega
    · refine ⟨_, groups_mem _ _ ct.val ct.isLt List.mem_cons_self, ?_⟩
      refine (Rect.mem_set_unit (inb := inbS 528 16 ct.val (by omega) ct.isLt)).mpr fun a => ?_
      fin_cases a <;> simp [ix3] <;> omega

/-- Rows of the scratch read at one index. -/
theorem rdE_at (ct o : ℕ) (hct : ct < 16) (ho : o + 64 ≤ 544) (p : Fin 64) (l : Fin 128) :
    rdE c i arg3 harg3 arg4 harg4 arg5 harg5 arg9 x0 x1 x2 ct o hct ho (ix3 0 p l)
      = scr i x0 x1 x2 ⟨o + p.val, by omega⟩ ⟨ct * 128 + l.val, by omega⟩ := by
  have hx : (Rect.unit (s := S16x544x128) ![ct, o, 0] S1x64x128.size (inbS o 64 ct ho hct)).toLoadRect.idx (ix3 0 p l)
      = (ix3 ⟨ct, hct⟩ ⟨o + p.val, by omega⟩ l : S16x544x128.Idx) := by
    ext a
    fin_cases a <;> simp [ix3]
  unfold rdE
  rw [View.readCov_eq_canon']
  beta_reduce
  rw [hx, storesS]
  refine View.canon_eq_of_allAt _ _ _ (coverS i arg3 harg3 arg4 harg4 arg5 harg5 x0 x1 x2 _ _ _) ?_
  intro pc hpc
  obtain ⟨j, hj, hm⟩ := mem_groups _ _ hpc
  exact grpS_at i arg3 harg3 arg4 harg4 arg5 harg5 x0 x1 x2 j hj _ ⟨ct, hct⟩ ⟨o + p.val, by omega⟩ l rfl pc hm

/-! ## A block's output -/

/-- A block's output at one index. -/
def outB (i : grid0.Coords) (x0 : Vec Ideal S16x2048 .bf16) (x1 : Vec Ideal S512x2048 .bf16) (x2 : Vec Ideal S16x2048 .bf16)
    (x3 : Vec Ideal S7x2048 .f32) (x4 : Vec Ideal S1x2048 .f32) (r : Fin 512) (j : Fin 2048) : EReal :=
  silu (acc (x4 (ix2 0 j)) (fun k => x3 (ix2 k j)) (fun k => scr i x0 x1 x2 ⟨r.val + 13 + k.val, by omega⟩ j))

/-- Where a tile holds an index of the block, it has that index's value. -/
theorem tile_at (ct rb : ℕ) (hct : ct < 16) (hrb : rb < 8) (y : S512x2048.Idx) (r : Fin 512) (j : Fin 2048) (hy : y = ix2 r j) :
    View.AllAt [tile c i arg3 harg3 arg4 harg4 arg5 harg5 arg6 harg6 arg7 harg7 arg9 x0 x1 x2 x3 x4 ct rb hct hrb] y (outB i x0 x1 x2 x3 x4 r j) := by
  refine View.allAt_cons_unit _ _ _ _ _ ?_ (View.allAt_nil _ _)
  intro x hx
  subst hy
  have h0 := hx 0
  have h1 := hx 1
  have b0 : (x 0).val < 64 := (x 0).isLt
  have b1 : (x 1).val < 128 := (x 1).isLt
  simp only [ix2] at h0 h1
  have hx' : x = ix2 ⟨(x 0).val, b0⟩ ⟨(x 1).val, b1⟩ := by ext a; fin_cases a <;> rfl
  rw [hx', tileV_at]
  simp only [rd4_at, rd3_at, rdE_at, outB]
  have hr : r.val = rb * 64 + (x 0).val := by simpa using h0
  have hj : (⟨ct * 128 + (x 1).val, by omega⟩ : Fin 2048) = j := Fin.ext (by simpa using h1.symm)
  rw [hj]
  refine congrArg silu (congrArg (acc _ _) (funext fun k => ?_))
  have hq : (⟨rb * 64 + 13 + k.val + (x 0).val, by omega⟩ : Fin 544) = ⟨r.val + 13 + k.val, by omega⟩ := Fin.ext (by simp only; omega)
  rw [hq, hj]

set_option maxHeartbeats 8000000 in
/-- The block's stores are the sixteen groups' tiles. -/
theorem stores5 : (kernelRun0_A (F := Ideal) c i arg3 harg3 arg4 harg4 arg5 harg5 arg6 harg6 arg7 harg7 arg8 harg8 arg9 harg9 x0 x1 x2 x3 x4).1
    = groups (grpO c i arg3 harg3 arg4 harg4 arg5 harg5 arg6 harg6 arg7 harg7 arg9 x0 x1 x2 x3 x4) := rfl

/-- What the body leaves in the result's buffer. -/
theorem out5_at (y : S512x2048.Idx) (r : Fin 512) (j : Fin 2048) (hy : y = ix2 r j) :
    out0_A_5 (F := Ideal) c i arg3 harg3 arg4 harg4 arg5 harg5 arg6 harg6 arg7 harg7 arg8 harg8 arg9 harg9 x0 x1 x2 x3 x4 y
      = outB i x0 x1 x2 x3 x4 r j := by
  unfold out0_A_5
  rw [View.read_writes_junk_eq_canon]
  refine View.canon_eq_of_allAt _ y _ (cover0_A_5 c i arg3 harg3 arg4 harg4 arg5 harg5 arg6 harg6 arg7 harg7 arg8 harg8 arg9 harg9 x0 x1 x2 x3 x4 y) ?_
  rw [stores5]
  intro pc hpc
  obtain ⟨ct, hct, hm⟩ := mem_groups _ _ hpc
  have hm' : ∃ rb hrb, pc = tile c i arg3 harg3 arg4 harg4 arg5 harg5 arg6 harg6 arg7 harg7 arg9 x0 x1 x2 x3 x4 ct rb hct hrb := by
    simp only [grpO, List.mem_cons, List.not_mem_nil, or_false] at hm
    rcases hm with h | h | h | h | h | h | h | h <;> exact ⟨_, _, h⟩
  obtain ⟨rb, hrb, rfl⟩ := hm'
  exact tile_at c i arg3 harg3 arg4 harg4 arg5 harg5 arg6 harg6 arg7 harg7 arg9 x0 x1 x2 x3 x4 ct rb hct hrb y r j hy _ List.mem_cons_self

end

end Cert.ConvIdeal.Value

end
-- ==== Proof.Conv.Whole.lean ====
/-
  The convolution's result from the whole arrays.
-/
module

public import proofs.«01_k».proof.Proof.Conv.Out

@[expose] public section

set_option maxRecDepth 16384

noncomputable section

open Idealize.ShloMosaic Idealize.ShloMosaic.TcCoe Idealize.SL.Sem
open Idealize.ShloMosaic.Pipeline (Dat)

namespace Cert.ConvIdeal.Value

open Cert.ConvIdeal Cert.ConvIdeal.Gen

/-- Row `n` of a sequence with three rows of zeros before it and after it, in one convolved column. -/
def srcAt (X : FVec Ideal S16384x10240 .bf16) (b : Fin 2) (n : ℕ) (j : Fin 6144) : EReal :=
  if h : 3 ≤ n ∧ n - 3 < 8192 then X (ix2 ⟨b.val * 8192 + (n - 3), by omega⟩ ⟨4096 + j.val, by omega⟩) else 0

/-- One element of the convolution from the arrays. -/
def convAt (X : FVec Ideal S16384x10240 .bf16) (W : FVec Ideal S7x6144 .f32) (B : FVec Ideal S1x6144 .f32) (r : Fin 16384) (j : Fin 6144) : EReal :=
  silu (acc (B (ix2 0 j)) (fun k => W (ix2 k j)) (fun k => srcAt X ⟨r.val / 8192, by omega⟩ (r.val % 8192 + k.val) j))

/-- The blocks each grid point reads and writes, and its place in its sequence. -/
theorem idx : ∀ t : Fin cfg0.N, win0_0.index t = ![t.val / 3 * 32 - 1, t.val % 3 + 2] ∧ win0_1.index t = ![t.val / 3, t.val % 3 + 2]
    ∧ win0_2.index t = ![min ((t.val / 3 + 1) * 32) 1023, t.val % 3 + 2] ∧ win0_3.index t = ![0, t.val % 3] ∧ win0_4.index t = ![0, t.val % 3]
    ∧ win0_5.index t = ![t.val / 3, t.val % 3] ∧ (grid0.coords t 1).val = t.val / 3 % 16 :=
  (by decide +kernel : ∀ t : Fin grid0.N, _)

/-- The row of the arrays at row `r` of the grid point's blocks. -/
def row (t : Fin cfg0.N) (r : Fin 512) : Fin 16384 := ⟨t.val / 3 * 512 + r.val, by have h : t.val < 96 := t.isLt; omega⟩

/-- The column of the result at column `j` of the grid point's blocks. -/
def col (t : Fin cfg0.N) (j : Fin 2048) : Fin 6144 := ⟨t.val % 3 * 2048 + j.val, by omega⟩

/-- The column of the source at column `j` of the grid point's blocks. -/
def colX (t : Fin cfg0.N) (j : Fin 2048) : Fin 10240 := ⟨(t.val % 3 + 2) * 2048 + j.val, by omega⟩

/-- The row of the source at row `q` of the rows before the grid point's block. -/
def rowP (t : Fin cfg0.N) (q : Fin 16) : Fin 16384 := ⟨(t.val / 3 * 32 - 1) * 16 + q.val, by have h : t.val < 96 := t.isLt; omega⟩

/-- The row of the source at row `q` of the rows after the grid point's block. -/
def rowN (t : Fin cfg0.N) (q : Fin 16) : Fin 16384 := ⟨min ((t.val / 3 + 1) * 32) 1023 * 16 + q.val, by have h : t.val < 96 := t.isLt; omega⟩

/-- What the rows before, in and after a block leave in the scratch is the sequence between zeros. -/
theorem scr_at (X : FVec Ideal S16384x10240 .bf16) (t : Fin cfg0.N) (x0 x1 x2) (h0 : ∀ q j, x0 (ix2 q j) = X (ix2 (rowP t q) (colX t j)))
    (h1 : ∀ q j, x1 (ix2 q j) = X (ix2 (row t q) (colX t j))) (h2 : ∀ q j, x2 (ix2 q j) = X (ix2 (rowN t q) (colX t j)))
    (r : Fin 512) (k : Fin 7) (j : Fin 2048) :
    scr (grid0.coords t) x0 x1 x2 ⟨r.val + 13 + k.val, by omega⟩ j
      = srcAt X ⟨(row t r).val / 8192, by omega⟩ ((row t r).val % 8192 + k.val) (col t j) := by
  obtain ⟨_, _, _, _, _, _, ei⟩ := idx t
  have ht : t.val < 96 := t.isLt
  have hX : ∀ (a a' : Fin 16384) (e e' : Fin 10240), a = a' → e = e' → X (ix2 a e) = X (ix2 a' e') := by
    rintro a _ e _ rfl rfl; rfl
  unfold scr srcAt
  rw [pay2_at, pay3_at, ei]
  by_cases hq : r.val + 13 + k.val < 16
  · rw [dif_pos hq, h0]
    by_cases hi : t.val / 3 % 16 = 0
    · rw [if_pos hi, dif_neg (by simp only [row]; omega), mul_zero]
    · rw [if_neg hi, dif_pos (by simp only [row]; omega), mul_one]
      exact hX _ _ _ _ (Fin.ext (by simp only [row, rowP]; omega)) (Fin.ext (by simp only [col, colX]; omega))
  · rw [dif_neg hq]
    by_cases hq' : r.val + 13 + k.val < 528
    · rw [dif_pos hq', h1, dif_pos (by simp only [row]; omega)]
      exact hX _ _ _ _ (Fin.ext (by simp only [row]; omega)) (Fin.ext (by simp only [col, colX]; omega))
    · rw [dif_neg hq', h2]
      by_cases hi : t.val / 3 % 16 = 15
      · rw [if_pos hi, dif_neg (by simp only [row]; omega), mul_zero]
      · rw [if_neg hi, dif_pos (by simp only [row]; omega), mul_one]
        exact hX _ _ _ _ (Fin.ext (by simp only [row, rowN]; omega)) (Fin.ext (by simp only [col, colX]; omega))

section
variable (m : (ℓ : Loc nD τ sig) → Buf (Elt Ideal) ℓ)

/-- Every block read, from the kernel's arguments. -/
theorem blocks_at (c : Dev nD) (t : Fin cfg0.N) :
    (∀ q j, iblk m c 0 t (ix2 q j) = m ((c : Thread nD τ).loc main_arg0) (ix2 (rowP t q) (colX t j)))
    ∧ (∀ q j, iblk m c 1 t (ix2 q j) = m ((c : Thread nD τ).loc main_arg0) (ix2 (row t q) (colX t j)))
    ∧ (∀ q j, iblk m c 2 t (ix2 q j) = m ((c : Thread nD τ).loc main_arg0) (ix2 (rowN t q) (colX t j)))
    ∧ (∀ k j, iblk m c 3 t (ix2 k j) = m ((c : Thread nD τ).loc main_arg1) (ix2 k (col t j)))
    ∧ (∀ j, iblk m c 4 t (ix2 (0 : Fin 1) j) = m ((c : Thread nD τ).loc main_arg2) (ix2 (0 : Fin 1) (col t j))) := by
  obtain ⟨e0, e1, e2, e3, e4, e5, e6⟩ := idx t
  refine ⟨fun q j => ?_, fun q j => ?_, fun q j => ?_, fun k j => ?_, fun j => ?_⟩
  · blk_ext [iblk, V, e0, rowP, colX]
  · blk_ext [iblk, V, e1, row, colX]
  · blk_ext [iblk, V, e2, rowN, colX]
  · blk_ext [iblk, V, e3, col]
  · blk_ext [iblk, V, e4, col]

/-- The result, from any `G` which is `convAt` of the arguments at each index. -/
theorem final (c : Dev nD) (G : S16384x6144.Idx → EReal)
    (hG : ∀ (r : Fin 16384) (j : Fin 6144), G (ix2 r j) = convAt (m ((c : Thread nD τ).loc main_arg0)) (m ((c : Thread nD τ).loc main_arg1))
      (m ((c : Thread nD τ).loc main_arg2)) r j) :
    (dats m 0 c).arrAt 5 cfg0.N = G := by
  refine (dats m 0 c).arrAt_eq_of_covers 5 _ (by decide +kernel) fun t _ y => ?_
  blk_simp
  rw [after0_5]
  unfold outsAt0
  have hy0 : (y 0).val < 512 := (y 0).isLt
  have hy1 : (y 1).val < 2048 := (y 1).isLt
  have hy : y = ix2 ⟨(y 0).val, hy0⟩ ⟨(y 1).val, hy1⟩ := by ext a; fin_cases a <;> rfl
  refine (out5_at _ _ _ _ _ _ _ _ _ _ _ _ _ _ _ _ _ _ _ _ _ y _ _ hy).trans ?_
  obtain ⟨b0, b1, b2, b3, b4⟩ := blocks_at m c t
  have hB : outB (grid0.coords t) (iblk m c 0 t) (iblk m c 1 t) (iblk m c 2 t) (iblk m c 3 t) (iblk m c 4 t) ⟨(y 0).val, hy0⟩ ⟨(y 1).val, hy1⟩
      = convAt (m ((c : Thread nD τ).loc main_arg0)) (m ((c : Thread nD τ).loc main_arg1)) (m ((c : Thread nD τ).loc main_arg2))
        (row t ⟨(y 0).val, hy0⟩) (col t ⟨(y 1).val, hy1⟩) := by
    unfold outB convAt
    rw [b4]
    simp only [b3]
    exact congrArg silu (congrArg (acc _ _) (funext fun k => scr_at _ t _ _ _ b0 b1 b2 _ k _))
  refine hB.trans ((hG _ _).symm.trans ?_)
  obtain ⟨e0, e1, e2, e3, e4, e5, e6⟩ := idx t
  blk_ext [e5, row, col]

end

end Cert.ConvIdeal.Value

end
-- ==== Proof.Conv.Ref.lean ====
/-
  The reference's convolution, read at one index.
-/
module

public import proofs.«01_k».proof.Proof.Gen.ConvRefIdeal.Run
public import proofs.«01_k».proof.Proof.Conv.Whole

@[expose] public section

set_option maxRecDepth 16384

noncomputable section

open Idealize.ShloMosaic Idealize.ShloMosaic.TcCoe Idealize.SL.Sem

namespace Cert.ConvRefIdeal.Value

open Cert.ConvRefIdeal Cert.ConvRefIdeal.Gen Cert.ConvIdeal.Value

/-- The convolved columns, one array for each sequence. -/
def seqs (X : FVec Ideal S16384x10240 .bf16) : FVec Ideal S2x8192x6144 .f32 :=
  shapeCast _ (extractStridedSlice S16384x6144 ![0, 4096] (extf .f32 X bitsLt_bf16_f32) slices_S16384x10240_S16384x6144_0_4096) shapeCasts_S16384x6144_S2x8192x6144

/-- The sequences with three rows of zeros before and after each. -/
def padded (X : FVec Ideal S16384x10240 .bf16) : FVec Ideal S2x8198x6144 .f32 :=
  pad S2x8198x6144 ![0, 3, 0] ![0, 3, 0] ![0, 0, 0] (seqs X) (sitofp .f32 (constantI S_ 32 0#32)) pads_S2x8192x6144_S2x8198x6144_000_330_000 h_S_

/-- The rows from row `o` on, times tap `o`. -/
def prod (X : FVec Ideal S16384x10240 .bf16) (W : FVec Ideal S7x6144 .f32) (o : ℕ) (hX : S2x8198x6144.Slices ![0, o, 0] S2x8192x6144)
    (hW : S7x6144.Slices ![o, 0] S1x6144) : FVec Ideal S2x8192x6144 .f32 :=
  mulf (extractStridedSlice S2x8192x6144 ![0, o, 0] (padded X) hX)
    (broadcastInDim S2x8192x6144 ![0, 1, 2] bcast_S1x1x6144_S2x8192x6144_0_1_2 (broadcastInDim S1x1x6144 ![2] bcast_S6144_S1x1x6144_2
      (shapeCast _ (extractStridedSlice S1x6144 ![o, 0] W hW) shapeCasts_S1x6144_S6144)))

/-- Zeros. -/
def zeros : FVec Ideal S2x8192x6144 .f32 := broadcastInDim S2x8192x6144 ![] bcast_S_S2x8192x6144 (constant S_ .f32 0x00000000#32)

/-- Ones. -/
def ones : FVec Ideal S2x8192x6144 .f32 := broadcastInDim S2x8192x6144 ![] bcast_S_S2x8192x6144 (constant S_ .f32 0x3F800000#32)

/-- The bias, repeated for each row. -/
def biases (B : FVec Ideal S1x6144 .f32) : FVec Ideal S2x8192x6144 .f32 :=
  broadcastInDim S2x8192x6144 ![0, 1, 2] bcast_S1x1x6144_S2x8192x6144_0_1_2 (broadcastInDim S1x1x6144 ![2] bcast_S6144_S1x1x6144_2
    (shapeCast _ B shapeCasts_S1x6144_S6144))

/-- The convolution before its activation. -/
def sums (X : FVec Ideal S16384x10240 .bf16) (W : FVec Ideal S7x6144 .f32) (B : FVec Ideal S1x6144 .f32) : FVec Ideal S2x8192x6144 .f32 :=
  addf (addf (addf (addf (addf (addf (addf (addf zeros
    (prod X W 0 slices_S2x8198x6144_S2x8192x6144_0_0_0 slices_S7x6144_S1x6144_0_0))
    (prod X W 1 slices_S2x8198x6144_S2x8192x6144_0_1_0 slices_S7x6144_S1x6144_1_0))
    (prod X W 2 slices_S2x8198x6144_S2x8192x6144_0_2_0 slices_S7x6144_S1x6144_2_0))
    (prod X W 3 slices_S2x8198x6144_S2x8192x6144_0_3_0 slices_S7x6144_S1x6144_3_0))
    (prod X W 4 slices_S2x8198x6144_S2x8192x6144_0_4_0 slices_S7x6144_S1x6144_4_0))
    (prod X W 5 slices_S2x8198x6144_S2x8192x6144_0_5_0 slices_S7x6144_S1x6144_5_0))
    (prod X W 6 slices_S2x8198x6144_S2x8192x6144_0_6_0 slices_S7x6144_S1x6144_6_0)) (biases B)

/-- The activation of a whole array. -/
def acts (A : FVec Ideal S2x8192x6144 .f32) : FVec Ideal S2x8192x6144 .f32 :=
  mulf A (Host.divf ones (addf ones (Host.exp (Host.negf A))))

/-- The reference's result. -/
def whole (X : FVec Ideal S16384x10240 .bf16) (W : FVec Ideal S7x6144 .f32) (B : FVec Ideal S1x6144 .f32) : FVec Ideal S16384x6144 .bf16 :=
  truncf .bf16 (shapeCast S16384x6144 (acts (sums X W B)) shapeCasts_S2x8192x6144_S16384x6144) bitsLt_bf16_f32

/-- The sequences, read at one index. -/
theorem seqs_at (X) (b : Fin 2) (p : Fin 8192) (j : Fin 6144) :
    seqs X (ix3 b p j) = X (ix2 ⟨b.val * 8192 + p.val, by omega⟩ ⟨4096 + j.val, by omega⟩) := by
  pointwise [seqs]

/-- The sequences between zeros, read at one index. -/
theorem padded_at (X) (b : Fin 2) (p : Fin 8198) (j : Fin 6144) : padded X (ix3 b p j) = srcAt X b p.val j := by
  have h0 : (FloatOps.sitofp .f32 (0#32) : Ideal .f32) = (0 : EReal) := by
    change ((((0#32 : BitVec 32).toInt : ℤ) : ℝ) : EReal) = 0
    norm_num
  have h : padded X (ix3 b p j) = if h : 3 ≤ p.val ∧ p.val - 3 < 8192 then seqs X (ix3 b ⟨p.val - 3, h.2⟩ j) else (FloatOps.sitofp .f32 (0#32) : Ideal .f32) := by
    pointwise [padded]
  rw [h, h0, srcAt]
  simp only [seqs_at]

/-- One product, read at one index. -/
theorem prod_at (X W) (o : ℕ) (ho : o < 7) (hX hW) (b : Fin 2) (p : Fin 8192) (j : Fin 6144) :
    prod X W o hX hW (ix3 b p j) = srcAt X b (p.val + o) j * W (ix2 ⟨o, ho⟩ j) := by
  have h : prod X W o hX hW (ix3 b p j) = padded X (ix3 b ⟨o + p.val, by omega⟩ j) * W (ix2 ⟨o, ho⟩ j) := by
    pointwise [prod]
  rw [h, padded_at, Nat.add_comm p.val o]

/-- Zeros, read at one index. -/
theorem zeros_at (b : Fin 2) (p : Fin 8192) (j : Fin 6144) : zeros (ix3 b p j) = 0 := by
  pointwise [zeros]

/-- The bias, read at one index. -/
theorem biases_at (B) (b : Fin 2) (p : Fin 8192) (j : Fin 6144) : biases B (ix3 b p j) = B (ix2 0 j) := by
  pointwise [biases]

/-- The convolution before its activation, read at one index, is the kernel's: addition's order does not matter. -/
theorem sums_at (X W B) (b : Fin 2) (p : Fin 8192) (j : Fin 6144) :
    sums X W B (ix3 b p j) = acc (B (ix2 0 j)) (fun k => W (ix2 k j)) (fun k => srcAt X b (p.val + k.val) j) := by
  have h : sums X W B (ix3 b p j) = zeros (ix3 b p j)
      + prod X W 0 slices_S2x8198x6144_S2x8192x6144_0_0_0 slices_S7x6144_S1x6144_0_0 (ix3 b p j)
      + prod X W 1 slices_S2x8198x6144_S2x8192x6144_0_1_0 slices_S7x6144_S1x6144_1_0 (ix3 b p j)
      + prod X W 2 slices_S2x8198x6144_S2x8192x6144_0_2_0 slices_S7x6144_S1x6144_2_0 (ix3 b p j)
      + prod X W 3 slices_S2x8198x6144_S2x8192x6144_0_3_0 slices_S7x6144_S1x6144_3_0 (ix3 b p j)
      + prod X W 4 slices_S2x8198x6144_S2x8192x6144_0_4_0 slices_S7x6144_S1x6144_4_0 (ix3 b p j)
      + prod X W 5 slices_S2x8198x6144_S2x8192x6144_0_5_0 slices_S7x6144_S1x6144_5_0 (ix3 b p j)
      + prod X W 6 slices_S2x8198x6144_S2x8192x6144_0_6_0 slices_S7x6144_S1x6144_6_0 (ix3 b p j) + biases B (ix3 b p j) := rfl
  rw [h, zeros_at, biases_at, prod_at X W 0 (by omega), prod_at X W 1 (by omega), prod_at X W 2 (by omega), prod_at X W 3 (by omega),
    prod_at X W 4 (by omega), prod_at X W 5 (by omega), prod_at X W 6 (by omega), zero_add, add_comm]
  simp only [acc, ← add_assoc]
  rfl

/-- The activation, read at one index. -/
theorem acts_at (A) (b : Fin 2) (p : Fin 8192) (j : Fin 6144) : acts A (ix3 b p j) = silu (A (ix3 b p j)) := by
  pointwise [acts, ones, silu, Ideal.logistic]

/-- The reference's result at one index is the kernel's. -/
theorem whole_at (X W B) (r : Fin 16384) (j : Fin 6144) : whole X W B (ix2 r j) = convAt X W B r j := by
  have h : whole X W B (ix2 r j) = acts (sums X W B) (ix3 ⟨r.val / 8192, by omega⟩ ⟨r.val % 8192, by omega⟩ j) := by
    pointwise [whole]
  rw [h, acts_at, sums_at, convAt]

end Cert.ConvRefIdeal.Value

end
-- ==== Proof.Tab.Value.lean ====
/-
  The rotary tables, block by block: each element of the five results from one position and one frequency.
-/
module

public import proofs.«01_k».proof.Proof.Gen.TabIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.TabIdeal.Value

open Cert.TabIdeal Cert.TabIdeal.Gen

variable (m : (ℓ : Loc nD τ sig) → Buf (Elt Ideal) ℓ)

/-- The cosines twice, then zeros: one row of the first table, at the position `p`. -/
def cosRow (p : EReal) (f : Fin 32 → EReal) (j : Fin 128) : EReal :=
  if h : j.val < 32 then Ideal.cos (p * f ⟨j.val, h⟩) else if h : j.val - 32 < 32 then Ideal.cos (p * f ⟨j.val - 32, h⟩) else 0

/-- Zeros, the sines, then zeros: one row of the second table. -/
def sinRow (p : EReal) (f : Fin 32 → EReal) (j : Fin 128) : EReal :=
  if h : j.val < 32 then 0 else if h : j.val - 32 < 32 then Ideal.sin (p * f ⟨j.val - 32, h⟩) else 0

/-- The negated sines, then zeros: one row of the third table. -/
def negRow (p : EReal) (f : Fin 32 → EReal) (j : Fin 128) : EReal :=
  if h : j.val < 32 then -Ideal.sin (p * f ⟨j.val, h⟩) else if h : j.val - 32 < 32 then 0 else 0

/-- The first stored block, read at one index. -/
theorem pay6_at (v0 v1) (r : Fin 2048) (j : Fin 128) :
    k0_pay6 (F := Ideal) v0 v1 (ix2 r j) = cosRow (v0 (ix2 0 r)) (fun k => v1 (ix2 k 0)) j := by
  pointwise [k0_pay6, k0_pay5, k0_pay4, k0_pay3, k0_pay2, k0_pay1, cosRow]

/-- The second stored block, read at one index. -/
theorem pay7_at (v0 v1) (r : Fin 2048) (j : Fin 128) :
    k0_pay7 (F := Ideal) v0 v1 (ix2 r j) = sinRow (v0 (ix2 0 r)) (fun k => v1 (ix2 k 0)) j := by
  pointwise [k0_pay7, k0_pay5, k0_pay4, k0_pay3, k0_pay2, k0_pay1, sinRow]

/-- The third stored block, read at one index. -/
theorem pay8_at (v0 v1) (r : Fin 2048) (j : Fin 128) :
    k0_pay8 (F := Ideal) v0 v1 (ix2 r j) = negRow (v0 (ix2 0 r)) (fun k => v1 (ix2 k 0)) j := by
  pointwise [k0_pay8, k0_pay5, k0_pay4, k0_pay3, k0_pay2, k0_pay1, negRow, zero_sub]

/-- The fourth stored block, read at one index. -/
theorem pay2_at (v0 v1) (k : Fin 32) (r : Fin 2048) :
    k0_pay2 (F := Ideal) v0 v1 (ix2 k r) = Ideal.cos (v0 (ix2 0 r) * v1 (ix2 k 0)) := by
  pointwise [k0_pay2, k0_pay1]

/-- The fifth stored block, read at one index. -/
theorem pay3_at (v0 v1) (k : Fin 32) (r : Fin 2048) :
    k0_pay3 (F := Ideal) v0 v1 (ix2 k r) = Ideal.sin (v0 (ix2 0 r) * v1 (ix2 k 0)) := by
  pointwise [k0_pay3, k0_pay1]

/-- The blocks each grid point reads and writes. -/
theorem idx : ∀ t : Fin cfg0.N, win0_0.index t = ![0, t.val] ∧ win0_1.index t = ![0, 0] ∧ win0_2.index t = ![t.val, 0]
    ∧ win0_3.index t = ![t.val, 0] ∧ win0_4.index t = ![t.val, 0] ∧ win0_5.index t = ![0, t.val] ∧ win0_6.index t = ![0, t.val] :=
  (by decide +kernel : ∀ t : Fin grid0.N, _)

/-- The position in the arrays of position `r` of the grid point's blocks. -/
def row (t : Fin cfg0.N) (r : Fin 2048) : Fin 16384 := ⟨t.val * 2048 + r.val, by have h : t.val < 8 := t.isLt; omega⟩

/-- Every block read, from the kernel's arguments. -/
theorem blocks_at (c : Dev nD) (t : Fin cfg0.N) :
    (∀ r, iblk m c 0 t (ix2 (0 : Fin 1) r) = m ((c : Thread nD τ).loc main_arg0) (ix2 (0 : Fin 1) (row t r)))
    ∧ (∀ k, iblk m c 1 t (ix2 k (0 : Fin 1)) = m ((c : Thread nD τ).loc main_arg1) (ix2 k (0 : Fin 1))) := by
  obtain ⟨e0, e1, e2, e3, e4, e5, e6⟩ := idx t
  refine ⟨fun r => ?_, fun k => ?_⟩
  · blk_ext [iblk, V, e0, row]
  · blk_ext [iblk, V, e1]

/-- One element of the first table from the arrays. -/
def cosAt (P : FVec Ideal S1x16384 .f32) (Q : FVec Ideal S32x1 .f32) (r : Fin 16384) (j : Fin 128) : EReal :=
  cosRow (P (ix2 0 r)) (fun k => Q (ix2 k 0)) j

/-- One element of the second table from the arrays. -/
def sinAt (P : FVec Ideal S1x16384 .f32) (Q : FVec Ideal S32x1 .f32) (r : Fin 16384) (j : Fin 128) : EReal :=
  sinRow (P (ix2 0 r)) (fun k => Q (ix2 k 0)) j

/-- One element of the third table from the arrays. -/
def negAt (P : FVec Ideal S1x16384 .f32) (Q : FVec Ideal S32x1 .f32) (r : Fin 16384) (j : Fin 128) : EReal :=
  negRow (P (ix2 0 r)) (fun k => Q (ix2 k 0)) j

/-- The angle at one position and one frequency. -/
def angle (P : FVec Ideal S1x16384 .f32) (Q : FVec Ideal S32x1 .f32) (k : Fin 32) (r : Fin 16384) : EReal :=
  P (ix2 0 r) * Q (ix2 k 0)

/-- What the body leaves in the first result's buffer. -/
theorem out2_at (x0 x1) (y : S2048x128.Idx) (r : Fin 2048) (j : Fin 128) (hy : y = ix2 r j) :
    out0_2 (F := Ideal) x0 x1 y = cosRow (x0 (ix2 0 r)) (fun k => x1 (ix2 k 0)) j := by
  subst hy
  have h : out0_2 (F := Ideal) x0 x1 (ix2 r j) = k0_pay6 x0 x1 (ix2 r j) := by
    unfold out0_2
    frame_out
  rw [h, pay6_at]

/-- What the body leaves in the second result's buffer. -/
theorem out3_at (x0 x1) (y : S2048x128.Idx) (r : Fin 2048) (j : Fin 128) (hy : y = ix2 r j) :
    out0_3 (F := Ideal) x0 x1 y = sinRow (x0 (ix2 0 r)) (fun k => x1 (ix2 k 0)) j := by
  subst hy
  have h : out0_3 (F := Ideal) x0 x1 (ix2 r j) = k0_pay7 x0 x1 (ix2 r j) := by
    unfold out0_3
    frame_out
  rw [h, pay7_at]

/-- What the body leaves in the third result's buffer. -/
theorem out4_at (x0 x1) (y : S2048x128.Idx) (r : Fin 2048) (j : Fin 128) (hy : y = ix2 r j) :
    out0_4 (F := Ideal) x0 x1 y = negRow (x0 (ix2 0 r)) (fun k => x1 (ix2 k 0)) j := by
  subst hy
  have h : out0_4 (F := Ideal) x0 x1 (ix2 r j) = k0_pay8 x0 x1 (ix2 r j) := by
    unfold out0_4
    frame_out
  rw [h, pay8_at]

/-- What the body leaves in the fourth result's buffer. -/
theorem out5_at (x0 x1) (y : S32x2048.Idx) (k : Fin 32) (r : Fin 2048) (hy : y = ix2 k r) :
    out0_5 (F := Ideal) x0 x1 y = Ideal.cos (x0 (ix2 0 r) * x1 (ix2 k 0)) := by
  subst hy
  have h : out0_5 (F := Ideal) x0 x1 (ix2 k r) = k0_pay2 x0 x1 (ix2 k r) := by
    unfold out0_5
    frame_out
  rw [h, pay2_at]

/-- What the body leaves in the fifth result's buffer. -/
theorem out6_at (x0 x1) (y : S32x2048.Idx) (k : Fin 32) (r : Fin 2048) (hy : y = ix2 k r) :
    out0_6 (F := Ideal) x0 x1 y = Ideal.sin (x0 (ix2 0 r) * x1 (ix2 k 0)) := by
  subst hy
  have h : out0_6 (F := Ideal) x0 x1 (ix2 k r) = k0_pay3 x0 x1 (ix2 k r) := by
    unfold out0_6
    frame_out
  rw [h, pay3_at]

/-- The first result, from any `G` which is `cosAt` of the arguments at each index. -/
theorem final2 (c : Dev nD) (G : S16384x128.Idx → EReal)
    (hG : ∀ (r : Fin 16384) (j : Fin 128), G (ix2 r j) = cosAt (m ((c : Thread nD τ).loc main_arg0)) (m ((c : Thread nD τ).loc main_arg1)) r j) :
    (dats m 0 c).arrAt 2 cfg0.N = G := by
  refine (dats m 0 c).arrAt_eq_of_covers 2 _ (by decide +kernel) fun t _ y => ?_
  blk_simp
  rw [after0_2]
  have hy0 : (y 0).val < 2048 := (y 0).isLt
  have hy1 : (y 1).val < 128 := (y 1).isLt
  have hy : y = ix2 ⟨(y 0).val, hy0⟩ ⟨(y 1).val, hy1⟩ := by ext a; fin_cases a <;> rfl
  refine (out2_at _ _ y _ _ hy).trans ?_
  obtain ⟨b0, b1⟩ := blocks_at m c t
  simp only [b0, b1]
  refine (hG (row t ⟨(y 0).val, hy0⟩) ⟨(y 1).val, hy1⟩).symm.trans ?_
  obtain ⟨e0, e1, e2, e3, e4, e5, e6⟩ := idx t
  blk_ext [e2, row]

/-- The second result, from any `G` which is `sinAt` of the arguments at each index. -/
theorem final3 (c : Dev nD) (G : S16384x128.Idx → EReal)
    (hG : ∀ (r : Fin 16384) (j : Fin 128), G (ix2 r j) = sinAt (m ((c : Thread nD τ).loc main_arg0)) (m ((c : Thread nD τ).loc main_arg1)) r j) :
    (dats m 0 c).arrAt 3 cfg0.N = G := by
  refine (dats m 0 c).arrAt_eq_of_covers 3 _ (by decide +kernel) fun t _ y => ?_
  blk_simp
  rw [after0_3]
  have hy0 : (y 0).val < 2048 := (y 0).isLt
  have hy1 : (y 1).val < 128 := (y 1).isLt
  have hy : y = ix2 ⟨(y 0).val, hy0⟩ ⟨(y 1).val, hy1⟩ := by ext a; fin_cases a <;> rfl
  refine (out3_at _ _ y _ _ hy).trans ?_
  obtain ⟨b0, b1⟩ := blocks_at m c t
  simp only [b0, b1]
  refine (hG (row t ⟨(y 0).val, hy0⟩) ⟨(y 1).val, hy1⟩).symm.trans ?_
  obtain ⟨e0, e1, e2, e3, e4, e5, e6⟩ := idx t
  blk_ext [e3, row]

/-- The third result, from any `G` which is `negAt` of the arguments at each index. -/
theorem final4 (c : Dev nD) (G : S16384x128.Idx → EReal)
    (hG : ∀ (r : Fin 16384) (j : Fin 128), G (ix2 r j) = negAt (m ((c : Thread nD τ).loc main_arg0)) (m ((c : Thread nD τ).loc main_arg1)) r j) :
    (dats m 0 c).arrAt 4 cfg0.N = G := by
  refine (dats m 0 c).arrAt_eq_of_covers 4 _ (by decide +kernel) fun t _ y => ?_
  blk_simp
  rw [after0_4]
  have hy0 : (y 0).val < 2048 := (y 0).isLt
  have hy1 : (y 1).val < 128 := (y 1).isLt
  have hy : y = ix2 ⟨(y 0).val, hy0⟩ ⟨(y 1).val, hy1⟩ := by ext a; fin_cases a <;> rfl
  refine (out4_at _ _ y _ _ hy).trans ?_
  obtain ⟨b0, b1⟩ := blocks_at m c t
  simp only [b0, b1]
  refine (hG (row t ⟨(y 0).val, hy0⟩) ⟨(y 1).val, hy1⟩).symm.trans ?_
  obtain ⟨e0, e1, e2, e3, e4, e5, e6⟩ := idx t
  blk_ext [e4, row]

/-- The fourth result, from any `G` with the same cosine at each index. -/
theorem final5 (c : Dev nD) (G : S32x16384.Idx → EReal)
    (hG : ∀ (k : Fin 32) (r : Fin 16384), G (ix2 k r)
      = Ideal.cos (angle (m ((c : Thread nD τ).loc main_arg0)) (m ((c : Thread nD τ).loc main_arg1)) k r)) :
    (dats m 0 c).arrAt 5 cfg0.N = G := by
  refine (dats m 0 c).arrAt_eq_of_covers 5 _ (by decide +kernel) fun t _ y => ?_
  blk_simp
  rw [after0_5]
  have hy0 : (y 0).val < 32 := (y 0).isLt
  have hy1 : (y 1).val < 2048 := (y 1).isLt
  have hy : y = ix2 ⟨(y 0).val, hy0⟩ ⟨(y 1).val, hy1⟩ := by ext a; fin_cases a <;> rfl
  refine (out5_at _ _ y _ _ hy).trans ?_
  obtain ⟨b0, b1⟩ := blocks_at m c t
  simp only [b0, b1]
  refine (hG ⟨(y 0).val, hy0⟩ (row t ⟨(y 1).val, hy1⟩)).symm.trans ?_
  obtain ⟨e0, e1, e2, e3, e4, e5, e6⟩ := idx t
  blk_ext [e5, row]

/-- The fifth result, from any `G` with the same sine at each index. -/
theorem final6 (c : Dev nD) (G : S32x16384.Idx → EReal)
    (hG : ∀ (k : Fin 32) (r : Fin 16384), G (ix2 k r)
      = Ideal.sin (angle (m ((c : Thread nD τ).loc main_arg0)) (m ((c : Thread nD τ).loc main_arg1)) k r)) :
    (dats m 0 c).arrAt 6 cfg0.N = G := by
  refine (dats m 0 c).arrAt_eq_of_covers 6 _ (by decide +kernel) fun t _ y => ?_
  blk_simp
  rw [after0_6]
  have hy0 : (y 0).val < 32 := (y 0).isLt
  have hy1 : (y 1).val < 2048 := (y 1).isLt
  have hy : y = ix2 ⟨(y 0).val, hy0⟩ ⟨(y 1).val, hy1⟩ := by ext a; fin_cases a <;> rfl
  refine (out6_at _ _ y _ _ hy).trans ?_
  obtain ⟨b0, b1⟩ := blocks_at m c t
  simp only [b0, b1]
  refine (hG ⟨(y 0).val, hy0⟩ (row t ⟨(y 1).val, hy1⟩)).symm.trans ?_
  obtain ⟨e0, e1, e2, e3, e4, e5, e6⟩ := idx t
  blk_ext [e6, row]

end Cert.TabIdeal.Value

end
-- ==== Proof.Tab.Ref.lean ====
/-
  The reference's rotary tables, read at one index.
-/
module

public import proofs.«01_k».proof.Proof.Gen.TabRefIdeal.Run
public import proofs.«01_k».proof.Proof.Tab.Value

@[expose] public section

set_option maxRecDepth 16384

noncomputable section

open Idealize.ShloMosaic Idealize.ShloMosaic.TcCoe Idealize.SL.Sem

namespace Cert.TabRefIdeal.Value

open Cert.TabRefIdeal Cert.TabRefIdeal.Gen Cert.TabIdeal.Value

/-- The angles, one row for each position. -/
def angles (P : FVec Ideal S1x16384 .f32) (Q : FVec Ideal S32x1 .f32) : FVec Ideal S16384x32 .f32 :=
  mulf (broadcastInDim S16384x32 ![0, 1] bcast_S16384x1_S16384x32_0_1 (broadcastInDim S16384x1 ![0] bcast_S16384_S16384x1_0 (shapeCast _ P shapeCasts_S1x16384_S16384)))
    (broadcastInDim S16384x32 ![0, 1] bcast_S1x32_S16384x32_0_1 (broadcastInDim S1x32 ![1] bcast_S32_S1x32_1 (shapeCast _ Q shapeCasts_S32x1_S32)))

/-- Sixty-four columns of zeros. -/
def zeros64 : FVec Ideal S16384x64 .f32 := broadcastInDim S16384x64 ![] bcast_S_S16384x64 (constant S_ .f32 0x00000000#32)

/-- Thirty-two columns of zeros. -/
def zeros32 : FVec Ideal S16384x32 .f32 := broadcastInDim S16384x32 ![] bcast_S_S16384x32 (constant S_ .f32 0x00000000#32)

/-- Two parts of thirty-two columns side by side, and zeros after them. -/
def parts (A B : FVec Ideal S16384x32 .f32) : FVec Ideal S16384x128 .f32 :=
  concatenate S16384x128 1 [⟨S16384x32, A⟩, ⟨S16384x32, B⟩, ⟨S16384x64, zeros64⟩] concatenates_S16384x32_S16384x32_S16384x64_S16384x128_d1

/-- The first result. -/
def wholeC (P : FVec Ideal S1x16384 .f32) (Q : FVec Ideal S32x1 .f32) : FVec Ideal S16384x128 .f32 :=
  parts (Host.cos (angles P Q)) (Host.cos (angles P Q))

/-- The second result. -/
def wholeS (P : FVec Ideal S1x16384 .f32) (Q : FVec Ideal S32x1 .f32) : FVec Ideal S16384x128 .f32 :=
  parts zeros32 (Host.sin (angles P Q))

/-- The third result. -/
def wholeN (P : FVec Ideal S1x16384 .f32) (Q : FVec Ideal S32x1 .f32) : FVec Ideal S16384x128 .f32 :=
  parts (Host.negf (Host.sin (angles P Q))) zeros32

/-- The fourth result. -/
def wholeCt (P : FVec Ideal S1x16384 .f32) (Q : FVec Ideal S32x1 .f32) : FVec Ideal S32x16384 .f32 :=
  transpose S32x16384 [1, 0] (Host.cos (angles P Q)) transposes_S16384x32_S32x16384_1_0

/-- The fifth result. -/
def wholeSt (P : FVec Ideal S1x16384 .f32) (Q : FVec Ideal S32x1 .f32) : FVec Ideal S32x16384 .f32 :=
  transpose S32x16384 [1, 0] (Host.sin (angles P Q)) transposes_S16384x32_S32x16384_1_0

/-- The positions as a plain vector, read at one index. -/
theorem pos_at (P : FVec Ideal S1x16384 .f32) (r : Fin 16384) : shapeCast S16384 P shapeCasts_S1x16384_S16384 (ix1 r) = P (ix2 0 r) := by
  pointwise []

/-- The frequencies as a plain vector, read at one index. -/
theorem freq_at (Q : FVec Ideal S32x1 .f32) (k : Fin 32) : shapeCast S32 Q shapeCasts_S32x1_S32 (ix1 k) = Q (ix2 k 0) := by
  pointwise []

/-- The angles, read at one index. -/
theorem angles_at (P Q) (r : Fin 16384) (k : Fin 32) : angles P Q (ix2 r k) = angle P Q k r := by
  pointwise [angles, angle, pos_at, freq_at]

/-- Parts side by side, read at one index. -/
theorem parts_at (A B) (r : Fin 16384) (j : Fin 128) :
    parts A B (ix2 r j) = if h : j.val < 32 then A (ix2 r ⟨j.val, h⟩) else if h : j.val - 32 < 32 then B (ix2 r ⟨j.val - 32, h⟩) else 0 := by
  pointwise [parts, zeros64]

/-- The zeros, read at one index. -/
theorem zeros32_at (r : Fin 16384) (k : Fin 32) : zeros32 (ix2 r k) = 0 := by
  pointwise [zeros32]

/-- The cosines, read at one index. -/
theorem cos_at (P Q) (r : Fin 16384) (k : Fin 32) : Host.cos (angles P Q) (ix2 r k) = Ideal.cos (angle P Q k r) := by
  pointwise [angles_at]

/-- The sines, read at one index. -/
theorem sin_at (P Q) (r : Fin 16384) (k : Fin 32) : Host.sin (angles P Q) (ix2 r k) = Ideal.sin (angle P Q k r) := by
  pointwise [angles_at]

/-- The negated sines, read at one index. -/
theorem neg_at (P Q) (r : Fin 16384) (k : Fin 32) : Host.negf (Host.sin (angles P Q)) (ix2 r k) = -Ideal.sin (angle P Q k r) := by
  pointwise [angles_at]

/-- The first result at one index is the kernel's. -/
theorem wholeC_at (P Q) (r : Fin 16384) (j : Fin 128) : wholeC P Q (ix2 r j) = cosAt P Q r j := by
  unfold wholeC
  simp only [parts_at, cos_at]
  rfl

/-- The second result at one index is the kernel's. -/
theorem wholeS_at (P Q) (r : Fin 16384) (j : Fin 128) : wholeS P Q (ix2 r j) = sinAt P Q r j := by
  unfold wholeS
  simp only [parts_at, sin_at, zeros32_at]
  rfl

/-- The third result at one index is the kernel's. -/
theorem wholeN_at (P Q) (r : Fin 16384) (j : Fin 128) : wholeN P Q (ix2 r j) = negAt P Q r j := by
  unfold wholeN
  simp only [parts_at, neg_at, zeros32_at]
  rfl

/-- The fourth result at one index is the kernel's. -/
theorem wholeCt_at (P Q) (k : Fin 32) (r : Fin 16384) : wholeCt P Q (ix2 k r) = Ideal.cos (angle P Q k r) := by
  have h : wholeCt P Q (ix2 k r) = Host.cos (angles P Q) (ix2 r k) := by
    pointwise [wholeCt]
  rw [h, cos_at]

/-- The fifth result at one index is the kernel's. -/
theorem wholeSt_at (P Q) (k : Fin 32) (r : Fin 16384) : wholeSt P Q (ix2 k r) = Ideal.sin (angle P Q k r) := by
  have h : wholeSt P Q (ix2 k r) = Host.sin (angles P Q) (ix2 r k) := by
    pointwise [wholeSt]
  rw [h, sin_at]

end Cert.TabRefIdeal.Value

end
-- ==== Proof.lean ====
/-
  The claims about the calls: that each kernel and its two ideal programs run and leave their arguments alone, and that each kernel's
  results are its reference's, as extended reals (the attention's when the queries and the keys are finite, those of the attention
  layer's input when the rotary tables are laid out as they should be).
-/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnIdeal.Value
public import proofs.«01_k».proof.Proof.Gen.Pre_finite_qk
public import proofs.«01_k».proof.Proof.Gen.Pre_rope_tables
public import proofs.«01_k».proof.Proof.Attn.Ref
public import proofs.«01_k».proof.Proof.Attn.Finite
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Proj.Value
public import proofs.«01_k».proof.Proof.Proj.Ref
public import proofs.«01_k».proof.Proof.Gen.MOut
public import proofs.«01_k».proof.Proof.Gen.MOut.Skeleton
public import proofs.«01_k».proof.Proof.Gen.MOut.Launch
public import proofs.«01_k».proof.Proof.Gen.MOut.Points
public import proofs.«01_k».proof.Proof.Gen.MOut.Frame
public import proofs.«01_k».proof.Proof.Gen.MOutIdeal
public import proofs.«01_k».proof.Proof.Gen.MOutIdeal.Skeleton
public import proofs.«01_k».proof.Proof.Gen.MOutIdeal.Launch
public import proofs.«01_k».proof.Proof.Gen.MOutIdeal.Points
public import proofs.«01_k».proof.Proof.Gen.MOutIdeal.Frame
public import proofs.«01_k».proof.Proof.Gen.MOutIdeal.Value
public import proofs.«01_k».proof.Proof.Gen.MOutRefIdeal
public import proofs.«01_k».proof.Proof.Gen.MOutRefIdeal.Run
public import proofs.«01_k».proof.Proof.MOut.Value
public import proofs.«01_k».proof.Proof.MOut.Ref
public import proofs.«01_k».proof.Proof.Gen.SOut
public import proofs.«01_k».proof.Proof.Gen.SOut.Skeleton
public import proofs.«01_k».proof.Proof.Gen.SOut.Launch
public import proofs.«01_k».proof.Proof.Gen.SOut.Points
public import proofs.«01_k».proof.Proof.Gen.SOut.Frame
public import proofs.«01_k».proof.Proof.Gen.SOutIdeal
public import proofs.«01_k».proof.Proof.Gen.SOutIdeal.Skeleton
public import proofs.«01_k».proof.Proof.Gen.SOutIdeal.Launch
public import proofs.«01_k».proof.Proof.Gen.SOutIdeal.Points
public import proofs.«01_k».proof.Proof.Gen.SOutIdeal.Frame
public import proofs.«01_k».proof.Proof.Gen.SOutIdeal.Value
public import proofs.«01_k».proof.Proof.Gen.SOutRefIdeal
public import proofs.«01_k».proof.Proof.Gen.SOutRefIdeal.Run
public import proofs.«01_k».proof.Proof.SOut.Value
public import proofs.«01_k».proof.Proof.SOut.Ref
public import proofs.«01_k».proof.Proof.Gen.MIn
public import proofs.«01_k».proof.Proof.Gen.MIn.Skeleton
public import proofs.«01_k».proof.Proof.Gen.MIn.Launch
public import proofs.«01_k».proof.Proof.Gen.MIn.Points
public import proofs.«01_k».proof.Proof.Gen.MIn.Frame
public import proofs.«01_k».proof.Proof.Gen.MInIdeal
public import proofs.«01_k».proof.Proof.Gen.MInIdeal.Skeleton
public import proofs.«01_k».proof.Proof.Gen.MInIdeal.Launch
public import proofs.«01_k».proof.Proof.Gen.MInIdeal.Points
public import proofs.«01_k».proof.Proof.Gen.MInIdeal.Frame
public import proofs.«01_k».proof.Proof.Gen.MInIdeal.Value
public import proofs.«01_k».proof.Proof.Gen.MInRefIdeal
public import proofs.«01_k».proof.Proof.Gen.MInRefIdeal.Run
public import proofs.«01_k».proof.Proof.MIn.Tables
public import proofs.«01_k».proof.Proof.MIn.Ref
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Up.Ref
public import proofs.«01_k».proof.Proof.Gen.Dt
public import proofs.«01_k».proof.Proof.Gen.Dt.Skeleton
public import proofs.«01_k».proof.Proof.Gen.Dt.Launch
public import proofs.«01_k».proof.Proof.Gen.Dt.Points
public import proofs.«01_k».proof.Proof.Gen.Dt.Frame
public import proofs.«01_k».proof.Proof.Gen.DtIdeal
public import proofs.«01_k».proof.Proof.Gen.DtIdeal.Skeleton
public import proofs.«01_k».proof.Proof.Gen.DtIdeal.Launch
public import proofs.«01_k».proof.Proof.Gen.DtIdeal.Points
public import proofs.«01_k».proof.Proof.Gen.DtIdeal.Frame
public import proofs.«01_k».proof.Proof.Gen.DtIdeal.Value
public import proofs.«01_k».proof.Proof.Gen.DtRefIdeal
public import proofs.«01_k».proof.Proof.Gen.DtRefIdeal.Run
public import proofs.«01_k».proof.Proof.Dt.Ref
public import proofs.«01_k».proof.Proof.Conv.Ref
public import proofs.«01_k».proof.Proof.Gen.Tab
public import proofs.«01_k».proof.Proof.Gen.Tab.Skeleton
public import proofs.«01_k».proof.Proof.Gen.Tab.Launch
public import proofs.«01_k».proof.Proof.Gen.Tab.Points
public import proofs.«01_k».proof.Proof.Gen.Tab.Frame
public import proofs.«01_k».proof.Proof.Gen.TabIdeal
public import proofs.«01_k».proof.Proof.Gen.TabIdeal.Skeleton
public import proofs.«01_k».proof.Proof.Gen.TabIdeal.Launch
public import proofs.«01_k».proof.Proof.Gen.TabIdeal.Points
public import proofs.«01_k».proof.Proof.Gen.TabIdeal.Frame
public import proofs.«01_k».proof.Proof.Gen.TabIdeal.Value
public import proofs.«01_k».proof.Proof.Gen.TabRefIdeal
public import proofs.«01_k».proof.Proof.Gen.TabRefIdeal.Run
public import proofs.«01_k».proof.Proof.Tab.Ref
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.Scan
public import proofs.«01_k».proof.Proof.Gen.Scan.Skeleton
public import proofs.«01_k».proof.Proof.Gen.Scan.Launch
public import proofs.«01_k».proof.Proof.Gen.Scan.Points
public import proofs.«01_k».proof.Proof.Gen.Scan.Frame
public import proofs.«01_k».proof.Proof.Gen.ScanIdeal
public import proofs.«01_k».proof.Proof.Gen.ScanIdeal.Skeleton
public import proofs.«01_k».proof.Proof.Gen.ScanIdeal.Launch
public import proofs.«01_k».proof.Proof.Gen.ScanIdeal.Points
public import proofs.«01_k».proof.Proof.Gen.ScanIdeal.Frame
public import proofs.«01_k».proof.Proof.Gen.ScanIdeal.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel's result array is the reference's term of the kernel's arguments. -/
theorem attn_final (m : (ℓ : Loc Cert.AttnIdeal.nD Cert.AttnIdeal.τ Cert.AttnIdeal.sig) → Buf (Elt Ideal) ℓ)
    (hpre : Cert.Pre_AttnIdeal_finite_qk m) (c : Dev Cert.AttnIdeal.nD) :
    (Cert.AttnIdeal.Gen.dats m 0 c).arrAt 3 Cert.AttnIdeal.cfg0.N
      = Cert.AttnRefIdeal.Value.whole (m ((c : Thread Cert.AttnIdeal.nD Cert.AttnIdeal.τ).loc Cert.AttnIdeal.main_arg0))
          (m ((c : Thread Cert.AttnIdeal.nD Cert.AttnIdeal.τ).loc Cert.AttnIdeal.main_arg1))
          (m ((c : Thread Cert.AttnIdeal.nD Cert.AttnIdeal.τ).loc Cert.AttnIdeal.main_arg2)) := by
  have hq := Cert.Pre_finite_qk.query_real _ _ _ (hpre c).1
  have hk := Cert.Pre_finite_qk.key_real _ _ _ (hpre c).2
  have h0 : ∀ b h e q, m ((c : Thread Cert.AttnIdeal.nD Cert.AttnIdeal.τ).loc Cert.AttnIdeal.main_arg0) (ix4 b h e q) = (EReal.toReal (m ((c : Thread Cert.AttnIdeal.nD Cert.AttnIdeal.τ).loc Cert.AttnIdeal.main_arg0) (ix4 b h e q)) : EReal) := fun b h e q => hq _
  have h1 : ∀ b h k e, m ((c : Thread Cert.AttnIdeal.nD Cert.AttnIdeal.τ).loc Cert.AttnIdeal.main_arg1) (ix4 b h k e) = (EReal.toReal (m ((c : Thread Cert.AttnIdeal.nD Cert.AttnIdeal.τ).loc Cert.AttnIdeal.main_arg1) (ix4 b h k e)) : EReal) := fun b h k e => hk _
  exact Cert.AttnIdeal.Value.final m c _ (fun i => EReal.toReal (m ((c : Thread Cert.AttnIdeal.nD Cert.AttnIdeal.τ).loc Cert.AttnIdeal.main_arg0) i)) (fun i => EReal.toReal (m ((c : Thread Cert.AttnIdeal.nD Cert.AttnIdeal.τ).loc Cert.AttnIdeal.main_arg1) i)) _ h0 h1 (fun _ _ _ _ => rfl)
    fun b h q d e he μ => Cert.AttnRefIdeal.Value.ref_at _ _ _ _ _ h0 h1 b h q d e he μ

/-- The reference leaves its arguments alone. -/
theorem ref_quiescent : Cert.quiescent_AttnRefIdeal := by
  intro m g _
  exact (θ_run _ _ _).mono (fun r h => ⟨fun c => (h c).2, sem_eq_zero_of_no_sems rfl _⟩) (Cert.AttnRefIdeal.Value.run m g)

/-- The kernel and the reference end with the same result. -/
theorem attn_algebraic : Cert.algebraic_AttnIdeal_AttnRefIdeal_pre_finite_qk := by
  intro m g m' g' hpre hagree
  refine ⟨fun c => (Cert.AttnIdeal.Gen.dats m 0 c).arrAt 3 Cert.AttnIdeal.cfg0.N, Cert.AttnIdeal.Value.run_blocks m g, ?_⟩
  refine (θ_run _ _ _).mono (fun r h c => ⟨(h c).1.trans ?_, (h c).2⟩) (Cert.AttnRefIdeal.Value.run m' g')
  rw [Cert.AttnRefIdeal.Value.res_eq, (hagree c).1, (hagree c).2.1, (hagree c).2.2]
  exact (attn_final m hpre c).symm

/-- The projection's reference leaves its arguments alone. -/
theorem proj_ref_quiescent : Cert.quiescent_ProjRefIdeal := by
  intro m g _
  exact (θ_run _ _ _).mono (fun r h => ⟨fun c => (h c).2, sem_eq_zero_of_no_sems rfl _⟩) (Cert.ProjRefIdeal.Value.run m g)

/-- The projection kernel and its reference end with the same result. -/
theorem proj_algebraic : Cert.algebraic_ProjIdeal_ProjRefIdeal := by
  intro m g m' g' _ hagree
  refine ⟨fun c => (Cert.ProjIdeal.Gen.dats m 0 c).arrAt 2 Cert.ProjIdeal.cfg0.N, Cert.ProjIdeal.Value.run_blocks m g, ?_⟩
  refine (θ_run _ _ _).mono (fun r h c => ⟨(h c).1.trans ?_, (h c).2⟩) (Cert.ProjRefIdeal.Value.run m' g')
  rw [(hagree c).1, (hagree c).2]
  exact (Cert.ProjIdeal.Value.final m c (Cert.ProjRefIdeal.Value.whole _ _) fun r e => Cert.ProjRefIdeal.Value.whole_at _ _ r e).symm

/-- The reference for the attention layer's output leaves its arguments alone. -/
theorem mout_ref_quiescent : Cert.quiescent_MOutRefIdeal := by
  intro m g _
  exact (θ_run _ _ _).mono (fun r h => ⟨fun c => (h c).2, sem_eq_zero_of_no_sems rfl _⟩) (Cert.MOutRefIdeal.Value.run m g)

/-- The kernel for the attention layer's output and its reference end with the same result. -/
theorem mout_algebraic : Cert.algebraic_MOutIdeal_MOutRefIdeal := by
  intro m g m' g' _ hagree
  refine ⟨fun c => (Cert.MOutIdeal.Gen.dats m 0 c).arrAt 9 Cert.MOutIdeal.cfg0.N, Cert.MOutIdeal.Value.run_blocks m g, ?_⟩
  refine (θ_run _ _ _).mono (fun r h c => ⟨(h c).1.trans ?_, (h c).2⟩) (Cert.MOutRefIdeal.Value.run m' g')
  obtain ⟨a0, a1, a2, a3, a4, a5, a6, a7, a8⟩ := hagree c
  rw [Cert.MOutRefIdeal.Value.res_eq, a0, a1, a2, a3, a4, a5, a6, a7, a8]
  exact (Cert.MOutIdeal.Value.final m c (Cert.MOutRefIdeal.Value.whole _ _ _ _ _ _ _ _ _) fun r e => Cert.MOutRefIdeal.Value.whole_at _ _ _ _ _ _ _ _ _ r e).symm

/-- The reference for the state-space layer's output leaves its arguments alone. -/
theorem sout_ref_quiescent : Cert.quiescent_SOutRefIdeal := by
  intro m g _
  exact (θ_run _ _ _).mono (fun r h => ⟨fun c => (h c).2, sem_eq_zero_of_no_sems rfl _⟩) (Cert.SOutRefIdeal.Value.run m g)

/-- The kernel for the state-space layer's output and its reference end with the same result. -/
theorem sout_algebraic : Cert.algebraic_SOutIdeal_SOutRefIdeal := by
  intro m g m' g' _ hagree
  refine ⟨fun c => (Cert.SOutIdeal.Gen.dats m 0 c).arrAt 13 Cert.SOutIdeal.cfg0.N, Cert.SOutIdeal.Value.run_blocks m g, ?_⟩
  refine (θ_run _ _ _).mono (fun r h c => ⟨(h c).1.trans ?_, (h c).2⟩) (Cert.SOutRefIdeal.Value.run m' g')
  obtain ⟨a0, a1, a2, a3, a4, a5, a6, a7, a8, a9, a10, a11, a12⟩ := hagree c
  rw [Cert.SOutRefIdeal.Value.res_eq, a0, a1, a2, a3, a4, a5, a6, a7, a8, a9, a10, a11, a12]
  exact (Cert.SOutIdeal.Value.final m c (Cert.SOutRefIdeal.Value.whole _ _ _ _ _ _ _ _ _ _ _ _ _) fun r e => Cert.SOutRefIdeal.Value.whole_at _ _ _ _ _ _ _ _ _ _ _ _ _ r e).symm

/-- The reference for the attention layer's input leaves its arguments alone. -/
theorem min_ref_quiescent : Cert.quiescent_MInRefIdeal := by
  intro m g _
  exact (θ_run _ _ _).mono (fun r h => ⟨fun c => (h c).2.2.2.2, sem_eq_zero_of_no_sems rfl _⟩) (Cert.MInRefIdeal.Value.run m g)

/-- With rotary tables laid out as the condition says, the kernel's three products are the rotation of the key's two halves. -/
theorem min_rotated (m : (ℓ : Loc Cert.MInIdeal.nD Cert.MInIdeal.τ Cert.MInIdeal.sig) → Buf (Elt Ideal) ℓ)
    (hpre : Cert.Pre_MInIdeal_rope_tables m) (c : Dev Cert.MInIdeal.nD) :
    (Cert.MInIdeal.Gen.dats m 0 c).arrAt 10 Cert.MInIdeal.cfg0.N
      = Cert.MInRefIdeal.Value.wholeR (m ((c : Thread Cert.MInIdeal.nD Cert.MInIdeal.τ).loc Cert.MInIdeal.main_arg0))
          (m ((c : Thread Cert.MInIdeal.nD Cert.MInIdeal.τ).loc Cert.MInIdeal.main_arg1))
          (m ((c : Thread Cert.MInIdeal.nD Cert.MInIdeal.τ).loc Cert.MInIdeal.main_arg5))
          (m ((c : Thread Cert.MInIdeal.nD Cert.MInIdeal.τ).loc Cert.MInIdeal.main_arg6)) := by
  obtain ⟨h0, h1, h2, h3, h4, h5⟩ := hpre c
  exact Cert.MInIdeal.Value.final10 m c _ fun r j => Cert.MInRefIdeal.Value.wholeR_eq _ _ _ _ _ r (Cert.Pre_rope_tables.cos_again _ _ _ _ _ _ _ _ h0 r)
    (Cert.Pre_rope_tables.cos_zero _ _ _ _ _ _ _ _ h1 r) (Cert.Pre_rope_tables.sin_zero _ _ _ _ _ _ _ _ h2 r)
    (Cert.Pre_rope_tables.sin_end _ _ _ _ _ _ _ _ h3 r) (Cert.Pre_rope_tables.sin_neg _ _ _ _ _ _ _ _ h4 r)
    (Cert.Pre_rope_tables.neg_end _ _ _ _ _ _ _ _ h5 r) j

/-- The kernel for the attention layer's input and its reference end with the same four results. -/
theorem min_algebraic : Cert.algebraic_MInIdeal_MInRefIdeal_pre_rope_tables := by
  intro m g m' g' hpre hagree
  refine ⟨_, _, _, _, Cert.MInIdeal.Value.run_blocks m g, ?_⟩
  refine (θ_run _ _ _).mono (fun r h c => ?_) (Cert.MInRefIdeal.Value.run m' g')
  obtain ⟨a0, a1, a2, a3, a4, a5, a6, a7⟩ := hagree c
  obtain ⟨r0, r1, r2, r3, kept⟩ := h c
  rw [a0, a1, a3] at r0
  rw [a0, a1, a4] at r1
  rw [a0, a1, a5, a6] at r2
  rw [a0, a2] at r3
  exact ⟨r0.trans (Cert.MInIdeal.Value.final8 m c (Cert.MInRefIdeal.Value.wholeQ _ _ _) fun e r => Cert.MInRefIdeal.Value.wholeQ_at _ _ _ e r).symm,
    r1.trans (Cert.MInIdeal.Value.final9 m c (Cert.MInRefIdeal.Value.wholeKV _ _ _) fun r e => Cert.MInRefIdeal.Value.wholeKV_at _ _ _ r e).symm,
    r2.trans (min_rotated m hpre c).symm,
    r3.trans (Cert.MInIdeal.Value.final11 m c (Cert.MInRefIdeal.Value.wholeG _ _) fun r e => Cert.MInRefIdeal.Value.wholeG_at _ _ r e).symm, kept⟩

/-- Every run of the up-projections' reference leaves the arguments and the semaphores. -/
theorem up_ref_quiescent : Cert.quiescent_UpRefIdeal := by
  intro m g _
  exact (θ_run _ _ _).mono (fun r h => ⟨fun c => (h c).2.2.2, sem_eq_zero_of_no_sems rfl _⟩) (Cert.UpRefIdeal.Value.run m g)

/-- The up-projections and their reference have the same queries, keys and values. -/
theorem up_algebraic : Cert.algebraic_UpIdeal_UpRefIdeal := by
  intro m g m' g' _ hagree
  refine ⟨_, _, _, Cert.UpIdeal.Value.run_blocks m g, ?_⟩
  refine (θ_run _ _ _).mono (fun r h c => ?_) (Cert.UpRefIdeal.Value.run m' g')
  obtain ⟨a0, a1, a2, a3, a4, a5, a6⟩ := hagree c
  obtain ⟨r0, r1, r2, kept⟩ := h c
  unfold Cert.UpRefIdeal.Value.res_main_v39 at r0
  rw [a0, a3, a4, a5] at r0
  rw [a1, a2, a6] at r1
  rw [a1, a6] at r2
  exact ⟨r0.trans (Cert.UpIdeal.Value.final7 m c (Cert.UpRefIdeal.Value.wholeQ _ _ _ _) fun b h d t => Cert.UpRefIdeal.Value.wholeQ_at _ _ _ _ b h d t).symm,
    r1.trans (Cert.UpIdeal.Value.final8 m c (Cert.UpRefIdeal.Value.wholeK _ _ _) fun b h t n => Cert.UpRefIdeal.Value.wholeK_at _ _ _ b h t n).symm,
    r2.trans (Cert.UpIdeal.Value.final9 m c (Cert.UpRefIdeal.Value.wholeV _ _) fun b h n t => Cert.UpRefIdeal.Value.wholeV_at _ _ b h n t).symm, kept⟩

/-- The reference for the step sizes leaves its arguments alone. -/
theorem dt_ref_quiescent : Cert.quiescent_DtRefIdeal := by
  intro m g _
  exact (θ_run _ _ _).mono (fun r h => ⟨fun c => (h c).2, sem_eq_zero_of_no_sems rfl _⟩) (Cert.DtRefIdeal.Value.run m g)

/-- The kernel for the step sizes and its reference end with the same result. -/
theorem dt_algebraic : Cert.algebraic_DtIdeal_DtRefIdeal := by
  intro m g m' g' _ hagree
  refine ⟨fun c => (Cert.DtIdeal.Gen.dats m 0 c).arrAt 3 Cert.DtIdeal.cfg0.N, Cert.DtIdeal.Value.run_blocks m g, ?_⟩
  refine (θ_run _ _ _).mono (fun r h c => ⟨(h c).1.trans ?_, (h c).2⟩) (Cert.DtRefIdeal.Value.run m' g')
  obtain ⟨a0, a1, a2⟩ := hagree c
  rw [a0, a1, a2]
  exact (Cert.DtIdeal.Value.final m c (Cert.DtRefIdeal.Value.whole _ _ _) fun r e => Cert.DtRefIdeal.Value.whole_at _ _ _ r e).symm

/-- The reference for the convolution leaves its arguments alone. -/
theorem conv_ref_quiescent : Cert.quiescent_ConvRefIdeal := by
  intro m g _
  exact (θ_run _ _ _).mono (fun r h => ⟨fun c => (h c).2, sem_eq_zero_of_no_sems rfl _⟩) (Cert.ConvRefIdeal.Value.run m g)

/-- The convolution's kernel and its reference end with the same result. -/
theorem conv_algebraic : Cert.algebraic_ConvIdeal_ConvRefIdeal := by
  intro m g m' g' _ hagree
  refine ⟨fun c => (Cert.ConvIdeal.Gen.dats m 0 c).arrAt 5 Cert.ConvIdeal.cfg0.N, Cert.ConvIdeal.Value.run_blocks m g, ?_⟩
  refine (θ_run _ _ _).mono (fun r h c => ⟨(h c).1.trans ?_, (h c).2⟩) (Cert.ConvRefIdeal.Value.run m' g')
  obtain ⟨a0, a1, a2⟩ := hagree c
  unfold Cert.ConvRefIdeal.Value.res_main_v60
  rw [a0, a1, a2]
  exact (Cert.ConvIdeal.Value.final m c (Cert.ConvRefIdeal.Value.whole _ _ _) fun r j => Cert.ConvRefIdeal.Value.whole_at _ _ _ r j).symm

/-- The reference for the rotary tables leaves its arguments alone. -/
theorem tab_ref_quiescent : Cert.quiescent_TabRefIdeal := by
  intro m g _
  exact (θ_run _ _ _).mono (fun r h => ⟨fun c => (h c).2.2.2.2.2, sem_eq_zero_of_no_sems rfl _⟩) (Cert.TabRefIdeal.Value.run m g)

/-- The kernel for the rotary tables and its reference end with the same five results. -/
theorem tab_algebraic : Cert.algebraic_TabIdeal_TabRefIdeal := by
  intro m g m' g' _ hagree
  refine ⟨_, _, _, _, _, Cert.TabIdeal.Value.run_blocks m g, ?_⟩
  refine (θ_run _ _ _).mono (fun r h c => ?_) (Cert.TabRefIdeal.Value.run m' g')
  obtain ⟨a0, a1⟩ := hagree c
  obtain ⟨r0, r1, r2, r3, r4, kept⟩ := h c
  rw [a0, a1] at r0 r1 r2 r3 r4
  exact ⟨r0.trans (Cert.TabIdeal.Value.final2 m c (Cert.TabRefIdeal.Value.wholeC _ _) fun r j => Cert.TabRefIdeal.Value.wholeC_at _ _ r j).symm,
    r1.trans (Cert.TabIdeal.Value.final3 m c (Cert.TabRefIdeal.Value.wholeS _ _) fun r j => Cert.TabRefIdeal.Value.wholeS_at _ _ r j).symm,
    r2.trans (Cert.TabIdeal.Value.final4 m c (Cert.TabRefIdeal.Value.wholeN _ _) fun r j => Cert.TabRefIdeal.Value.wholeN_at _ _ r j).symm,
    r3.trans (Cert.TabIdeal.Value.final5 m c (Cert.TabRefIdeal.Value.wholeCt _ _) fun k r => Cert.TabRefIdeal.Value.wholeCt_at _ _ k r).symm,
    r4.trans (Cert.TabIdeal.Value.final6 m c (Cert.TabRefIdeal.Value.wholeSt _ _) fun k r => Cert.TabRefIdeal.Value.wholeSt_at _ _ k r).symm, kept⟩

/-- The whole claim. -/
theorem claim : Cert.Claim := ⟨Cert.Attn.Gen.facts, Cert.AttnIdeal.Gen.facts, Cert.AttnRefIdeal.Gen.facts,
  Cert.Proj.Gen.facts, Cert.ProjIdeal.Gen.facts, Cert.ProjRefIdeal.Gen.facts,
  Cert.MOut.Gen.facts, Cert.MOutIdeal.Gen.facts, Cert.MOutRefIdeal.Gen.facts,
  Cert.SOut.Gen.facts, Cert.SOutIdeal.Gen.facts, Cert.SOutRefIdeal.Gen.facts,
  Cert.MIn.Gen.facts, Cert.MInIdeal.Gen.facts, Cert.MInRefIdeal.Gen.facts,
  Cert.Up.Gen.facts, Cert.UpIdeal.Gen.facts, Cert.UpRefIdeal.Gen.facts,
  Cert.Dt.Gen.facts, Cert.DtIdeal.Gen.facts, Cert.DtRefIdeal.Gen.facts,
  Cert.Tab.Gen.facts, Cert.TabIdeal.Gen.facts, Cert.TabRefIdeal.Gen.facts,
  Cert.Conv.Gen.facts, Cert.ConvIdeal.Gen.facts, Cert.ConvRefIdeal.Gen.facts,
  Cert.Scan.Gen.facts, Cert.ScanIdeal.Gen.facts, Cert.Pre_finite_qk.Gen.facts, Cert.Pre_rope_tables.Gen.facts,
  fun m ρ _ => Cert.Attn.Gen.frame m ρ,
  fun m ρ _ => Cert.AttnIdeal.Gen.frame m ρ,
  fun m ρ _ => Cert.AttnIdeal.Gen.frame m ρ,
  ref_quiescent,
  fun m ρ _ => ref_quiescent m ρ trivial,
  fun m ρ _ => Cert.Proj.Gen.frame m ρ, fun m ρ _ => Cert.ProjIdeal.Gen.frame m ρ, proj_ref_quiescent,
  fun m ρ _ => Cert.MOut.Gen.frame m ρ, fun m ρ _ => Cert.MOutIdeal.Gen.frame m ρ, mout_ref_quiescent,
  fun m ρ _ => Cert.SOut.Gen.frame m ρ, fun m ρ _ => Cert.SOutIdeal.Gen.frame m ρ, sout_ref_quiescent,
  fun m ρ _ => Cert.MIn.Gen.frame m ρ, fun m ρ _ => Cert.MInIdeal.Gen.frame m ρ, fun m ρ _ => Cert.MInIdeal.Gen.frame m ρ,
  min_ref_quiescent, fun m ρ _ => min_ref_quiescent m ρ trivial,
  fun m ρ _ => Cert.Up.Gen.frame m ρ, fun m ρ _ => Cert.UpIdeal.Gen.frame m ρ, up_ref_quiescent,
  fun m ρ _ => Cert.Dt.Gen.frame m ρ, fun m ρ _ => Cert.DtIdeal.Gen.frame m ρ, dt_ref_quiescent,
  fun m ρ _ => Cert.Tab.Gen.frame m ρ, fun m ρ _ => Cert.TabIdeal.Gen.frame m ρ, tab_ref_quiescent,
  fun m ρ _ => Cert.Conv.Gen.frame m ρ, fun m ρ _ => Cert.ConvIdeal.Gen.frame m ρ, conv_ref_quiescent,
  fun m ρ _ => Cert.Scan.Gen.frame m ρ, fun m ρ _ => Cert.ScanIdeal.Gen.frame m ρ,
  trivial, attn_algebraic,
  trivial, proj_algebraic,
  trivial, mout_algebraic,
  trivial, sout_algebraic,
  trivial, min_algebraic,
  trivial, up_algebraic,
  trivial, dt_algebraic,
  trivial, tab_algebraic,
  trivial, conv_algebraic,
  trivial⟩

end Cert.Proof

end
